-- ==== Defs.lean ====
def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_logits [hPre_finite_logits : Cert.Pre_finite_logits.Facts] (m : (ℓ : Loc Cert.CtxIdeal.nD Cert.CtxIdeal.τ Cert.CtxIdeal.sig) → Buf (Elt Ideal) ℓ) : Prop :=
  ∀ c : Dev Cert.CtxIdeal.nD,
    (Cert.Pre_finite_logits.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2))) = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_finite_logits [hPre_finite_logits : Cert.Pre_finite_logits.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_finite_logits.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Moe [hPre_tables_in_range : Cert.Pre_tables_in_range.Facts] (m : (ℓ : Loc Cert.Moe.nD Cert.Moe.τ Cert.Moe.sig) → Buf (Elt Bits) ℓ) : Prop :=
  ∀ c : Dev Cert.Moe.nD,
    (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))) = (fun _ => 1#1)

def Pre_MoeIdeal [hPre_tables_in_range : Cert.Pre_tables_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_tables_in_range [hPre_tables_in_range : Cert.Pre_tables_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_tables_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Side (m : (ℓ : Loc Cert.Side.nD Cert.Side.τ Cert.Side.sig) → Buf (Elt Bits) ℓ) : Prop :=
  True

def Pre_SideIdeal (m : (ℓ : Loc Cert.SideIdeal.nD Cert.SideIdeal.τ Cert.SideIdeal.sig) → Buf (Elt Ideal) ℓ) : Prop :=
  True

def Pre_SideRefIdeal (m : (ℓ : Loc Cert.SideRefIdeal.nD Cert.SideRefIdeal.τ Cert.SideRefIdeal.sig) → Buf (Elt Ideal) ℓ) : Prop :=
  True

def Pre_MixRoute (m : (ℓ : Loc Cert.MixRoute.nD Cert.MixRoute.τ Cert.MixRoute.sig) → Buf (Elt Bits) ℓ) : Prop :=
  True

def Pre_MixRouteIdeal (m : (ℓ : Loc Cert.MixRouteIdeal.nD Cert.MixRouteIdeal.τ Cert.MixRouteIdeal.sig) → Buf (Elt Ideal) ℓ) : Prop :=
  True

def Pre_MixRouteRefIdeal (m : (ℓ : Loc Cert.MixRouteRefIdeal.nD Cert.MixRouteRefIdeal.τ Cert.MixRouteRefIdeal.sig) → Buf (Elt Ideal) ℓ) : Prop :=
  True

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ r.2.sem = fun _ => 0)

def quiescent_CtxIdeal_pre_finite_logits [hCtxIdeal : Cert.CtxIdeal.Facts] [hPre_finite_logits : Cert.Pre_finite_logits.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_logits m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2))
      ∧ r.2.sem = fun _ => 0)

def quiescent_CtxRefIdeal_pre_finite_logits [hCtxRefIdeal : Cert.CtxRefIdeal.Facts] [hPre_finite_logits : Cert.Pre_finite_logits.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_finite_logits m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Moe [hMoe : Cert.Moe.Facts] [hPre_tables_in_range : Cert.Pre_tables_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_tables_in_range : Cert.Pre_tables_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_tables_in_range [hMoeRefIdeal : Cert.MoeRefIdeal.Facts] [hPre_tables_in_range : Cert.Pre_tables_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_tables_in_range m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_Side [hSide : Cert.Side.Facts] : Prop :=
  ∀ (m : (ℓ : Loc Cert.Side.nD Cert.Side.τ Cert.Side.sig) → Buf (Elt Bits) ℓ) (g : Dev Cert.Side.nD → PrngReg), Pre_Side m →
    θ_run (Cert.Side.defs (F := Bits)) (onTc (τ := Cert.Side.τ) (Cert.Side.main (F := Bits))) ⟨m, fun _ => 0, g⟩ (fun r => (∀ c : Dev Cert.Side.nD,
      r.2.mem ((c.tc : Thread Cert.Side.nD Cert.Side.τ).loc Cert.Side.main_arg0) = m ((c.tc : Thread Cert.Side.nD Cert.Side.τ).loc Cert.Side.main_arg0)
      ∧ r.2.mem ((c.tc : Thread Cert.Side.nD Cert.Side.τ).loc Cert.Side.main_arg1) = m ((c.tc : Thread Cert.Side.nD Cert.Side.τ).loc Cert.Side.main_arg1))
      ∧ r.2.sem = fun _ => 0)

def quiescent_SideIdeal [hSideIdeal : Cert.SideIdeal.Facts] : Prop :=
  ∀ (m : (ℓ : Loc Cert.SideIdeal.nD Cert.SideIdeal.τ Cert.SideIdeal.sig) → Buf (Elt Ideal) ℓ) (g : Dev Cert.SideIdeal.nD → PrngReg), Pre_SideIdeal m →
    θ_run (Cert.SideIdeal.defs (F := Ideal)) (onTc (τ := Cert.SideIdeal.τ) (Cert.SideIdeal.main (F := Ideal))) ⟨m, fun _ => 0, g⟩ (fun r => (∀ c : Dev Cert.SideIdeal.nD,
      r.2.mem ((c.tc : Thread Cert.SideIdeal.nD Cert.SideIdeal.τ).loc Cert.SideIdeal.main_arg0) = m ((c.tc : Thread Cert.SideIdeal.nD Cert.SideIdeal.τ).loc Cert.SideIdeal.main_arg0)
      ∧ r.2.mem ((c.tc : Thread Cert.SideIdeal.nD Cert.SideIdeal.τ).loc Cert.SideIdeal.main_arg1) = m ((c.tc : Thread Cert.SideIdeal.nD Cert.SideIdeal.τ).loc Cert.SideIdeal.main_arg1))
      ∧ r.2.sem = fun _ => 0)

def quiescent_SideRefIdeal [hSideRefIdeal : Cert.SideRefIdeal.Facts] : Prop :=
  ∀ (m : (ℓ : Loc Cert.SideRefIdeal.nD Cert.SideRefIdeal.τ Cert.SideRefIdeal.sig) → Buf (Elt Ideal) ℓ) (g : Dev Cert.SideRefIdeal.nD → PrngReg), Pre_SideRefIdeal m →
    θ_run (Cert.SideRefIdeal.defs (F := Ideal)) (onTc (τ := Cert.SideRefIdeal.τ) (Cert.SideRefIdeal.main (F := Ideal))) ⟨m, fun _ => 0, g⟩ (fun r => (∀ c : Dev Cert.SideRefIdeal.nD,
      r.2.mem ((c.tc : Thread Cert.SideRefIdeal.nD Cert.SideRefIdeal.τ).loc Cert.SideRefIdeal.main_arg0) = m ((c.tc : Thread Cert.SideRefIdeal.nD Cert.SideRefIdeal.τ).loc Cert.SideRefIdeal.main_arg0)
      ∧ r.2.mem ((c.tc : Thread Cert.SideRefIdeal.nD Cert.SideRefIdeal.τ).loc Cert.SideRefIdeal.main_arg1) = m ((c.tc : Thread Cert.SideRefIdeal.nD Cert.SideRefIdeal.τ).loc Cert.SideRefIdeal.main_arg1))
      ∧ r.2.sem = fun _ => 0)

def quiescent_MixRoute [hMixRoute : Cert.MixRoute.Facts] : Prop :=
  ∀ (m : (ℓ : Loc Cert.MixRoute.nD Cert.MixRoute.τ Cert.MixRoute.sig) → Buf (Elt Bits) ℓ) (g : Dev Cert.MixRoute.nD → PrngReg), Pre_MixRoute m →
    θ_run (Cert.MixRoute.defs (F := Bits)) (onTc (τ := Cert.MixRoute.τ) (Cert.MixRoute.main (F := Bits))) ⟨m, fun _ => 0, g⟩ (fun r => (∀ c : Dev Cert.MixRoute.nD,
      r.2.mem ((c.tc : Thread Cert.MixRoute.nD Cert.MixRoute.τ).loc Cert.MixRoute.main_arg0) = m ((c.tc : Thread Cert.MixRoute.nD Cert.MixRoute.τ).loc Cert.MixRoute.main_arg0)
      ∧ r.2.mem ((c.tc : Thread Cert.MixRoute.nD Cert.MixRoute.τ).loc Cert.MixRoute.main_arg1) = m ((c.tc : Thread Cert.MixRoute.nD Cert.MixRoute.τ).loc Cert.MixRoute.main_arg1)
      ∧ r.2.mem ((c.tc : Thread Cert.MixRoute.nD Cert.MixRoute.τ).loc Cert.MixRoute.main_arg2) = m ((c.tc : Thread Cert.MixRoute.nD Cert.MixRoute.τ).loc Cert.MixRoute.main_arg2)
      ∧ r.2.mem ((c.tc : Thread Cert.MixRoute.nD Cert.MixRoute.τ).loc Cert.MixRoute.main_arg3) = m ((c.tc : Thread Cert.MixRoute.nD Cert.MixRoute.τ).loc Cert.MixRoute.main_arg3)
      ∧ r.2.mem ((c.tc : Thread Cert.MixRoute.nD Cert.MixRoute.τ).loc Cert.MixRoute.main_arg4) = m ((c.tc : Thread Cert.MixRoute.nD Cert.MixRoute.τ).loc Cert.MixRoute.main_arg4)
      ∧ r.2.mem ((c.tc : Thread Cert.MixRoute.nD Cert.MixRoute.τ).loc Cert.MixRoute.main_arg5) = m ((c.tc : Thread Cert.MixRoute.nD Cert.MixRoute.τ).loc Cert.MixRoute.main_arg5)
      ∧ r.2.mem ((c.tc : Thread Cert.MixRoute.nD Cert.MixRoute.τ).loc Cert.MixRoute.main_arg6) = m ((c.tc : Thread Cert.MixRoute.nD Cert.MixRoute.τ).loc Cert.MixRoute.main_arg6)
      ∧ r.2.mem ((c.tc : Thread Cert.MixRoute.nD Cert.MixRoute.τ).loc Cert.MixRoute.main_arg7) = m ((c.tc : Thread Cert.MixRoute.nD Cert.MixRoute.τ).loc Cert.MixRoute.main_arg7)
      ∧ r.2.mem ((c.tc : Thread Cert.MixRoute.nD Cert.MixRoute.τ).loc Cert.MixRoute.main_arg8) = m ((c.tc : Thread Cert.MixRoute.nD Cert.MixRoute.τ).loc Cert.MixRoute.main_arg8)
      ∧ r.2.mem ((c.tc : Thread Cert.MixRoute.nD Cert.MixRoute.τ).loc Cert.MixRoute.main_arg9) = m ((c.tc : Thread Cert.MixRoute.nD Cert.MixRoute.τ).loc Cert.MixRoute.main_arg9)
      ∧ r.2.mem ((c.tc : Thread Cert.MixRoute.nD Cert.MixRoute.τ).loc Cert.MixRoute.main_arg10) = m ((c.tc : Thread Cert.MixRoute.nD Cert.MixRoute.τ).loc Cert.MixRoute.main_arg10)
      ∧ r.2.mem ((c.tc : Thread Cert.MixRoute.nD Cert.MixRoute.τ).loc Cert.MixRoute.main_arg11) = m ((c.tc : Thread Cert.MixRoute.nD Cert.MixRoute.τ).loc Cert.MixRoute.main_arg11))
      ∧ r.2.sem = fun _ => 0)

def quiescent_MixRouteIdeal [hMixRouteIdeal : Cert.MixRouteIdeal.Facts] : Prop :=
  ∀ (m : (ℓ : Loc Cert.MixRouteIdeal.nD Cert.MixRouteIdeal.τ Cert.MixRouteIdeal.sig) → Buf (Elt Ideal) ℓ) (g : Dev Cert.MixRouteIdeal.nD → PrngReg), Pre_MixRouteIdeal m →
    θ_run (Cert.MixRouteIdeal.defs (F := Ideal)) (onTc (τ := Cert.MixRouteIdeal.τ) (Cert.MixRouteIdeal.main (F := Ideal))) ⟨m, fun _ => 0, g⟩ (fun r => (∀ c : Dev Cert.MixRouteIdeal.nD,
      r.2.mem ((c.tc : Thread Cert.MixRouteIdeal.nD Cert.MixRouteIdeal.τ).loc Cert.MixRouteIdeal.main_arg0) = m ((c.tc : Thread Cert.MixRouteIdeal.nD Cert.MixRouteIdeal.τ).loc Cert.MixRouteIdeal.main_arg0)
      ∧ r.2.mem ((c.tc : Thread Cert.MixRouteIdeal.nD Cert.MixRouteIdeal.τ).loc Cert.MixRouteIdeal.main_arg1) = m ((c.tc : Thread Cert.MixRouteIdeal.nD Cert.MixRouteIdeal.τ).loc Cert.MixRouteIdeal.main_arg1)
      ∧ r.2.mem ((c.tc : Thread Cert.MixRouteIdeal.nD Cert.MixRouteIdeal.τ).loc Cert.MixRouteIdeal.main_arg2) = m ((c.tc : Thread Cert.MixRouteIdeal.nD Cert.MixRouteIdeal.τ).loc Cert.MixRouteIdeal.main_arg2)
      ∧ r.2.mem ((c.tc : Thread Cert.MixRouteIdeal.nD Cert.MixRouteIdeal.τ).loc Cert.MixRouteIdeal.main_arg3) = m ((c.tc : Thread Cert.MixRouteIdeal.nD Cert.MixRouteIdeal.τ).loc Cert.MixRouteIdeal.main_arg3)
      ∧ r.2.mem ((c.tc : Thread Cert.MixRouteIdeal.nD Cert.MixRouteIdeal.τ).loc Cert.MixRouteIdeal.main_arg4) = m ((c.tc : Thread Cert.MixRouteIdeal.nD Cert.MixRouteIdeal.τ).loc Cert.MixRouteIdeal.main_arg4)
      ∧ r.2.mem ((c.tc : Thread Cert.MixRouteIdeal.nD Cert.MixRouteIdeal.τ).loc Cert.MixRouteIdeal.main_arg5) = m ((c.tc : Thread Cert.MixRouteIdeal.nD Cert.MixRouteIdeal.τ).loc Cert.MixRouteIdeal.main_arg5)
      ∧ r.2.mem ((c.tc : Thread Cert.MixRouteIdeal.nD Cert.MixRouteIdeal.τ).loc Cert.MixRouteIdeal.main_arg6) = m ((c.tc : Thread Cert.MixRouteIdeal.nD Cert.MixRouteIdeal.τ).loc Cert.MixRouteIdeal.main_arg6)
      ∧ r.2.mem ((c.tc : Thread Cert.MixRouteIdeal.nD Cert.MixRouteIdeal.τ).loc Cert.MixRouteIdeal.main_arg7) = m ((c.tc : Thread Cert.MixRouteIdeal.nD Cert.MixRouteIdeal.τ).loc Cert.MixRouteIdeal.main_arg7)
      ∧ r.2.mem ((c.tc : Thread Cert.MixRouteIdeal.nD Cert.MixRouteIdeal.τ).loc Cert.MixRouteIdeal.main_arg8) = m ((c.tc : Thread Cert.MixRouteIdeal.nD Cert.MixRouteIdeal.τ).loc Cert.MixRouteIdeal.main_arg8)
      ∧ r.2.mem ((c.tc : Thread Cert.MixRouteIdeal.nD Cert.MixRouteIdeal.τ).loc Cert.MixRouteIdeal.main_arg9) = m ((c.tc : Thread Cert.MixRouteIdeal.nD Cert.MixRouteIdeal.τ).loc Cert.MixRouteIdeal.main_arg9)
      ∧ r.2.mem ((c.tc : Thread Cert.MixRouteIdeal.nD Cert.MixRouteIdeal.τ).loc Cert.MixRouteIdeal.main_arg10) = m ((c.tc : Thread Cert.MixRouteIdeal.nD Cert.MixRouteIdeal.τ).loc Cert.MixRouteIdeal.main_arg10)
      ∧ r.2.mem ((c.tc : Thread Cert.MixRouteIdeal.nD Cert.MixRouteIdeal.τ).loc Cert.MixRouteIdeal.main_arg11) = m ((c.tc : Thread Cert.MixRouteIdeal.nD Cert.MixRouteIdeal.τ).loc Cert.MixRouteIdeal.main_arg11))
      ∧ r.2.sem = fun _ => 0)

def quiescent_MixRouteRefIdeal [hMixRouteRefIdeal : Cert.MixRouteRefIdeal.Facts] : Prop :=
  ∀ (m : (ℓ : Loc Cert.MixRouteRefIdeal.nD Cert.MixRouteRefIdeal.τ Cert.MixRouteRefIdeal.sig) → Buf (Elt Ideal) ℓ) (g : Dev Cert.MixRouteRefIdeal.nD → PrngReg), Pre_MixRouteRefIdeal m →
    θ_run (Cert.MixRouteRefIdeal.defs (F := Ideal)) (onTc (τ := Cert.MixRouteRefIdeal.τ) (Cert.MixRouteRefIdeal.main (F := Ideal))) ⟨m, fun _ => 0, g⟩ (fun r => (∀ c : Dev Cert.MixRouteRefIdeal.nD,
      r.2.mem ((c.tc : Thread Cert.MixRouteRefIdeal.nD Cert.MixRouteRefIdeal.τ).loc Cert.MixRouteRefIdeal.main_arg0) = m ((c.tc : Thread Cert.MixRouteRefIdeal.nD Cert.MixRouteRefIdeal.τ).loc Cert.MixRouteRefIdeal.main_arg0)
      ∧ r.2.mem ((c.tc : Thread Cert.MixRouteRefIdeal.nD Cert.MixRouteRefIdeal.τ).loc Cert.MixRouteRefIdeal.main_arg1) = m ((c.tc : Thread Cert.MixRouteRefIdeal.nD Cert.MixRouteRefIdeal.τ).loc Cert.MixRouteRefIdeal.main_arg1)
      ∧ r.2.mem ((c.tc : Thread Cert.MixRouteRefIdeal.nD Cert.MixRouteRefIdeal.τ).loc Cert.MixRouteRefIdeal.main_arg2) = m ((c.tc : Thread Cert.MixRouteRefIdeal.nD Cert.MixRouteRefIdeal.τ).loc Cert.MixRouteRefIdeal.main_arg2)
      ∧ r.2.mem ((c.tc : Thread Cert.MixRouteRefIdeal.nD Cert.MixRouteRefIdeal.τ).loc Cert.MixRouteRefIdeal.main_arg3) = m ((c.tc : Thread Cert.MixRouteRefIdeal.nD Cert.MixRouteRefIdeal.τ).loc Cert.MixRouteRefIdeal.main_arg3)
      ∧ r.2.mem ((c.tc : Thread Cert.MixRouteRefIdeal.nD Cert.MixRouteRefIdeal.τ).loc Cert.MixRouteRefIdeal.main_arg4) = m ((c.tc : Thread Cert.MixRouteRefIdeal.nD Cert.MixRouteRefIdeal.τ).loc Cert.MixRouteRefIdeal.main_arg4)
      ∧ r.2.mem ((c.tc : Thread Cert.MixRouteRefIdeal.nD Cert.MixRouteRefIdeal.τ).loc Cert.MixRouteRefIdeal.main_arg5) = m ((c.tc : Thread Cert.MixRouteRefIdeal.nD Cert.MixRouteRefIdeal.τ).loc Cert.MixRouteRefIdeal.main_arg5)
      ∧ r.2.mem ((c.tc : Thread Cert.MixRouteRefIdeal.nD Cert.MixRouteRefIdeal.τ).loc Cert.MixRouteRefIdeal.main_arg6) = m ((c.tc : Thread Cert.MixRouteRefIdeal.nD Cert.MixRouteRefIdeal.τ).loc Cert.MixRouteRefIdeal.main_arg6)
      ∧ r.2.mem ((c.tc : Thread Cert.MixRouteRefIdeal.nD Cert.MixRouteRefIdeal.τ).loc Cert.MixRouteRefIdeal.main_arg7) = m ((c.tc : Thread Cert.MixRouteRefIdeal.nD Cert.MixRouteRefIdeal.τ).loc Cert.MixRouteRefIdeal.main_arg7)
      ∧ r.2.mem ((c.tc : Thread Cert.MixRouteRefIdeal.nD Cert.MixRouteRefIdeal.τ).loc Cert.MixRouteRefIdeal.main_arg8) = m ((c.tc : Thread Cert.MixRouteRefIdeal.nD Cert.MixRouteRefIdeal.τ).loc Cert.MixRouteRefIdeal.main_arg8)
      ∧ r.2.mem ((c.tc : Thread Cert.MixRouteRefIdeal.nD Cert.MixRouteRefIdeal.τ).loc Cert.MixRouteRefIdeal.main_arg9) = m ((c.tc : Thread Cert.MixRouteRefIdeal.nD Cert.MixRouteRefIdeal.τ).loc Cert.MixRouteRefIdeal.main_arg9)
      ∧ r.2.mem ((c.tc : Thread Cert.MixRouteRefIdeal.nD Cert.MixRouteRefIdeal.τ).loc Cert.MixRouteRefIdeal.main_arg10) = m ((c.tc : Thread Cert.MixRouteRefIdeal.nD Cert.MixRouteRefIdeal.τ).loc Cert.MixRouteRefIdeal.main_arg10)
      ∧ r.2.mem ((c.tc : Thread Cert.MixRouteRefIdeal.nD Cert.MixRouteRefIdeal.τ).loc Cert.MixRouteRefIdeal.main_arg11) = m ((c.tc : Thread Cert.MixRouteRefIdeal.nD Cert.MixRouteRefIdeal.τ).loc Cert.MixRouteRefIdeal.main_arg11))
      ∧ r.2.sem = fun _ => 0)

def preserves_Ctx_CtxIdeal : Prop :=
  True

def algebraic_CtxIdeal_CtxRefIdeal_pre_finite_logits [hCtxIdeal : Cert.CtxIdeal.Facts] [hCtxRefIdeal : Cert.CtxRefIdeal.Facts] [hPre_finite_logits : Cert.Pre_finite_logits.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_finite_logits m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)) →
    ∃ (v0 : (c : Dev Cert.CtxIdeal.nD) → Buf (Elt Ideal) ((c.tc : Thread Cert.CtxIdeal.nD Cert.CtxIdeal.τ).loc Cert.CtxIdeal.main_v0)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v29) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Moe_MoeIdeal : Prop :=
  True

def algebraic_MoeIdeal_MoeRefIdeal_on_routed_rows [hMoeIdeal : Cert.MoeIdeal.Facts] [hMoeRefIdeal : Cert.MoeRefIdeal.Facts] [hPre_tables_in_range : Cert.Pre_tables_in_range.Facts] [hOn_routed_rows : Cert.On_routed_rows.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          (∀ i : (⟨2, ![24576, 1024]⟩ : Shape).Idx, (Cert.On_routed_rows.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) i = 1#1 → r.2.mem ((c.tc : Thread Cert.MoeIdeal.nD Cert.MoeIdeal.τ).loc Cert.MoeIdeal.main_v0) i = v0 c i)
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          (∀ i : (⟨2, ![24576, 1024]⟩ : Shape).Idx, (Cert.On_routed_rows.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) i = 1#1 → r.2.mem ((c.tc : Thread Cert.MoeRefIdeal.nD Cert.MoeRefIdeal.τ).loc Cert.MoeRefIdeal.main_v13) i = v0 c i)
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v30) = v0 c
          ∧ r.2.mem ((c.tc : Thread Cert.FfnRefIdeal.nD Cert.FfnRefIdeal.τ).loc Cert.FfnRefIdeal.main_v60) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v51) = v0 c
          ∧ r.2.mem ((c.tc : Thread Cert.MixRefIdeal.nD Cert.MixRefIdeal.τ).loc Cert.MixRefIdeal.main_v81) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def preserves_Side_SideIdeal : Prop :=
  True

def algebraic_SideIdeal_SideRefIdeal [hSideIdeal : Cert.SideIdeal.Facts] [hSideRefIdeal : Cert.SideRefIdeal.Facts] : Prop :=
  ∀ (m : (ℓ : Loc Cert.SideIdeal.nD Cert.SideIdeal.τ Cert.SideIdeal.sig) → Buf (Elt Ideal) ℓ) (g : Dev Cert.SideIdeal.nD → PrngReg)
    (m' : (ℓ : Loc Cert.SideRefIdeal.nD Cert.SideRefIdeal.τ Cert.SideRefIdeal.sig) → Buf (Elt Ideal) ℓ) (g' : Dev Cert.SideRefIdeal.nD → PrngReg), Pre_SideIdeal m →
    (∀ c : Dev Cert.SideIdeal.nD,
      m' ((c.tc : Thread Cert.SideRefIdeal.nD Cert.SideRefIdeal.τ).loc Cert.SideRefIdeal.main_arg0) = m ((c.tc : Thread Cert.SideIdeal.nD Cert.SideIdeal.τ).loc Cert.SideIdeal.main_arg0)
      ∧ m' ((c.tc : Thread Cert.SideRefIdeal.nD Cert.SideRefIdeal.τ).loc Cert.SideRefIdeal.main_arg1) = m ((c.tc : Thread Cert.SideIdeal.nD Cert.SideIdeal.τ).loc Cert.SideIdeal.main_arg1)) →
    ∃ (v0 : (c : Dev Cert.SideIdeal.nD) → Buf (Elt Ideal) ((c.tc : Thread Cert.SideIdeal.nD Cert.SideIdeal.τ).loc Cert.SideIdeal.main_v0_0)) (v1 : (c : Dev Cert.SideIdeal.nD) → Buf (Elt Ideal) ((c.tc : Thread Cert.SideIdeal.nD Cert.SideIdeal.τ).loc Cert.SideIdeal.main_v0_1)) (v2 : (c : Dev Cert.SideIdeal.nD) → Buf (Elt Ideal) ((c.tc : Thread Cert.SideIdeal.nD Cert.SideIdeal.τ).loc Cert.SideIdeal.main_v0_2)),
      θ_run (Cert.SideIdeal.defs (F := Ideal)) (onTc (τ := Cert.SideIdeal.τ) (Cert.SideIdeal.main (F := Ideal))) ⟨m, fun _ => 0, g⟩ (fun r => ∀ c : Dev Cert.SideIdeal.nD,
          r.2.mem ((c.tc : Thread Cert.SideIdeal.nD Cert.SideIdeal.τ).loc Cert.SideIdeal.main_v0_0) = v0 c
          ∧ r.2.mem ((c.tc : Thread Cert.SideIdeal.nD Cert.SideIdeal.τ).loc Cert.SideIdeal.main_v0_1) = v1 c
          ∧ r.2.mem ((c.tc : Thread Cert.SideIdeal.nD Cert.SideIdeal.τ).loc Cert.SideIdeal.main_v0_2) = v2 c
          ∧ r.2.mem ((c.tc : Thread Cert.SideIdeal.nD Cert.SideIdeal.τ).loc Cert.SideIdeal.main_arg0) = m ((c.tc : Thread Cert.SideIdeal.nD Cert.SideIdeal.τ).loc Cert.SideIdeal.main_arg0)
          ∧ r.2.mem ((c.tc : Thread Cert.SideIdeal.nD Cert.SideIdeal.τ).loc Cert.SideIdeal.main_arg1) = m ((c.tc : Thread Cert.SideIdeal.nD Cert.SideIdeal.τ).loc Cert.SideIdeal.main_arg1))
      ∧ θ_run (Cert.SideRefIdeal.defs (F := Ideal)) (onTc (τ := Cert.SideRefIdeal.τ) (Cert.SideRefIdeal.main (F := Ideal))) ⟨m', fun _ => 0, g'⟩ (fun r => ∀ c : Dev Cert.SideRefIdeal.nD,
          r.2.mem ((c.tc : Thread Cert.SideRefIdeal.nD Cert.SideRefIdeal.τ).loc Cert.SideRefIdeal.main_v2) = v0 c
          ∧ r.2.mem ((c.tc : Thread Cert.SideRefIdeal.nD Cert.SideRefIdeal.τ).loc Cert.SideRefIdeal.main_v4) = v1 c
          ∧ r.2.mem ((c.tc : Thread Cert.SideRefIdeal.nD Cert.SideRefIdeal.τ).loc Cert.SideRefIdeal.main_v6) = v2 c
          ∧ r.2.mem ((c.tc : Thread Cert.SideRefIdeal.nD Cert.SideRefIdeal.τ).loc Cert.SideRefIdeal.main_arg0) = m' ((c.tc : Thread Cert.SideRefIdeal.nD Cert.SideRefIdeal.τ).loc Cert.SideRefIdeal.main_arg0)
          ∧ r.2.mem ((c.tc : Thread Cert.SideRefIdeal.nD Cert.SideRefIdeal.τ).loc Cert.SideRefIdeal.main_arg1) = m' ((c.tc : Thread Cert.SideRefIdeal.nD Cert.SideRefIdeal.τ).loc Cert.SideRefIdeal.main_arg1))

def preserves_MixRoute_MixRouteIdeal : Prop :=
  True

def algebraic_MixRouteIdeal_MixRouteRefIdeal [hMixRouteIdeal : Cert.MixRouteIdeal.Facts] [hMixRouteRefIdeal : Cert.MixRouteRefIdeal.Facts] : Prop :=
  ∀ (m : (ℓ : Loc Cert.MixRouteIdeal.nD Cert.MixRouteIdeal.τ Cert.MixRouteIdeal.sig) → Buf (Elt Ideal) ℓ) (g : Dev Cert.MixRouteIdeal.nD → PrngReg)
    (m' : (ℓ : Loc Cert.MixRouteRefIdeal.nD Cert.MixRouteRefIdeal.τ Cert.MixRouteRefIdeal.sig) → Buf (Elt Ideal) ℓ) (g' : Dev Cert.MixRouteRefIdeal.nD → PrngReg), Pre_MixRouteIdeal m →
    (∀ c : Dev Cert.MixRouteIdeal.nD,
      m' ((c.tc : Thread Cert.MixRouteRefIdeal.nD Cert.MixRouteRefIdeal.τ).loc Cert.MixRouteRefIdeal.main_arg0) = m ((c.tc : Thread Cert.MixRouteIdeal.nD Cert.MixRouteIdeal.τ).loc Cert.MixRouteIdeal.main_arg0)
      ∧ m' ((c.tc : Thread Cert.MixRouteRefIdeal.nD Cert.MixRouteRefIdeal.τ).loc Cert.MixRouteRefIdeal.main_arg1) = m ((c.tc : Thread Cert.MixRouteIdeal.nD Cert.MixRouteIdeal.τ).loc Cert.MixRouteIdeal.main_arg1)
      ∧ m' ((c.tc : Thread Cert.MixRouteRefIdeal.nD Cert.MixRouteRefIdeal.τ).loc Cert.MixRouteRefIdeal.main_arg2) = m ((c.tc : Thread Cert.MixRouteIdeal.nD Cert.MixRouteIdeal.τ).loc Cert.MixRouteIdeal.main_arg2)
      ∧ m' ((c.tc : Thread Cert.MixRouteRefIdeal.nD Cert.MixRouteRefIdeal.τ).loc Cert.MixRouteRefIdeal.main_arg3) = m ((c.tc : Thread Cert.MixRouteIdeal.nD Cert.MixRouteIdeal.τ).loc Cert.MixRouteIdeal.main_arg3)
      ∧ m' ((c.tc : Thread Cert.MixRouteRefIdeal.nD Cert.MixRouteRefIdeal.τ).loc Cert.MixRouteRefIdeal.main_arg4) = m ((c.tc : Thread Cert.MixRouteIdeal.nD Cert.MixRouteIdeal.τ).loc Cert.MixRouteIdeal.main_arg4)
      ∧ m' ((c.tc : Thread Cert.MixRouteRefIdeal.nD Cert.MixRouteRefIdeal.τ).loc Cert.MixRouteRefIdeal.main_arg5) = m ((c.tc : Thread Cert.MixRouteIdeal.nD Cert.MixRouteIdeal.τ).loc Cert.MixRouteIdeal.main_arg5)
      ∧ m' ((c.tc : Thread Cert.MixRouteRefIdeal.nD Cert.MixRouteRefIdeal.τ).loc Cert.MixRouteRefIdeal.main_arg6) = m ((c.tc : Thread Cert.MixRouteIdeal.nD Cert.MixRouteIdeal.τ).loc Cert.MixRouteIdeal.main_arg6)
      ∧ m' ((c.tc : Thread Cert.MixRouteRefIdeal.nD Cert.MixRouteRefIdeal.τ).loc Cert.MixRouteRefIdeal.main_arg7) = m ((c.tc : Thread Cert.MixRouteIdeal.nD Cert.MixRouteIdeal.τ).loc Cert.MixRouteIdeal.main_arg7)
      ∧ m' ((c.tc : Thread Cert.MixRouteRefIdeal.nD Cert.MixRouteRefIdeal.τ).loc Cert.MixRouteRefIdeal.main_arg8) = m ((c.tc : Thread Cert.MixRouteIdeal.nD Cert.MixRouteIdeal.τ).loc Cert.MixRouteIdeal.main_arg8)
      ∧ m' ((c.tc : Thread Cert.MixRouteRefIdeal.nD Cert.MixRouteRefIdeal.τ).loc Cert.MixRouteRefIdeal.main_arg9) = m ((c.tc : Thread Cert.MixRouteIdeal.nD Cert.MixRouteIdeal.τ).loc Cert.MixRouteIdeal.main_arg9)
      ∧ m' ((c.tc : Thread Cert.MixRouteRefIdeal.nD Cert.MixRouteRefIdeal.τ).loc Cert.MixRouteRefIdeal.main_arg10) = m ((c.tc : Thread Cert.MixRouteIdeal.nD Cert.MixRouteIdeal.τ).loc Cert.MixRouteIdeal.main_arg10)
      ∧ m' ((c.tc : Thread Cert.MixRouteRefIdeal.nD Cert.MixRouteRefIdeal.τ).loc Cert.MixRouteRefIdeal.main_arg11) = m ((c.tc : Thread Cert.MixRouteIdeal.nD Cert.MixRouteIdeal.τ).loc Cert.MixRouteIdeal.main_arg11)) →
    ∃ (v0 : (c : Dev Cert.MixRouteIdeal.nD) → Buf (Elt Ideal) ((c.tc : Thread Cert.MixRouteIdeal.nD Cert.MixRouteIdeal.τ).loc Cert.MixRouteIdeal.main_v0_0)) (v1 : (c : Dev Cert.MixRouteIdeal.nD) → Buf (Elt Ideal) ((c.tc : Thread Cert.MixRouteIdeal.nD Cert.MixRouteIdeal.τ).loc Cert.MixRouteIdeal.main_v0_1)),
      θ_run (Cert.MixRouteIdeal.defs (F := Ideal)) (onTc (τ := Cert.MixRouteIdeal.τ) (Cert.MixRouteIdeal.main (F := Ideal))) ⟨m, fun _ => 0, g⟩ (fun r => ∀ c : Dev Cert.MixRouteIdeal.nD,
          r.2.mem ((c.tc : Thread Cert.MixRouteIdeal.nD Cert.MixRouteIdeal.τ).loc Cert.MixRouteIdeal.main_v0_0) = v0 c
          ∧ r.2.mem ((c.tc : Thread Cert.MixRouteIdeal.nD Cert.MixRouteIdeal.τ).loc Cert.MixRouteIdeal.main_v0_1) = v1 c
          ∧ r.2.mem ((c.tc : Thread Cert.MixRouteIdeal.nD Cert.MixRouteIdeal.τ).loc Cert.MixRouteIdeal.main_arg0) = m ((c.tc : Thread Cert.MixRouteIdeal.nD Cert.MixRouteIdeal.τ).loc Cert.MixRouteIdeal.main_arg0)
          ∧ r.2.mem ((c.tc : Thread Cert.MixRouteIdeal.nD Cert.MixRouteIdeal.τ).loc Cert.MixRouteIdeal.main_arg1) = m ((c.tc : Thread Cert.MixRouteIdeal.nD Cert.MixRouteIdeal.τ).loc Cert.MixRouteIdeal.main_arg1)
          ∧ r.2.mem ((c.tc : Thread Cert.MixRouteIdeal.nD Cert.MixRouteIdeal.τ).loc Cert.MixRouteIdeal.main_arg2) = m ((c.tc : Thread Cert.MixRouteIdeal.nD Cert.MixRouteIdeal.τ).loc Cert.MixRouteIdeal.main_arg2)
          ∧ r.2.mem ((c.tc : Thread Cert.MixRouteIdeal.nD Cert.MixRouteIdeal.τ).loc Cert.MixRouteIdeal.main_arg3) = m ((c.tc : Thread Cert.MixRouteIdeal.nD Cert.MixRouteIdeal.τ).loc Cert.MixRouteIdeal.main_arg3)
          ∧ r.2.mem ((c.tc : Thread Cert.MixRouteIdeal.nD Cert.MixRouteIdeal.τ).loc Cert.MixRouteIdeal.main_arg4) = m ((c.tc : Thread Cert.MixRouteIdeal.nD Cert.MixRouteIdeal.τ).loc Cert.MixRouteIdeal.main_arg4)
          ∧ r.2.mem ((c.tc : Thread Cert.MixRouteIdeal.nD Cert.MixRouteIdeal.τ).loc Cert.MixRouteIdeal.main_arg5) = m ((c.tc : Thread Cert.MixRouteIdeal.nD Cert.MixRouteIdeal.τ).loc Cert.MixRouteIdeal.main_arg5)
          ∧ r.2.mem ((c.tc : Thread Cert.MixRouteIdeal.nD Cert.MixRouteIdeal.τ).loc Cert.MixRouteIdeal.main_arg6) = m ((c.tc : Thread Cert.MixRouteIdeal.nD Cert.MixRouteIdeal.τ).loc Cert.MixRouteIdeal.main_arg6)
          ∧ r.2.mem ((c.tc : Thread Cert.MixRouteIdeal.nD Cert.MixRouteIdeal.τ).loc Cert.MixRouteIdeal.main_arg7) = m ((c.tc : Thread Cert.MixRouteIdeal.nD Cert.MixRouteIdeal.τ).loc Cert.MixRouteIdeal.main_arg7)
          ∧ r.2.mem ((c.tc : Thread Cert.MixRouteIdeal.nD Cert.MixRouteIdeal.τ).loc Cert.MixRouteIdeal.main_arg8) = m ((c.tc : Thread Cert.MixRouteIdeal.nD Cert.MixRouteIdeal.τ).loc Cert.MixRouteIdeal.main_arg8)
          ∧ r.2.mem ((c.tc : Thread Cert.MixRouteIdeal.nD Cert.MixRouteIdeal.τ).loc Cert.MixRouteIdeal.main_arg9) = m ((c.tc : Thread Cert.MixRouteIdeal.nD Cert.MixRouteIdeal.τ).loc Cert.MixRouteIdeal.main_arg9)
          ∧ r.2.mem ((c.tc : Thread Cert.MixRouteIdeal.nD Cert.MixRouteIdeal.τ).loc Cert.MixRouteIdeal.main_arg10) = m ((c.tc : Thread Cert.MixRouteIdeal.nD Cert.MixRouteIdeal.τ).loc Cert.MixRouteIdeal.main_arg10)
          ∧ r.2.mem ((c.tc : Thread Cert.MixRouteIdeal.nD Cert.MixRouteIdeal.τ).loc Cert.MixRouteIdeal.main_arg11) = m ((c.tc : Thread Cert.MixRouteIdeal.nD Cert.MixRouteIdeal.τ).loc Cert.MixRouteIdeal.main_arg11))
      ∧ θ_run (Cert.MixRouteRefIdeal.defs (F := Ideal)) (onTc (τ := Cert.MixRouteRefIdeal.τ) (Cert.MixRouteRefIdeal.main (F := Ideal))) ⟨m', fun _ => 0, g'⟩ (fun r => ∀ c : Dev Cert.MixRouteRefIdeal.nD,
          r.2.mem ((c.tc : Thread Cert.MixRouteRefIdeal.nD Cert.MixRouteRefIdeal.τ).loc Cert.MixRouteRefIdeal.main_v50) = v0 c
          ∧ r.2.mem ((c.tc : Thread Cert.MixRouteRefIdeal.nD Cert.MixRouteRefIdeal.τ).loc Cert.MixRouteRefIdeal.main_v79) = v1 c
          ∧ r.2.mem ((c.tc : Thread Cert.MixRouteRefIdeal.nD Cert.MixRouteRefIdeal.τ).loc Cert.MixRouteRefIdeal.main_arg0) = m' ((c.tc : Thread Cert.MixRouteRefIdeal.nD Cert.MixRouteRefIdeal.τ).loc Cert.MixRouteRefIdeal.main_arg0)
          ∧ r.2.mem ((c.tc : Thread Cert.MixRouteRefIdeal.nD Cert.MixRouteRefIdeal.τ).loc Cert.MixRouteRefIdeal.main_arg1) = m' ((c.tc : Thread Cert.MixRouteRefIdeal.nD Cert.MixRouteRefIdeal.τ).loc Cert.MixRouteRefIdeal.main_arg1)
          ∧ r.2.mem ((c.tc : Thread Cert.MixRouteRefIdeal.nD Cert.MixRouteRefIdeal.τ).loc Cert.MixRouteRefIdeal.main_arg2) = m' ((c.tc : Thread Cert.MixRouteRefIdeal.nD Cert.MixRouteRefIdeal.τ).loc Cert.MixRouteRefIdeal.main_arg2)
          ∧ r.2.mem ((c.tc : Thread Cert.MixRouteRefIdeal.nD Cert.MixRouteRefIdeal.τ).loc Cert.MixRouteRefIdeal.main_arg3) = m' ((c.tc : Thread Cert.MixRouteRefIdeal.nD Cert.MixRouteRefIdeal.τ).loc Cert.MixRouteRefIdeal.main_arg3)
          ∧ r.2.mem ((c.tc : Thread Cert.MixRouteRefIdeal.nD Cert.MixRouteRefIdeal.τ).loc Cert.MixRouteRefIdeal.main_arg4) = m' ((c.tc : Thread Cert.MixRouteRefIdeal.nD Cert.MixRouteRefIdeal.τ).loc Cert.MixRouteRefIdeal.main_arg4)
          ∧ r.2.mem ((c.tc : Thread Cert.MixRouteRefIdeal.nD Cert.MixRouteRefIdeal.τ).loc Cert.MixRouteRefIdeal.main_arg5) = m' ((c.tc : Thread Cert.MixRouteRefIdeal.nD Cert.MixRouteRefIdeal.τ).loc Cert.MixRouteRefIdeal.main_arg5)
          ∧ r.2.mem ((c.tc : Thread Cert.MixRouteRefIdeal.nD Cert.MixRouteRefIdeal.τ).loc Cert.MixRouteRefIdeal.main_arg6) = m' ((c.tc : Thread Cert.MixRouteRefIdeal.nD Cert.MixRouteRefIdeal.τ).loc Cert.MixRouteRefIdeal.main_arg6)
          ∧ r.2.mem ((c.tc : Thread Cert.MixRouteRefIdeal.nD Cert.MixRouteRefIdeal.τ).loc Cert.MixRouteRefIdeal.main_arg7) = m' ((c.tc : Thread Cert.MixRouteRefIdeal.nD Cert.MixRouteRefIdeal.τ).loc Cert.MixRouteRefIdeal.main_arg7)
          ∧ r.2.mem ((c.tc : Thread Cert.MixRouteRefIdeal.nD Cert.MixRouteRefIdeal.τ).loc Cert.MixRouteRefIdeal.main_arg8) = m' ((c.tc : Thread Cert.MixRouteRefIdeal.nD Cert.MixRouteRefIdeal.τ).loc Cert.MixRouteRefIdeal.main_arg8)
          ∧ r.2.mem ((c.tc : Thread Cert.MixRouteRefIdeal.nD Cert.MixRouteRefIdeal.τ).loc Cert.MixRouteRefIdeal.main_arg9) = m' ((c.tc : Thread Cert.MixRouteRefIdeal.nD Cert.MixRouteRefIdeal.τ).loc Cert.MixRouteRefIdeal.main_arg9)
          ∧ r.2.mem ((c.tc : Thread Cert.MixRouteRefIdeal.nD Cert.MixRouteRefIdeal.τ).loc Cert.MixRouteRefIdeal.main_arg10) = m' ((c.tc : Thread Cert.MixRouteRefIdeal.nD Cert.MixRouteRefIdeal.τ).loc Cert.MixRouteRefIdeal.main_arg10)
          ∧ r.2.mem ((c.tc : Thread Cert.MixRouteRefIdeal.nD Cert.MixRouteRefIdeal.τ).loc Cert.MixRouteRefIdeal.main_arg11) = m' ((c.tc : Thread Cert.MixRouteRefIdeal.nD Cert.MixRouteRefIdeal.τ).loc Cert.MixRouteRefIdeal.main_arg11))

def Claim : Prop :=
  ∃ (hCtx : Cert.Ctx.Facts) (hCtxIdeal : Cert.CtxIdeal.Facts) (hCtxRefIdeal : Cert.CtxRefIdeal.Facts) (hInProj : Cert.InProj.Facts) (hInProjIdeal : Cert.InProjIdeal.Facts) (hInProjRefIdeal : Cert.InProjRefIdeal.Facts) (hMoe : Cert.Moe.Facts) (hMoeIdeal : Cert.MoeIdeal.Facts) (hMoeRefIdeal : Cert.MoeRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hSide : Cert.Side.Facts) (hSideIdeal : Cert.SideIdeal.Facts) (hSideRefIdeal : Cert.SideRefIdeal.Facts) (hMixRoute : Cert.MixRoute.Facts) (hMixRouteIdeal : Cert.MixRouteIdeal.Facts) (hMixRouteRefIdeal : Cert.MixRouteRefIdeal.Facts) (hPre_finite_logits : Cert.Pre_finite_logits.Facts) (hPre_tables_in_range : Cert.Pre_tables_in_range.Facts) (hOn_routed_rows : Cert.On_routed_rows.Facts),
    quiescent_Ctx (hCtx := hCtx)
    ∧ quiescent_CtxIdeal (hCtxIdeal := hCtxIdeal)
    ∧ quiescent_CtxIdeal_pre_finite_logits (hCtxIdeal := hCtxIdeal) (hPre_finite_logits := hPre_finite_logits)
    ∧ quiescent_CtxRefIdeal (hCtxRefIdeal := hCtxRefIdeal)
    ∧ quiescent_CtxRefIdeal_pre_finite_logits (hCtxRefIdeal := hCtxRefIdeal) (hPre_finite_logits := hPre_finite_logits)
    ∧ quiescent_InProj (hInProj := hInProj)
    ∧ quiescent_InProjIdeal (hInProjIdeal := hInProjIdeal)
    ∧ quiescent_InProjRefIdeal (hInProjRefIdeal := hInProjRefIdeal)
    ∧ quiescent_Moe (hMoe := hMoe) (hPre_tables_in_range := hPre_tables_in_range)
    ∧ quiescent_MoeIdeal (hMoeIdeal := hMoeIdeal) (hPre_tables_in_range := hPre_tables_in_range)
    ∧ quiescent_MoeRefIdeal (hMoeRefIdeal := hMoeRefIdeal)
    ∧ quiescent_MoeRefIdeal_pre_tables_in_range (hMoeRefIdeal := hMoeRefIdeal) (hPre_tables_in_range := hPre_tables_in_range)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Side (hSide := hSide)
    ∧ quiescent_SideIdeal (hSideIdeal := hSideIdeal)
    ∧ quiescent_SideRefIdeal (hSideRefIdeal := hSideRefIdeal)
    ∧ quiescent_MixRoute (hMixRoute := hMixRoute)
    ∧ quiescent_MixRouteIdeal (hMixRouteIdeal := hMixRouteIdeal)
    ∧ quiescent_MixRouteRefIdeal (hMixRouteRefIdeal := hMixRouteRefIdeal)
    ∧ preserves_Ctx_CtxIdeal
    ∧ algebraic_CtxIdeal_CtxRefIdeal_pre_finite_logits (hCtxIdeal := hCtxIdeal) (hCtxRefIdeal := hCtxRefIdeal) (hPre_finite_logits := hPre_finite_logits)
    ∧ preserves_InProj_InProjIdeal
    ∧ algebraic_InProjIdeal_InProjRefIdeal (hInProjIdeal := hInProjIdeal) (hInProjRefIdeal := hInProjRefIdeal)
    ∧ preserves_Moe_MoeIdeal
    ∧ algebraic_MoeIdeal_MoeRefIdeal_on_routed_rows (hMoeIdeal := hMoeIdeal) (hMoeRefIdeal := hMoeRefIdeal) (hPre_tables_in_range := hPre_tables_in_range) (hOn_routed_rows := hOn_routed_rows)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Side_SideIdeal
    ∧ algebraic_SideIdeal_SideRefIdeal (hSideIdeal := hSideIdeal) (hSideRefIdeal := hSideRefIdeal)
    ∧ preserves_MixRoute_MixRouteIdeal
    ∧ algebraic_MixRouteIdeal_MixRouteRefIdeal (hMixRouteIdeal := hMixRouteIdeal) (hMixRouteRefIdeal := hMixRouteRefIdeal)
-- ==== On_routed_rows.lean ====
abbrev S24576x1024 : Shape := ⟨2, ![24576, 1024]⟩
abbrev S24 : Shape := ⟨1, ![24]⟩
abbrev S1 : Shape := ⟨1, ![1]⟩
abbrev S8x1024x3584 : Shape := ⟨3, ![8, 1024, 3584]⟩
abbrev S8x3584x1024 : Shape := ⟨3, ![8, 3584, 1024]⟩
abbrev S24x1024x1024 : Shape := ⟨3, ![24, 1024, 1024]⟩
abbrev S_ : Shape := ⟨0, ![]⟩
abbrev S24x1x1 : Shape := ⟨3, ![24, 1, 1]⟩

class Facts : Prop where
  shapeCasts_S1_S_ : S1.ShapeCasts S_
  bcast_S_S24x1024x1024 : S_.BroadcastsInDim S24x1024x1024 (![] : Fin 0 → Fin S24x1024x1024.rank)
  bcast_S24_S24x1x1_0 : S24.BroadcastsInDim S24x1x1 (![0] : Fin 1 → Fin S24x1x1.rank)
  bcast_S24x1x1_S24x1024x1024_0_1_2 : S24x1x1.BroadcastsInDim S24x1024x1024 (![0, 1, 2] : Fin 3 → Fin S24x1024x1024.rank)
  shapeCasts_S24x1024x1024_S24576x1024 : S24x1024x1024.ShapeCasts S24576x1024

variable [Facts]

def fn {F : FTy → Type} [FloatOps F] (main_arg0 : FVec F S24576x1024 .f32) (main_arg1 : IVec S24 32) (main_arg2 : IVec S24 32) (main_arg3 : IVec S1 32) (main_arg4 : FVec F S8x1024x3584 .f32) (main_arg5 : FVec F S8x1024x3584 .f32) (main_arg6 : FVec F S8x3584x1024 .f32) : IVec S24576x1024 1 :=
  let main_v0 : IVec S24x1024x1024 32 := iotaInDim S24x1024x1024 32 0
  let main_v1 : IVec S24x1024x1024 32 := iotaInDim S24x1024x1024 32 1
  let main_v2 : IVec S_ 32 := shapeCast S_ main_arg3 shapeCasts_S1_S_
  let main_v3 : IVec S24x1024x1024 32 := broadcastInDim S24x1024x1024 ![] bcast_S_S24x1024x1024 main_v2
  let main_v4 : IVec S24x1024x1024 1 := cmpi .slt main_v0 main_v3
  let main_v5 : IVec S24x1x1 32 := broadcastInDim S24x1x1 ![0] bcast_S24_S24x1x1_0 main_arg2
  let main_v6 : IVec S24x1024x1024 32 := broadcastInDim S24x1024x1024 ![0, 1, 2] bcast_S24x1x1_S24x1024x1024_0_1_2 main_v5
  let main_v7 : IVec S24x1024x1024 1 := cmpi .slt main_v1 main_v6
  let main_v8 : IVec S24x1024x1024 1 := andi main_v4 main_v7
  let main_v9 : IVec S24576x1024 1 := shapeCast S24576x1024 main_v8 shapeCasts_S24x1024x1024_S24576x1024
  main_v9
-- ==== Pre_finite_logits.lean ====
abbrev S8192x7168 : Shape := ⟨2, ![8192, 7168]⟩
abbrev S8192x1024 : Shape := ⟨2, ![8192, 1024]⟩
abbrev S8 : Shape := ⟨1, ![8]⟩
abbrev S_ : Shape := ⟨0, ![]⟩

class Facts : Prop where
  bitsLt_bf16_f32 : FTy.bits .bf16 < FTy.bits .f32
  bcast_S_S8192x7168 : S_.BroadcastsInDim S8192x7168 (![] : Fin 0 → Fin S8192x7168.rank)
  reducesTo_S8192x7168_S_d0_1 : S8192x7168.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S8192x7168 .bf16) (main_arg1 : FVec F S8192x1024 .f32) (main_arg2 : FVec F S8 .f32) : IVec S_ 1 :=
  let main_v0 : FVec F S8192x7168 .f32 := (extf .f32 · bitsLt_bf16_f32) main_arg0
  let main_v1 : FVec F S8192x7168 .f32 := Host.absf main_v0
  let main_cst : FVec F S_ .f32 := constant S_ .f32 0x7F800000#32
  let main_v2 : FVec F S8192x7168 .f32 := broadcastInDim S8192x7168 ![] bcast_S_S8192x7168 main_cst
  let main_v3 : IVec S8192x7168 1 := cmpf .olt main_v1 main_v2
  let main_c : IVec S_ 1 := constantI S_ 1 1#1
  let main_v4 : IVec S_ 1 := (fun x v => Host.reduce IntOp.andi x v reducesTo_S8192x7168_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_v10 : FVec F S8 .f32 := Host.absf main_arg2
  let main_cst_2 : FVec F S_ .f32 := constant S_ .f32 0x7F800000#32
  let main_v11 : FVec F S8 .f32 := broadcastInDim S8 ![] bcast_S_S8 main_cst_2
  let main_v12 : IVec S8 1 := cmpf .olt main_v10 main_v11
  let main_c_3 : IVec S_ 1 := constantI S_ 1 1#1
  let main_v13 : IVec S_ 1 := (fun x v => Host.reduce IntOp.andi x v reducesTo_S8_S_d0 h_S_) main_v12 main_c_3
  let main_v14 : IVec S_ 1 := andi main_v9 main_v13
  main_v14
-- ==== Pre_tables_in_range.lean ====
abbrev S24576x1024 : Shape := ⟨2, ![24576, 1024]⟩
abbrev S24 : Shape := ⟨1, ![24]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S24 : S_.BroadcastsInDim S24 (![] : Fin 0 → Fin S24.rank)
  reducesTo_S24_S_d0 : S24.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S24576x1024 .f32) (main_arg1 : IVec S24 32) (main_arg2 : IVec S24 32) (main_arg3 : IVec S1 32) (main_arg4 : FVec F S8x1024x3584 .f32) (main_arg5 : FVec F S8x1024x3584 .f32) (main_arg6 : FVec F S8x3584x1024 .f32) : IVec S_ 1 :=
  let main_c : IVec S_ 32 := constantI S_ 32 0#32
  let main_v0 : IVec S24 32 := broadcastInDim S24 ![] bcast_S_S24 main_c
  let main_v1 : IVec S24 1 := cmpi .sge main_arg1 main_v0
  let main_c_0 : IVec S_ 32 := constantI S_ 32 8#32
  let main_v2 : IVec S24 32 := broadcastInDim S24 ![] bcast_S_S24 main_c_0
  let main_v3 : IVec S24 1 := cmpi .slt main_arg1 main_v2
  let main_v4 : IVec S24 1 := andi main_v1 main_v3
  let main_c_1 : IVec S_ 1 := constantI S_ 1 1#1
  let main_v5 : IVec S_ 1 := (fun x v => Host.reduce IntOp.andi x v reducesTo_S24_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg3 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Ctx.lean ====
abbrev S8192x7168 : Shape := ⟨2, ![8192, 7168]⟩
abbrev S8192x1024 : Shape := ⟨2, ![8192, 1024]⟩
abbrev S8 : Shape := ⟨1, ![8]⟩
abbrev S4096x1024 : Shape := ⟨2, ![4096, 1024]⟩
abbrev S256x512 : Shape := ⟨2, ![256, 512]⟩
abbrev S256x128 : Shape := ⟨2, ![256, 128]⟩
abbrev S256x256 : Shape := ⟨2, ![256, 256]⟩
abbrev S1 : Shape := ⟨1, ![1]⟩
abbrev S256 : Shape := ⟨1, ![256]⟩
abbrev S256x1 : Shape := ⟨2, ![256, 1]⟩

abbrev nBuf : Space → Nat
  | .hbm => 4
  | .vmem => 8
  | .smem => 1
  | _ => 0

abbrev bufTy : (tb : Table) → Fin (tcTables nBuf tb) → BufTy
  | .hbm, ⟨0, _⟩ => ⟨S8192x7168, .bf16⟩
  | .hbm, ⟨1, _⟩ => ⟨S8192x1024, .f32⟩
  | .hbm, ⟨2, _⟩ => ⟨S8, .f32⟩
  | .hbm, ⟨3, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .bf16⟩
  | .local _ .vmem, ⟨7, _⟩ => ⟨S256x512, .bf16⟩
  | .local _ .smem, ⟨0, _⟩ => ⟨S8, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_off1 (i : grid0.Coords) (c0_i32 : BitVec 32) : Fin 1 → Nat :=
  let arg1 : BitVec 32 := BitVec.ofNat 32 (i 1).val
  let c4_i32 : BitVec 32 := 4#32
  let v8 : BitVec 32 := Scalar.muli arg1 c4_i32
  let v9 : BitVec 32 := Scalar.addi v8 c0_i32
  let v10 : Index := Scalar.indexCast v9
  ![v10.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CtxRefIdeal.lean ====
abbrev S8192x7168 : Shape := ⟨2, ![8192, 7168]⟩
abbrev S8192x1024 : Shape := ⟨2, ![8192, 1024]⟩
abbrev S8 : Shape := ⟨1, ![8]⟩
abbrev S4096x1024 : Shape := ⟨2, ![4096, 1024]⟩
abbrev S16x256x2x4x128 : Shape := ⟨5, ![16, 256, 2, 4, 128]⟩
abbrev S4096x256 : Shape := ⟨2, ![4096, 256]⟩
abbrev S16x256x2x128 : Shape := ⟨4, ![16, 256, 2, 128]⟩
abbrev S16x2x256x256x4 : Shape := ⟨5, ![16, 2, 256, 256, 4]⟩
abbrev S16x2x4x256x256 : Shape := ⟨5, ![16, 2, 4, 256, 256]⟩
abbrev S_ : Shape := ⟨0, ![]⟩
abbrev S1x2x4x1x1 : Shape := ⟨5, ![1, 2, 4, 1, 1]⟩
abbrev S16x2x4x256x1 : Shape := ⟨5, ![16, 2, 4, 256, 1]⟩
abbrev S16x2x4x256x257 : Shape := ⟨5, ![16, 2, 4, 256, 257]⟩
abbrev S16x2x4x256 : Shape := ⟨4, ![16, 2, 4, 256]⟩
abbrev S16x2x128x4x256 : Shape := ⟨5, ![16, 2, 128, 4, 256]⟩

abbrev nBuf : Space → Nat
  | .hbm => 37
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S8192x1024, .f32⟩
  | .hbm, ⟨2, _⟩ => ⟨S8, .f32⟩
  | .hbm, ⟨3, _⟩ => ⟨S4096x1024, .bf16⟩
  | .hbm, ⟨4, _⟩ => ⟨S4096x1024, .f32⟩
  | .hbm, ⟨5, _⟩ => ⟨S16x256x2x4x128, .f32⟩
  | .hbm, ⟨6, _⟩ => ⟨S4096x256, .f32⟩
  | .hbm, ⟨7, _⟩ => ⟨S16x256x2x128, .f32⟩
  | .hbm, ⟨8, _⟩ => ⟨S4096x256, .f32⟩
  | .hbm, ⟨9, _⟩ => ⟨S16x256x2x128, .f32⟩
  | .hbm, ⟨10, _⟩ => ⟨S16x2x256x256x4, .f32⟩
  | .hbm, ⟨11, _⟩ => ⟨S16x2x4x256x256, .f32⟩
  | .hbm, ⟨12, _⟩ => ⟨S_, .f32⟩
  | .hbm, ⟨13, _⟩ => ⟨S16x2x4x256x256, .f32⟩
  | .hbm, ⟨14, _⟩ => ⟨S16x2x4x256x256, .f32⟩
  | .hbm, ⟨15, _⟩ => ⟨S1x2x4x1x1, .f32⟩
  | .hbm, ⟨16, _⟩ => ⟨S16x2x4x256x1, .f32⟩
  | .hbm, ⟨17, _⟩ => ⟨S16x2x4x256x257, .f32⟩
  | .hbm, ⟨18, _⟩ => ⟨S_, .f32⟩
  | .hbm, ⟨19, _⟩ => ⟨S16x2x4x256, .f32⟩
  | .hbm, ⟨20, _⟩ => ⟨S_, .f32⟩
  | .hbm, ⟨21, _⟩ => ⟨S16x2x4x256, .f32⟩
  | .hbm, ⟨22, _⟩ => ⟨S16x2x4x256, .f32⟩
  | .hbm, ⟨23, _⟩ => ⟨S16x2x4x256x1, .f32⟩
  | .hbm, ⟨24, _⟩ => ⟨S16x2x4x256x257, .f32⟩
  | .hbm, ⟨25, _⟩ => ⟨S16x2x4x256x257, .f32⟩
  | .hbm, ⟨26, _⟩ => ⟨S16x2x4x256x257, .f32⟩
  | .hbm, ⟨27, _⟩ => ⟨S_, .f32⟩
  | .hbm, ⟨28, _⟩ => ⟨S16x2x4x256, .f32⟩
  | .hbm, ⟨29, _⟩ => ⟨S16x2x4x256x1, .f32⟩
  | .hbm, ⟨30, _⟩ => ⟨S16x2x4x256x257, .f32⟩
  | .hbm, ⟨31, _⟩ => ⟨S16x2x4x256x257, .f32⟩
  | .hbm, ⟨32, _⟩ => ⟨S16x2x4x256x256, .f32⟩
  | .hbm, ⟨33, _⟩ => ⟨S16x2x128x4x256, .f32⟩
  | .hbm, ⟨34, _⟩ => ⟨S16x256x2x4x128, .f32⟩
  | .hbm, ⟨35, _⟩ => ⟨S4096x1024, .f32⟩
  | .hbm, ⟨36, _⟩ => ⟨S4096x1024, .bf16⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== InProj.lean ====
abbrev S8192x1024 : Shape := ⟨2, ![8192, 1024]⟩
abbrev S1024x7168 : Shape := ⟨2, ![1024, 7168]⟩
abbrev S8192x7168 : Shape := ⟨2, ![8192, 7168]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x7168, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x1024 : Shape := ⟨2, ![8192, 1024]⟩
abbrev S1024x7168 : Shape := ⟨2, ![1024, 7168]⟩
abbrev S8192x7168 : Shape := ⟨2, ![8192, 7168]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x1024, .f32⟩
  | .hbm, ⟨3, _⟩ => ⟨S1024x7168, .f32⟩
  | .hbm, ⟨4, _⟩ => ⟨S8192x7168, .f32⟩
  | .hbm, ⟨5, _⟩ => ⟨S8192x7168, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Moe.lean ====
abbrev S24576x1024 : Shape := ⟨2, ![24576, 1024]⟩
abbrev S24 : Shape := ⟨1, ![24]⟩
abbrev S1 : Shape := ⟨1, ![1]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 5
  | .vmem => 11
  | .smem => 3
  | _ => 0

abbrev bufTy : (tb : Table) → Fin (tcTables nBuf tb) → BufTy
  | .hbm, ⟨0, _⟩ => ⟨S24576x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S24576x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .smem, ⟨0, _⟩ => ⟨S24, .i32⟩
  | .local _ .smem, ⟨1, _⟩ => ⟨S24, .i32⟩
  | .local _ .smem, ⟨2, _⟩ => ⟨S1, .i32⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![24, 7], ![false, false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v1 : BitVec 32) : BitVec 1 :=
  let arg0 : BitVec 32 := BitVec.ofNat 32 (i 0).val
  let v2 : BitVec 1 := Scalar.cmpi .slt arg0 v1
  let v5 : BitVec 32 := Scalar.extui v2
  let c0_i32 : BitVec 32 := 0#32
  let v6 : BitVec 1 := Scalar.cmpi .ne v5 c0_i32
  v6

def k0_cond2 (v4 : BitVec 32) : BitVec 1 :=
  let c512_i32_24 : BitVec 32 := 512#32
  let v42 : BitVec 1 := Scalar.cmpi .sgt v4 c512_i32_24
  let v43 : BitVec 32 := Scalar.extui v42
  let c0_i32_25 : BitVec 32 := 0#32
  let v44 : BitVec 1 := Scalar.cmpi .ne v43 c0_i32_25
  v44

def k0_cond3 (i : grid0.Coords) (v4 : BitVec 32) : BitVec 1 :=
  let arg1 : BitVec 32 := BitVec.ofNat 32 (i 1).val
  let c6_i32 : BitVec 32 := 6#32
  let v0 : BitVec 1 := Scalar.cmpi .eq arg1 c6_i32
  let c0_i32_0 : BitVec 32 := 0#32
  let v7 : BitVec 1 := Scalar.cmpi .sle v4 c0_i32_0
  let v8 : BitVec 1 := Scalar.andi v0 v7
  let v9 : BitVec 32 := Scalar.extui v8
  let c0_i32_1 : BitVec 32 := 0#32
  let v10 : BitVec 1 := Scalar.cmpi .ne v9 c0_i32_1
  v10

def k0_cond4 (i : grid0.Coords) (v4 : BitVec 32) : BitVec 1 :=
  let arg1 : BitVec 32 := BitVec.ofNat 32 (i 1).val
  let c6_i32 : BitVec 32 := 6#32
  let v0 : BitVec 1 := Scalar.cmpi .eq arg1 c6_i32
  let c512_i32 : BitVec 32 := 512#32
  let v11 : BitVec 1 := Scalar.cmpi .sle v4 c512_i32
  let v12 : BitVec 1 := Scalar.andi v0 v11
  let v13 : BitVec 32 := Scalar.extui v12
  let c0_i32_2 : BitVec 32 := 0#32
  let v14 : BitVec 1 := Scalar.cmpi .ne v13 c0_i32_2
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S24.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S24.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S24.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeRefIdeal.lean ====
abbrev S24576x1024 : Shape := ⟨2, ![24576, 1024]⟩
abbrev S24 : Shape := ⟨1, ![24]⟩
abbrev S1 : Shape := ⟨1, ![1]⟩
abbrev S8x1024x3584 : Shape := ⟨3, ![8, 1024, 3584]⟩
abbrev S8x3584x1024 : Shape := ⟨3, ![8, 3584, 1024]⟩
abbrev S24x1 : Shape := ⟨2, ![24, 1]⟩
abbrev S24x1024 : Shape := ⟨2, ![24, 1024]⟩
abbrev S24576 : Shape := ⟨1, ![24576]⟩
abbrev S24576x1 : Shape := ⟨2, ![24576, 1]⟩
abbrev S1x8 : Shape := ⟨2, ![1, 8]⟩
abbrev S24576x8 : Shape := ⟨2, ![24576, 8]⟩
abbrev S24576x8x3584 : Shape := ⟨3, ![24576, 8, 3584]⟩
abbrev S_ : Shape := ⟨0, ![]⟩
abbrev S8x24576x1024 : Shape := ⟨3, ![8, 24576, 1024]⟩
abbrev S8x24576 : Shape := ⟨2, ![8, 24576]⟩
abbrev S8x24576x1 : Shape := ⟨3, ![8, 24576, 1]⟩

abbrev nBuf : Space → Nat
  | .hbm => 35
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S24, .i32⟩
  | .hbm, ⟨2, _⟩ => ⟨S24, .i32⟩
  | .hbm, ⟨3, _⟩ => ⟨S1, .i32⟩
  | .hbm, ⟨4, _⟩ => ⟨S8x1024x3584, .f32⟩
  | .hbm, ⟨5, _⟩ => ⟨S8x1024x3584, .f32⟩
  | .hbm, ⟨6, _⟩ => ⟨S8x3584x1024, .f32⟩
  | .hbm, ⟨7, _⟩ => ⟨S24x1, .i32⟩
  | .hbm, ⟨8, _⟩ => ⟨S24x1024, .i32⟩
  | .hbm, ⟨9, _⟩ => ⟨S24576, .i32⟩
  | .hbm, ⟨10, _⟩ => ⟨S24576x1, .i32⟩
  | .hbm, ⟨11, _⟩ => ⟨S1x8, .i32⟩
  | .hbm, ⟨12, _⟩ => ⟨S24576x8, .i32⟩
  | .hbm, ⟨13, _⟩ => ⟨S24576x8, .i32⟩
  | .hbm, ⟨14, _⟩ => ⟨S24576x8, .i1⟩
  | .hbm, ⟨15, _⟩ => ⟨S24576x8, .f32⟩
  | .hbm, ⟨16, _⟩ => ⟨S24576x8x3584, .f32⟩
  | .hbm, ⟨17, _⟩ => ⟨S24576x8x3584, .f32⟩
  | .hbm, ⟨18, _⟩ => ⟨S24576x8x3584, .f32⟩
  | .hbm, ⟨19, _⟩ => ⟨S_, .f32⟩
  | .hbm, ⟨20, _⟩ => ⟨S24576x8x3584, .f32⟩
  | .hbm, ⟨21, _⟩ => ⟨S24576x8x3584, .f32⟩
  | .hbm, ⟨22, _⟩ => ⟨S_, .f32⟩
  | .hbm, ⟨23, _⟩ => ⟨S24576x8x3584, .f32⟩
  | .hbm, ⟨24, _⟩ => ⟨S24576x8x3584, .f32⟩
  | .hbm, ⟨25, _⟩ => ⟨S24576x8x3584, .f32⟩
  | .hbm, ⟨26, _⟩ => ⟨S24576x8x3584, .f32⟩
  | .hbm, ⟨27, _⟩ => ⟨S24576x8x3584, .f32⟩
  | .hbm, ⟨28, _⟩ => ⟨S8x24576x1024, .f32⟩
  | .hbm, ⟨29, _⟩ => ⟨S8x24576, .f32⟩
  | .hbm, ⟨30, _⟩ => ⟨S8x24576x1, .f32⟩
  | .hbm, ⟨31, _⟩ => ⟨S8x24576x1024, .f32⟩
  | .hbm, ⟨32, _⟩ => ⟨S8x24576x1024, .f32⟩
  | .hbm, ⟨33, _⟩ => ⟨S_, .f32⟩
  | .hbm, ⟨34, _⟩ => ⟨S24576x1024, .f32⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩

abbrev nD : Nat := 1
abbrev τ : Topo := Topo.v7x

variable {F : FTy → Type} [FloatOps F]
-- ==== Ffn.lean ====
abbrev S8192x1024 : Shape := ⟨2, ![8192, 1024]⟩
abbrev S1024x2816 : Shape := ⟨2, ![1024, 2816]⟩
abbrev S2816x1024 : Shape := ⟨2, ![2816, 1024]⟩
abbrev S32x6x1024 : Shape := ⟨3, ![32, 6, 1024]⟩
abbrev S4x1024 : Shape := ⟨2, ![4, 1024]⟩
abbrev S512x1024 : Shape := ⟨2, ![512, 1024]⟩
abbrev S1024x1408 : Shape := ⟨2, ![1024, 1408]⟩
abbrev S1408x1024 : Shape := ⟨2, ![1408, 1024]⟩
abbrev S2x6x1024 : Shape := ⟨3, ![2, 6, 1024]⟩
abbrev S512x1408 : Shape := ⟨2, ![512, 1408]⟩
abbrev S256x1024 : Shape := ⟨2, ![256, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩

abbrev nBuf : Space → Nat
  | .hbm => 11
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S8192x1024, .f32⟩
  | .hbm, ⟨5, _⟩ => ⟨S32x6x1024, .f32⟩
  | .hbm, ⟨6, _⟩ => ⟨S4x1024, .f32⟩
  | .hbm, ⟨7, _⟩ => ⟨S32x6x1024, .f32⟩
  | .hbm, ⟨8, _⟩ => ⟨S4x1024, .f32⟩
  | .hbm, ⟨9, _⟩ => ⟨S8192x1024, .f32⟩
  | .hbm, ⟨10, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S512x1024, .f32⟩
  | .local _ .vmem, ⟨9, _⟩ => ⟨S512x1024, .f32⟩
  | .local _ .vmem, ⟨10, _⟩ => ⟨S2x6x1024, .f32⟩
  | .local _ .vmem, ⟨11, _⟩ => ⟨S2x6x1024, .f32⟩
  | .local _ .vmem, ⟨12, _⟩ => ⟨S4x1024, .f32⟩
  | .local _ .vmem, ⟨13, _⟩ => ⟨S2x6x1024, .f32⟩
  | .local _ .vmem, ⟨14, _⟩ => ⟨S2x6x1024, .f32⟩
  | .local _ .vmem, ⟨15, _⟩ => ⟨S4x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnRefIdeal.lean ====
abbrev S8192x1024 : Shape := ⟨2, ![8192, 1024]⟩
abbrev S1024x2816 : Shape := ⟨2, ![1024, 2816]⟩
abbrev S2816x1024 : Shape := ⟨2, ![2816, 1024]⟩
abbrev S32x6x1024 : Shape := ⟨3, ![32, 6, 1024]⟩
abbrev S4x1024 : Shape := ⟨2, ![4, 1024]⟩
abbrev S8192x2816 : Shape := ⟨2, ![8192, 2816]⟩
abbrev S_ : Shape := ⟨0, ![]⟩
abbrev S32x1x1024 : Shape := ⟨3, ![32, 1, 1024]⟩
abbrev S32x1024 : Shape := ⟨2, ![32, 1024]⟩
abbrev S32x256x1024 : Shape := ⟨3, ![32, 256, 1024]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S8192x1024, .f32⟩
  | .hbm, ⟨5, _⟩ => ⟨S32x6x1024, .f32⟩
  | .hbm, ⟨6, _⟩ => ⟨S4x1024, .f32⟩
  | .hbm, ⟨7, _⟩ => ⟨S32x6x1024, .f32⟩
  | .hbm, ⟨8, _⟩ => ⟨S4x1024, .f32⟩
  | .hbm, ⟨9, _⟩ => ⟨S8192x1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x1024, .f32⟩
  | .hbm, ⟨26, _⟩ => ⟨S32x1x1024, .f32⟩
  | .hbm, ⟨27, _⟩ => ⟨S32x1024, .f32⟩
  | .hbm, ⟨28, _⟩ => ⟨S32x1x1024, .f32⟩
  | .hbm, ⟨29, _⟩ => ⟨S32x256x1024, .f32⟩
  | .hbm, ⟨30, _⟩ => ⟨S8192x1024, .f32⟩
  | .hbm, ⟨31, _⟩ => ⟨S1x1024, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S32x1x1024, .f32⟩
  | .hbm, ⟨70, _⟩ => ⟨S32x1024, .f32⟩
  | .hbm, ⟨71, _⟩ => ⟨S32x1x1024, .f32⟩
  | .hbm, ⟨72, _⟩ => ⟨S32x256x1024, .f32⟩
  | .hbm, ⟨73, _⟩ => ⟨S8192x1024, .f32⟩
  | .hbm, ⟨74, _⟩ => ⟨S_, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S32x1x1024, .f32⟩
  | .hbm, ⟨79, _⟩ => ⟨S32x1024, .f32⟩
  | .hbm, ⟨80, _⟩ => ⟨S32x1x1024, .f32⟩
  | .hbm, ⟨81, _⟩ => ⟨S32x256x1024, .f32⟩
  | .hbm, ⟨82, _⟩ => ⟨S8192x1024, .f32⟩
  | .hbm, ⟨83, _⟩ => ⟨S8192x1024, .f32⟩
  | .hbm, ⟨84, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_v34 : Ref sig .tc := ⟨.hbm, 55, rfl⟩
abbrev main_v35 : Ref sig .tc := ⟨.hbm, 56, rfl⟩
abbrev main_cst_3 : Ref sig .tc := ⟨.hbm, 57, rfl⟩
abbrev main_v36 : Ref sig .tc := ⟨.hbm, 58, rfl⟩
abbrev main_v37 : Ref sig .tc := ⟨.hbm, 59, rfl⟩
abbrev main_cst_4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Mix.lean ====
abbrev S4096x1024 : Shape := ⟨2, ![4096, 1024]⟩
abbrev S8192x7168 : Shape := ⟨2, ![8192, 7168]⟩
abbrev S32x6x1024 : Shape := ⟨3, ![32, 6, 1024]⟩
abbrev S4x1024 : Shape := ⟨2, ![4, 1024]⟩
abbrev S1024x1024 : Shape := ⟨2, ![1024, 1024]⟩
abbrev S8192x1024 : Shape := ⟨2, ![8192, 1024]⟩
abbrev S256x1024 : Shape := ⟨2, ![256, 1024]⟩
abbrev S1x6x1024 : Shape := ⟨3, ![1, 6, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩

abbrev nBuf : Space → Nat
  | .hbm => 14
  | .vmem => 26
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S8192x7168, .bf16⟩
  | .hbm, ⟨5, _⟩ => ⟨S4096x1024, .f32⟩
  | .hbm, ⟨6, _⟩ => ⟨S4096x1024, .f32⟩
  | .hbm, ⟨7, _⟩ => ⟨S32x6x1024, .f32⟩
  | .hbm, ⟨8, _⟩ => ⟨S4x1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S8192x1024, .f32⟩
  | .hbm, ⟨13, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x6x1024, .f32⟩
  | .local _ .vmem, ⟨17, _⟩ => ⟨S1x6x1024, .f32⟩
  | .local _ .vmem, ⟨18, _⟩ => ⟨S4x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixRefIdeal.lean ====
abbrev S4096x1024 : Shape := ⟨2, ![4096, 1024]⟩
abbrev S8192x7168 : Shape := ⟨2, ![8192, 7168]⟩
abbrev S32x6x1024 : Shape := ⟨3, ![32, 6, 1024]⟩
abbrev S4x1024 : Shape := ⟨2, ![4, 1024]⟩
abbrev S1024x1024 : Shape := ⟨2, ![1024, 1024]⟩
abbrev S8192x1024 : Shape := ⟨2, ![8192, 1024]⟩
abbrev S_ : Shape := ⟨0, ![]⟩
abbrev S32x1x1024 : Shape := ⟨3, ![32, 1, 1024]⟩
abbrev S32x1024 : Shape := ⟨2, ![32, 1024]⟩
abbrev S32x256x1024 : Shape := ⟨3, ![32, 256, 1024]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S8192x7168, .bf16⟩
  | .hbm, ⟨5, _⟩ => ⟨S4096x1024, .f32⟩
  | .hbm, ⟨6, _⟩ => ⟨S4096x1024, .f32⟩
  | .hbm, ⟨7, _⟩ => ⟨S32x6x1024, .f32⟩
  | .hbm, ⟨8, _⟩ => ⟨S4x1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S8192x1024, .bf16⟩
  | .hbm, ⟨13, _⟩ => ⟨S8192x1024, .f32⟩
  | .hbm, ⟨14, _⟩ => ⟨S8192x1024, .bf16⟩
  | .hbm, ⟨15, _⟩ => ⟨S8192x1024, .f32⟩
  | .hbm, ⟨16, _⟩ => ⟨S8192x1024, .bf16⟩
  | .hbm, ⟨17, _⟩ => ⟨S8192x1024, .f32⟩
  | .hbm, ⟨18, _⟩ => ⟨S1024x1024, .f32⟩
  | .hbm, ⟨19, _⟩ => ⟨S8192x1024, .f32⟩
  | .hbm, ⟨20, _⟩ => ⟨S8192x1024, .bf16⟩
  | .hbm, ⟨21, _⟩ => ⟨S8192x1024, .f32⟩
  | .hbm, ⟨22, _⟩ => ⟨S1024x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S1024x1024, .f32⟩
  | .hbm, ⟨44, _⟩ => ⟨S8192x1024, .f32⟩
  | .hbm, ⟨45, _⟩ => ⟨S8192x1024, .f32⟩
  | .hbm, ⟨46, _⟩ => ⟨S32x1x1024, .f32⟩
  | .hbm, ⟨47, _⟩ => ⟨S32x1024, .f32⟩
  | .hbm, ⟨48, _⟩ => ⟨S32x1x1024, .f32⟩
  | .hbm, ⟨49, _⟩ => ⟨S32x256x1024, .f32⟩
  | .hbm, ⟨50, _⟩ => ⟨S8192x1024, .f32⟩
  | .hbm, ⟨51, _⟩ => ⟨S1x1024, .f32⟩
  | .hbm, ⟨52, _⟩ => ⟨S1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S1x1024, .f32⟩
  | .hbm, ⟨87, _⟩ => ⟨S8192x1024, .f32⟩
  | .hbm, ⟨88, _⟩ => ⟨S8192x1024, .f32⟩
  | .hbm, ⟨89, _⟩ => ⟨S32x1x1024, .f32⟩
  | .hbm, ⟨90, _⟩ => ⟨S32x1024, .f32⟩
  | .hbm, ⟨91, _⟩ => ⟨S32x1x1024, .f32⟩
  | .hbm, ⟨92, _⟩ => ⟨S32x256x1024, .f32⟩
  | .hbm, ⟨93, _⟩ => ⟨S8192x1024, .f32⟩
  | .hbm, ⟨94, _⟩ => ⟨S_, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S32x1x1024, .f32⟩
  | .hbm, ⟨99, _⟩ => ⟨S32x1024, .f32⟩
  | .hbm, ⟨100, _⟩ => ⟨S32x1x1024, .f32⟩
  | .hbm, ⟨101, _⟩ => ⟨S32x256x1024, .f32⟩
  | .hbm, ⟨102, _⟩ => ⟨S8192x1024, .f32⟩
  | .hbm, ⟨103, _⟩ => ⟨S8192x1024, .f32⟩
  | .hbm, ⟨104, _⟩ => ⟨S8192x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_cst_7 : Ref sig .tc := ⟨.hbm, 77, rfl⟩
abbrev main_v57 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_9 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== Side.lean ====
abbrev S8192x1024 : Shape := ⟨2, ![8192, 1024]⟩
abbrev S1024x1024 : Shape := ⟨2, ![1024, 1024]⟩
abbrev S16x256x2x128 : Shape := ⟨4, ![16, 256, 2, 128]⟩
abbrev S4x256x2x128 : Shape := ⟨4, ![4, 256, 2, 128]⟩
abbrev S1024x256 : Shape := ⟨2, ![1024, 256]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S16x256x2x128, .f32⟩
  | .hbm, ⟨4, _⟩ => ⟨S16x256x2x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S4x256x2x128, .f32⟩
  | .local _ .vmem, ⟨6, _⟩ => ⟨S4x256x2x128, .f32⟩
  | .local _ .vmem, ⟨7, _⟩ => ⟨S4x256x2x128, .f32⟩
  | .local _ .vmem, ⟨8, _⟩ => ⟨S4x256x2x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let v4 : BitVec 1 := Scalar.cmpi .slt arg0 c4_i32
  let v5 : BitVec 32 := Scalar.extui v4
  let c0_i32 : BitVec 32 := 0#32
  let v6 : BitVec 1 := Scalar.cmpi .ne v5 c0_i32
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 4 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SideRefIdeal.lean ====
abbrev S8192x1024 : Shape := ⟨2, ![8192, 1024]⟩
abbrev S1024x1024 : Shape := ⟨2, ![1024, 1024]⟩
abbrev S4096x256 : Shape := ⟨2, ![4096, 256]⟩
abbrev S16x256x2x128 : Shape := ⟨4, ![16, 256, 2, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S4096x256, .f32⟩
  | .hbm, ⟨6, _⟩ => ⟨S16x256x2x128, .f32⟩
  | .hbm, ⟨7, _⟩ => ⟨S4096x256, .f32⟩
  | .hbm, ⟨8, _⟩ => ⟨S16x256x2x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== MixRoute.lean ====
abbrev S4096x1024 : Shape := ⟨2, ![4096, 1024]⟩
abbrev S8192x7168 : Shape := ⟨2, ![8192, 7168]⟩
abbrev S8192x1024 : Shape := ⟨2, ![8192, 1024]⟩
abbrev S32x6x1024 : Shape := ⟨3, ![32, 6, 1024]⟩
abbrev S4x1024 : Shape := ⟨2, ![4, 1024]⟩
abbrev S1024x1024 : Shape := ⟨2, ![1024, 1024]⟩
abbrev S1024x128 : Shape := ⟨2, ![1024, 128]⟩
abbrev S8192x128 : Shape := ⟨2, ![8192, 128]⟩
abbrev S256x1024 : Shape := ⟨2, ![256, 1024]⟩
abbrev S1x6x1024 : Shape := ⟨3, ![1, 6, 1024]⟩
abbrev S256x128 : Shape := ⟨2, ![256, 128]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩

abbrev nBuf : Space → Nat
  | .hbm => 15
  | .vmem => 29
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S8192x7168, .bf16⟩
  | .hbm, ⟨5, _⟩ => ⟨S8192x1024, .f32⟩
  | .hbm, ⟨6, _⟩ => ⟨S32x6x1024, .f32⟩
  | .hbm, ⟨7, _⟩ => ⟨S4x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x128, .f32⟩
  | .hbm, ⟨12, _⟩ => ⟨S8192x1024, .f32⟩
  | .hbm, ⟨13, _⟩ => ⟨S8192x1024, .f32⟩
  | .hbm, ⟨14, _⟩ => ⟨S8192x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x6x1024, .f32⟩
  | .local _ .vmem, ⟨17, _⟩ => ⟨S1x6x1024, .f32⟩
  | .local _ .vmem, ⟨18, _⟩ => ⟨S4x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x128, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x128, .f32⟩
  | .local _ .vmem, ⟨28, _⟩ => ⟨S256x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c16_i32_0 : BitVec 32 := 16#32
  let v2 : BitVec 32 := Scalar.addi v1 c16_i32_0
  let c0_i32_1 : BitVec 32 := 0#32
  let c0_i32_2 : BitVec 32 := 0#32
  ![v2.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixRouteRefIdeal.lean ====
abbrev S4096x1024 : Shape := ⟨2, ![4096, 1024]⟩
abbrev S8192x7168 : Shape := ⟨2, ![8192, 7168]⟩
abbrev S8192x1024 : Shape := ⟨2, ![8192, 1024]⟩
abbrev S32x6x1024 : Shape := ⟨3, ![32, 6, 1024]⟩
abbrev S4x1024 : Shape := ⟨2, ![4, 1024]⟩
abbrev S1024x1024 : Shape := ⟨2, ![1024, 1024]⟩
abbrev S1024x128 : Shape := ⟨2, ![1024, 128]⟩
abbrev S_ : Shape := ⟨0, ![]⟩
abbrev S32x1x1024 : Shape := ⟨3, ![32, 1, 1024]⟩
abbrev S32x1024 : Shape := ⟨2, ![32, 1024]⟩
abbrev S32x256x1024 : Shape := ⟨3, ![32, 256, 1024]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S8192x7168, .bf16⟩
  | .hbm, ⟨5, _⟩ => ⟨S8192x1024, .f32⟩
  | .hbm, ⟨6, _⟩ => ⟨S32x6x1024, .f32⟩
  | .hbm, ⟨7, _⟩ => ⟨S4x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x128, .f32⟩
  | .hbm, ⟨12, _⟩ => ⟨S8192x1024, .bf16⟩
  | .hbm, ⟨13, _⟩ => ⟨S8192x1024, .f32⟩
  | .hbm, ⟨14, _⟩ => ⟨S8192x1024, .bf16⟩
  | .hbm, ⟨15, _⟩ => ⟨S8192x1024, .f32⟩
  | .hbm, ⟨16, _⟩ => ⟨S8192x1024, .bf16⟩
  | .hbm, ⟨17, _⟩ => ⟨S8192x1024, .f32⟩
  | .hbm, ⟨18, _⟩ => ⟨S1024x1024, .f32⟩
  | .hbm, ⟨19, _⟩ => ⟨S8192x1024, .f32⟩
  | .hbm, ⟨20, _⟩ => ⟨S8192x1024, .bf16⟩
  | .hbm, ⟨21, _⟩ => ⟨S8192x1024, .f32⟩
  | .hbm, ⟨22, _⟩ => ⟨S1024x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S1024x1024, .f32⟩
  | .hbm, ⟨44, _⟩ => ⟨S8192x1024, .f32⟩
  | .hbm, ⟨45, _⟩ => ⟨S32x1x1024, .f32⟩
  | .hbm, ⟨46, _⟩ => ⟨S32x1024, .f32⟩
  | .hbm, ⟨47, _⟩ => ⟨S32x1x1024, .f32⟩
  | .hbm, ⟨48, _⟩ => ⟨S32x256x1024, .f32⟩
  | .hbm, ⟨49, _⟩ => ⟨S8192x1024, .f32⟩
  | .hbm, ⟨50, _⟩ => ⟨S1x1024, .f32⟩
  | .hbm, ⟨51, _⟩ => ⟨S1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S1x1024, .f32⟩
  | .hbm, ⟨86, _⟩ => ⟨S8192x1024, .f32⟩
  | .hbm, ⟨87, _⟩ => ⟨S8192x1024, .f32⟩
  | .hbm, ⟨88, _⟩ => ⟨S32x1x1024, .f32⟩
  | .hbm, ⟨89, _⟩ => ⟨S32x1024, .f32⟩
  | .hbm, ⟨90, _⟩ => ⟨S32x1x1024, .f32⟩
  | .hbm, ⟨91, _⟩ => ⟨S32x256x1024, .f32⟩
  | .hbm, ⟨92, _⟩ => ⟨S8192x1024, .f32⟩
  | .hbm, ⟨93, _⟩ => ⟨S_, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S32x1x1024, .f32⟩
  | .hbm, ⟨98, _⟩ => ⟨S32x1024, .f32⟩
  | .hbm, ⟨99, _⟩ => ⟨S32x1x1024, .f32⟩
  | .hbm, ⟨100, _⟩ => ⟨S32x256x1024, .f32⟩
  | .hbm, ⟨101, _⟩ => ⟨S8192x1024, .f32⟩
  | .hbm, ⟨102, _⟩ => ⟨S8192x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_6 : Ref sig .tc := ⟨.hbm, 73, rfl⟩
abbrev main_v54 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_cst_8 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_9 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]
-- ==== Proof.Softmax.lean ====
/- Facts about extended reals that the attention proofs share: which values are real numbers, the greatest of a finite
   family, and a softmax with an extra logit in its denominator, whose weights may be divided before or after the product
   with the values. -/
module

public import Idealize.ShloMosaic.PureOps.Ideal.Laws

@[expose] public section

noncomputable section

namespace Cert.Softmax

open Idealize.ShloMosaic

/-- The extended real is a real number. -/
def IsReal (x : EReal) : Prop := x ≠ ⊤ ∧ x ≠ ⊥

theorem IsReal.coe (r : ℝ) : IsReal (r : EReal) := ⟨EReal.coe_ne_top r, EReal.coe_ne_bot r⟩

theorem IsReal.exists {x : EReal} (h : IsReal x) : ∃ r : ℝ, x = (r : EReal) :=
  ⟨x.toReal, (EReal.coe_toReal h.1 h.2).symm⟩

theorem IsReal.add {x y : EReal} (hx : IsReal x) (hy : IsReal y) : IsReal (x + y) := by
  obtain ⟨a, rfl⟩ := hx.exists; obtain ⟨b, rfl⟩ := hy.exists
  exact EReal.coe_add a b ▸ IsReal.coe _

theorem IsReal.sub {x y : EReal} (hx : IsReal x) (hy : IsReal y) : IsReal (x - y) := by
  obtain ⟨a, rfl⟩ := hx.exists; obtain ⟨b, rfl⟩ := hy.exists
  exact EReal.coe_sub a b ▸ IsReal.coe _

theorem IsReal.mul {x y : EReal} (hx : IsReal x) (hy : IsReal y) : IsReal (x * y) := by
  obtain ⟨a, rfl⟩ := hx.exists; obtain ⟨b, rfl⟩ := hy.exists
  exact EReal.coe_mul a b ▸ IsReal.coe _

theorem IsReal.neg {x : EReal} (hx : IsReal x) : IsReal (-x) := by
  obtain ⟨a, rfl⟩ := hx.exists
  exact EReal.coe_neg a ▸ IsReal.coe _

theorem IsReal.zero : IsReal 0 := IsReal.coe 0

theorem IsReal.sum {ι : Type} (s : Finset ι) {f : ι → EReal} (h : ∀ j, IsReal (f j)) : IsReal (∑ j ∈ s, f j) := by
  classical
  induction s using Finset.induction_on with
  | empty => simpa using IsReal.zero
  | insert a t ha ih => rw [Finset.sum_insert ha]; exact (h a).add ih

/-- The greatest of a finite family, −∞ for the empty one. -/
def top {ι : Type} [Fintype ι] (f : ι → EReal) : EReal := Finset.univ.fold max ⊥ f

theorem top_eq_sup {ι : Type} [Fintype ι] (f : ι → EReal) : top f = Finset.univ.sup f := rfl

theorem le_top {ι : Type} [Fintype ι] (f : ι → EReal) (j : ι) : f j ≤ top f :=
  Finset.le_sup (f := f) (Finset.mem_univ j)

theorem top_le {ι : Type} [Fintype ι] {f : ι → EReal} {y : EReal} (h : ∀ j, f j ≤ y) : top f ≤ y :=
  Finset.sup_le fun j _ => h j

theorem top_ne_top {ι : Type} [Fintype ι] {f : ι → EReal} (h : ∀ j, IsReal (f j)) : top f ≠ ⊤ :=
  ne_of_lt ((Finset.sup_lt_iff (lt_top_iff_ne_top.2 bot_ne_top)).2 fun j _ => lt_top_iff_ne_top.2 (h j).1)

theorem max_fin {x y : EReal} (hx : x ≠ ⊤) (hy : IsReal y) : IsReal (max x y) :=
  ⟨fun h => by rcases max_choice x y with e | e <;> rw [e] at h; exacts [hx h, hy.1 h],
   fun h => hy.2 (le_bot_iff.1 (h ▸ le_max_right x y))⟩

/-! ## The exponential of a real number, and division by a positive one -/

theorem exp_fin {x : EReal} (h : IsReal x) : IsReal (Ideal.exp x) ∧ 0 < Ideal.exp x := by
  obtain ⟨a, rfl⟩ := h.exists
  exact ⟨IsReal.coe _, EReal.coe_pos.2 (Real.exp_pos a)⟩

theorem div_of_pos {y : EReal} (hy : 0 < y) (x : EReal) : Ideal.div x y = x * y⁻¹ := by
  unfold Ideal.div; rw [if_neg hy.ne']

/-- A nonnegative real factor distributes over a sum of any extended reals. -/
theorem sum_mul_coe {ι : Type} (s : Finset ι) (f : ι → EReal) {c : ℝ} (hc : 0 ≤ c) :
    (∑ j ∈ s, f j) * (c : EReal) = ∑ j ∈ s, f j * (c : EReal) := by
  classical
  induction s using Finset.induction_on with
  | empty => simp
  | insert a t ha ih =>
    rw [Finset.sum_insert ha, Finset.sum_insert ha, ← ih]
    exact EReal.right_distrib_of_nonneg_of_ne_top (EReal.coe_nonneg.2 hc) (EReal.coe_ne_top c) _ _

theorem add_mul_coe (x y : EReal) {c : ℝ} (hc : 0 ≤ c) : (x + y) * (c : EReal) = x * c + y * c :=
  EReal.right_distrib_of_nonneg_of_ne_top (EReal.coe_nonneg.2 hc) (EReal.coe_ne_top c) _ _

/-- Dividing by a positive real number is multiplying by a nonnegative one. -/
theorem div_pos_fin {y : EReal} (hy : IsReal y) (h0 : 0 < y) : ∃ c : ℝ, 0 ≤ c ∧ ∀ x, Ideal.div x y = x * (c : EReal) := by
  obtain ⟨r, rfl⟩ := hy.exists
  refine ⟨r⁻¹, inv_nonneg.2 (EReal.coe_pos.1 h0).le, fun x => ?_⟩
  rw [div_of_pos h0, EReal.coe_inv]

/-- The weights may be divided by the denominator before the product with the values. -/
theorem sum_div {ι : Type} [Fintype ι] (p v : ι → EReal) {den : EReal} (hd : IsReal den) (h0 : 0 < den) :
    Ideal.div (∑ j, p j * v j) den = ∑ j, Ideal.div (p j) den * v j := by
  obtain ⟨c, hc, e⟩ := div_pos_fin hd h0
  rw [e, sum_mul_coe _ _ hc]
  exact Finset.sum_congr rfl fun j _ => by rw [e, mul_right_comm]

theorem add_div {den : EReal} (hd : IsReal den) (h0 : 0 < den) (x y : EReal) :
    Ideal.div (x + y) den = Ideal.div x den + Ideal.div y den := by
  obtain ⟨c, hc, e⟩ := div_pos_fin hd h0
  simp only [e, add_mul_coe _ _ hc]

/-! ## The softmax with an extra logit -/

/-- The greatest of the logits and the extra one. -/
def peak {ι : Type} [Fintype ι] (s : ι → EReal) (z : EReal) : EReal := max (top s) z

/-- The softmax's denominator: the exponentials' sum, the extra logit's among them. -/
def den {ι : Type} [Fintype ι] (s : ι → EReal) (z : EReal) : EReal :=
  ∑ j, Ideal.exp (s j - peak s z) + Ideal.exp (z - peak s z)

/-- The weighted sum of the values, each weight divided by the denominator first. -/
def attend {ι : Type} [Fintype ι] (s : ι → EReal) (z : EReal) (v : ι → EReal) : EReal :=
  ∑ j, Ideal.div (Ideal.exp (s j - peak s z)) (den s z) * v j

theorem peak_fin {ι : Type} [Fintype ι] {s : ι → EReal} {z : EReal} (hs : ∀ j, IsReal (s j)) (hz : IsReal z) :
    IsReal (peak s z) := max_fin (top_ne_top hs) hz

theorem den_fin {ι : Type} [Fintype ι] {s : ι → EReal} {z : EReal} (hs : ∀ j, IsReal (s j)) (hz : IsReal z) :
    IsReal (den s z) ∧ 0 < den s z := by
  have hp := peak_fin hs hz
  have he : ∀ j, IsReal (Ideal.exp (s j - peak s z)) ∧ 0 < Ideal.exp (s j - peak s z) := fun j => exp_fin ((hs j).sub hp)
  have h1 := exp_fin (hz.sub hp)
  refine ⟨(IsReal.sum _ fun j => (he j).1).add h1.1, ?_⟩
  exact lt_of_lt_of_le h1.2 (le_add_of_nonneg_left (Finset.sum_nonneg fun j _ => (he j).2.le))

/-- Dividing once, after the product with the values, gives the same. -/
theorem div_eq_attend {ι : Type} [Fintype ι] {s : ι → EReal} {z : EReal} (hs : ∀ j, IsReal (s j)) (hz : IsReal z)
    (v : ι → EReal) : Ideal.div (∑ j, Ideal.exp (s j - peak s z) * v j) (den s z) = attend s z v :=
  sum_div _ _ (den_fin hs hz).1 (den_fin hs hz).2

/-- The greatest of a family and one more, the one more last. -/
theorem top_snoc {n : ℕ} (f : Fin (n + 1) → EReal) (s : Fin n → EReal) (z : EReal) (hs : ∀ j : Fin n, f j.castSucc = s j)
    (hz : f (Fin.last n) = z) : top f = peak s z := by
  refine le_antisymm (top_le fun j => ?_) (max_le (top_le fun j => ?_) (hz ▸ le_top f _))
  · refine Fin.lastCases ?_ (fun i => ?_) j
    · rw [hz]; exact le_max_right _ _
    · rw [hs]; exact (le_top s i).trans (le_max_left _ _)
  · rw [← hs]; exact le_top f _

end Cert.Softmax

end
-- ==== Proof.Finite.lean ====
/- The preconditions read at an entry: a conjunction over a whole array that holds gives each entry's own, and an entry
   whose magnitude is below the infinite one is a real number. Also, what the patterns of the two infinities denote, and
   the greatest of a family as the operations compute it. -/
module

public import proofs.«01_k».proof.Proof.Softmax
public import Idealize.ShloMosaic.PureOps
public import Idealize.ShloMosaic.Lib.Pipeline.Value
public import Idealize.ShloMosaic.Lib.StableHlo

@[expose] public section

noncomputable section

namespace Cert.Finite

open Idealize.ShloMosaic Cert.Softmax

theorem ofBits_top : Ideal.ofBits .f32 0x7F800000#32 = ⊤ := by simp [Ideal.ofBits, Ideal.ieee]

theorem ofBits_bot : Ideal.ofBits .f32 0xFF800000#32 = ⊥ := by simp [Ideal.ofBits, Ideal.ieee]

theorem foldl_and {ι : Type} (x : ι → BitVec 1) (l : List ι) (b : BitVec 1)
    (h : l.foldl (fun r n => IntOp.andi r (x n)) b = 1#1) : b = 1#1 ∧ ∀ n ∈ l, x n = 1#1 := by
  induction l generalizing b with
  | nil => exact ⟨h, fun _ hn => absurd hn List.not_mem_nil⟩
  | cons a l ih =>
    obtain ⟨h1, h2⟩ := ih _ h
    have hb : ∀ p q : BitVec 1, p &&& q = 1#1 → p = 1#1 ∧ q = 1#1 := by decide
    obtain ⟨h3, h4⟩ := hb _ _ h1
    exact ⟨h3, fun n hn => by rcases List.mem_cons.1 hn with rfl | hn; exacts [h4, h2 n hn]⟩

/-- A conjunction over every axis that holds has every entry hold. -/
theorem all_of_reduce {s t u : Shape} {axes : List (Fin s.rank)} (x : IVec s 1) (v : IVec u 1) (h : s.ReducesTo axes t)
    (hu : 0 < u.numel) (ht : ∀ j j' : t.Idx, j = j') (j : t.Idx) (e : Host.reduce IntOp.andi x v h hu j = 1#1)
    (i : s.Idx) : x i = 1#1 := by
  have h2 := (foldl_and (fun n => x (s.rowMajor.symm n)) _ _ e).2 (s.rowMajor i)
    (List.mem_filter.2 ⟨List.mem_finRange _, decide_eq_true (ht _ _)⟩)
  simpa using h2

/-- An entry whose magnitude is below the infinite one is a real number. -/
theorem real_of_abs_lt {s t : Shape} {d : Fin t.rank → Fin s.rank} (x : FVec Ideal s .f32) (b : FVec Ideal t .f32)
    (hb : ∀ j, b j = ⊤) (hd : t.BroadcastsInDim s d) (i : s.Idx)
    (e : cmpf .olt (Host.absf x) (broadcastInDim s d hd b) i = 1#1) : IsReal (x i) := by
  have e' : BitVec.ofBool (decide (max (x i) (-(x i)) < (⊤ : EReal))) = 1#1 := by rw [← e, ← hb]; rfl
  have h : max (x i) (-(x i)) < (⊤ : EReal) := by
    by_contra hc; rw [decide_eq_false hc] at e'; exact absurd e' (by decide)
  refine ⟨fun ht => ?_, fun ht => ?_⟩
  · rw [ht] at h; exact absurd (le_max_left _ _) (not_le.2 h)
  · rw [ht] at h; exact absurd (le_max_right _ _) (not_le.2 h)

/-- So a whole array whose magnitudes are all below the infinite one holds real numbers. -/
theorem reals_of_all {s t u w : Shape} {axes : List (Fin s.rank)} {d : Fin t.rank → Fin s.rank} (x : FVec Ideal s .f32)
    (hd : t.BroadcastsInDim s d) (v : IVec u 1) (h : s.ReducesTo axes w) (hu : 0 < u.numel)
    (hw : ∀ j j' : w.Idx, j = j') (j : w.Idx)
    (e : Host.reduce IntOp.andi (cmpf .olt (Host.absf x) (broadcastInDim s d hd (constant t .f32 0x7F800000#32))) v h hu j
      = 1#1) (i : s.Idx) : IsReal (x i) :=
  real_of_abs_lt x _ (fun _ => ofBits_top) hd i (all_of_reduce _ v h hu hw j e i)

theorem and_one : ∀ p q : BitVec 1, IntOp.andi p q = 1#1 → p = 1#1 ∧ q = 1#1 := by decide

/-- The host's greatest over one axis, from −∞, is the greatest of the family along that axis. -/
theorem reduce_top {s t u : Shape} {a : Fin s.rank} (x : FVec Ideal s .f32) (init : FVec Ideal u .f32)
    (h' : s.ReducesTo [a] t) (h : s.Reduces [a] t) (hu : 0 < u.numel) (hb : init (Shape.Idx.first hu) = ⊥) (j : t.Idx)
    {n : ℕ} (hn : s.size a = n) (f : Fin n → EReal) (hf : ∀ k : Fin (s.size a), x (h.lift j k) = f (k.cast hn)) :
    Host.reduce FloatOps.maximumf x init h' hu j = top f := by
  subst hn
  rw [Host.reduce_eq_fold_single FloatOps.maximumf x init h' h hu, hb]
  exact congrArg (Finset.univ.fold max ⊥) (funext hf)

/-- A kernel's greatest over one axis likewise. -/
theorem multiReduction_top {s t : Shape} {a : Fin s.rank} (x : FVec Ideal s .f32) (h : s.Reduces [a] t)
    (hφ : FKind.Formats .f32) (hacc : 0xFF800000#32 = FKind.maximumf.neutral .f32 hφ) (j : t.Idx)
    {n : ℕ} (hn : s.size a = n) (f : Fin n → EReal) (hf : ∀ k : Fin (s.size a), x (h.lift j k) = f (k.cast hn)) :
    multiReduction .maximumf [a] t x 0xFF800000#32 h hφ hacc j = top f := by
  subst hn
  rw [Ideal.multiReduction_maximumf_single]
  exact congrArg₂ (Finset.univ.fold max) ofBits_bot (funext hf)

end Cert.Finite

end
-- ==== Proof.CtxSpec.lean ====
/- The context attention as one function of its arguments: token `i` of batch `b`, query head `g` of key-value head `h`,
   attends to its own batch's 256 tokens and to the head's extra logit. -/
module

public import proofs.«01_k».proof.Proof.Finite
public import Idealize.ShloMosaic.Lib.Pointwise

@[expose] public section

noncomputable section

namespace Cert.CtxSpec

open Idealize.ShloMosaic Cert.Softmax

/-- The logits' scale, one over the square root of the head's width, as the float both programs multiply by. -/
def scale : EReal := Ideal.ofBits .f32 0x3DB504F3#32

theorem scale_real : IsReal scale := by
  refine ⟨?_, ?_⟩ <;> simp [scale, Ideal.ofBits, Ideal.ieee, -EReal.coe_mul]

abbrev Proj := (⟨2, ![8192, 7168]⟩ : Shape).Idx → EReal
abbrev Side := (⟨2, ![8192, 1024]⟩ : Shape).Idx → EReal
abbrev Sink := (⟨1, ![8]⟩ : Shape).Idx → EReal

def query (x0 : Proj) (b : Fin 16) (h : Fin 2) (g : Fin 4) (i : Fin 256) (e : Fin 128) : EReal :=
  x0 (ix2 ⟨256 * b.val + i.val, by omega⟩ ⟨512 * h.val + 128 * g.val + e.val, by omega⟩)

def key (x1 : Side) (b : Fin 16) (h : Fin 2) (j : Fin 256) (e : Fin 128) : EReal :=
  x1 (ix2 ⟨256 * b.val + j.val, by omega⟩ ⟨128 * h.val + e.val, by omega⟩)

def value (x1 : Side) (b : Fin 16) (h : Fin 2) (j : Fin 256) (e : Fin 128) : EReal :=
  x1 (ix2 ⟨256 * b.val + j.val, by omega⟩ ⟨256 + 128 * h.val + e.val, by omega⟩)

def extra (x2 : Sink) (h : Fin 2) (g : Fin 4) : EReal := x2 (ix1 ⟨4 * h.val + g.val, by omega⟩)

def logit (x0 : Proj) (x1 : Side) (b : Fin 16) (h : Fin 2) (g : Fin 4) (i j : Fin 256) : EReal :=
  (∑ e : Fin 128, query x0 b h g i e * key x1 b h j e) * scale

/-- One entry of the attention's result. -/
def entry (x0 : Proj) (x1 : Side) (x2 : Sink) (b : Fin 16) (h : Fin 2) (g : Fin 4) (i : Fin 256) (d : Fin 128) : EReal :=
  attend (logit x0 x1 b h g i) (extra x2 h g) fun j => value x1 b h j d

theorem logit_real {x0 : Proj} {x1 : Side} (h0 : ∀ i, IsReal (x0 i)) (h1 : ∀ i, IsReal (x1 i)) (b : Fin 16) (h : Fin 2)
    (g : Fin 4) (i j : Fin 256) : IsReal (logit x0 x1 b h g i j) :=
  (IsReal.sum _ fun _ => (h0 _).mul (h1 _)).mul scale_real

end Cert.CtxSpec

end
-- ==== Proof.CtxKernel.lean ====
/- The context attention's kernel: what a grid point stores, as a function of its blocks, and the result array as a
   function of the arguments. The four heads of a block are four stores of 128 columns; each is the same payload, at its
   own columns of the queries and its own word of the extra logits. -/
module

public import proofs.«01_k».proof.Proof.CtxSpec
public import proofs.«01_k».proof.Proof.Gen.CtxIdeal.Value
public import Idealize.ShloMosaic.Lib.Pipeline.ValueKit.Tiles

@[expose] public section

set_option maxRecDepth 16384

noncomputable section

namespace Cert.CtxKernel

open Cert.CtxIdeal Cert.CtxIdeal.Gen Cert.CtxIdeal.Value Idealize.ShloMosaic Idealize.ShloMosaic.TcCoe Idealize.SL.Sem
open Cert.Softmax Cert.CtxSpec

/-- The quotient the kernel forms of a row of logits, its extra logit and a column of values. -/
def quotient {n : Nat} (s : Fin n → EReal) (z : EReal) (v : Fin n → EReal) : EReal :=
  Ideal.div (∑ j, Ideal.exp (s j - peak s z) * v j) (den s z)

/-- One head's payload at an index. -/
theorem pay_at (k v : FVec Ideal S256x128 .f32) (q : FVec Ideal S256x128 .bf16) (z : EReal) (r : Fin 256) (d : Fin 128) :
    k0_pay5 (F := Ideal) k v q z (ix2 r d)
      = quotient (fun j : Fin 256 => (∑ e : Fin 128, q (ix2 r e) * k (ix2 j e)) * scale) z fun j => v (ix2 j d) := by
  pointwise [k0_pay5, k0_pay3, k0_pay4]
  rw [Finite.ofBits_bot]
  rfl

/-- What head `g` of a block of key-value head `h` holds. -/
def cell (x0 : FVec Ideal S8 .f32) (x1 : FVec Ideal S256x512 .bf16) (x2 x3 : FVec Ideal S256x128 .f32) (h : Fin 2) (g : Fin 4)
    (r : Fin 256) (d : Fin 128) : EReal :=
  quotient (fun j : Fin 256 => (∑ e : Fin 128, x1 (ix2 r ⟨128 * g.val + e.val, by omega⟩) * x2 (ix2 j e)) * scale)
    (x0 (ix1 ⟨4 * h.val + g.val, by omega⟩)) fun j => x3 (ix2 j d)

/-- The store of head `p`, wherever it holds a place of head `g`: the two heads are one. -/
theorem tile (x0 : FVec Ideal S8 .f32) (x1 : FVec Ideal S256x512 .bf16) (x2 x3 : FVec Ideal S256x128 .f32) (h : Fin 2)
    (g : Fin 4) (r : Fin 256) (d : Fin 128) (p : Nat) (o : Nat) (ho : o = 128 * p)
    (inb : ∀ a, (![0, o] : Fin 2 → Nat) a + S256x128.size a ≤ S256x512.size a) (z : EReal)
    (hz : ∀ hp : 4 * h.val + p < 8, z = x0 (ix1 ⟨4 * h.val + p, hp⟩)) :
    View.TileAt (S := S256x512) (Val := Elt Ideal) (e := .bf16) (ix2 r ⟨128 * g.val + d.val, by omega⟩) ![0, o] S256x128.size
      (k0_pay5 (F := Ideal) x2 x3 (View.ld x1 (Rect.unit (s := S256x512) ![0, o] S256x128.size inb)) z)
      (cell x0 x1 x2 x3 h g r d) := by
  intro x hx
  have e0 : r.val = 0 + (x 0).val := hx 0
  have e1 : 128 * g.val + d.val = o + (x 1).val := hx 1
  have l1 : (x 1).val < 128 := (x 1).isLt
  have hp : p = g.val := by omega
  subst hp
  have hx' : x = ix2 r d := by
    funext a; apply Fin.ext
    match a with
    | ⟨0, _⟩ => show (x 0).val = r.val; omega
    | ⟨1, _⟩ => show (x 1).val = d.val; omega
  rw [hx']
  refine (pay_at _ _ _ _ _ _).trans ?_
  unfold cell
  rw [hz (by omega)]
  congr 1
  funext j
  congr 1
  refine Finset.sum_congr rfl fun e _ => ?_
  congr 1
  refine View.ld_unit_apply_of _ _ _ _ _ _ fun a => ?_
  match a with
  | ⟨0, _⟩ => show r.val = 0 + r.val; omega
  | ⟨1, _⟩ => show 128 * g.val + e.val = o + e.val; omega

theorem zero2 : (![0, 0] : Fin 2 → Nat) = fun _ => 0 := funext fun a => by fin_cases a <;> rfl

/-- The word of the extra logits the kernel reads for head `p`. -/
theorem word (x0 : Vec Ideal S8 .f32) (i : grid0.Coords) (p : Fin 4) (x : S1.Idx) (hp : 4 * (i 1).val + p.val < 8) :
    View.ld x0 (Rect.unit (s := S8) (k0_off1 i (BitVec.ofNat 32 p.val)) S1.size (k0_off1_inb i p)) x
      = x0 (ix1 ⟨4 * (i 1).val + p.val, hp⟩) := by
  refine View.ld_unit_apply_of _ _ _ _ _ _ fun a => ?_
  have e := congrFun (k0_off1_eq i p) 0
  match a with
  | ⟨0, _⟩ =>
    have l : (x 0).val < 1 := (x 0).isLt
    show 4 * (i 1).val + p.val = k0_off1 i (BitVec.ofNat 32 p.val) 0 + (x 0).val
    rw [e]
    show 4 * (i 1).val + p.val = 4 * (i 1).val + p.val + (x 0).val; omega

theorem out_at (c : Dev nD) (i : grid0.Coords) (arg2 : Memref sig .tc .smem S8 .f32) (harg2 : arg2.IsWhole) (arg3 : Memref sig .tc .vmem S256x512 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x512 .bf16) (harg6 : arg6.IsWhole)
    (x0 : Vec Ideal S8 .f32) (x1 : Vec Ideal S256x512 .bf16) (x2 : Vec Ideal S256x128 .f32) (x3 : Vec Ideal S256x128 .f32)
    (g : Fin 4) (r : Fin 256) (d : Fin 128) :
    out0_A_4 (F := Ideal) c i arg2 harg2 arg3 harg3 arg4 harg4 arg5 harg5 arg6 harg6 x0 x1 x2 x3 (ix2 r ⟨128 * g.val + d.val, by omega⟩)
      = cell x0 x1 x2 x3 (i 1) g r d := by
  unfold out0_A_4
  rw [View.read_writes_junk_eq_canon]
  refine View.canon_eq_of_allAt _ _ _ (cover0_A_4 c i arg2 harg2 arg3 harg3 arg4 harg4 arg5 harg5 arg6 harg6 x0 x1 x2 x3 _) ?_
  let head (off : Fin 2 → Nat) (inb : ∀ a, off a + S256x128.size a ≤ S256x512.size a) (p : Fin 4) : FVec Ideal S256x128 .bf16 :=
    k0_pay5 (View.readAt (Elt Ideal) arg4.view (Rect.unit (s := S256x128) ![0, 0] S256x128.size inb_S256x128_S256x128_0_0).toLoadRect (harg4.unread x2))
      (View.readAt (Elt Ideal) arg5.view (Rect.unit (s := S256x128) ![0, 0] S256x128.size inb_S256x128_S256x128_0_0).toLoadRect (harg5.unread x3))
      (View.readAt (Elt Ideal) arg3.view (Rect.unit (s := S256x512) off S256x128.size inb).toLoadRect (harg3.unread x1))
      (View.readAt (Elt Ideal) arg2.view (Rect.unit (s := S8) (k0_off1 i (BitVec.ofNat 32 p.val)) S1.size (k0_off1_inb i p)).toLoadRect (harg2.unread x0) (Shape.Idx.first (numel1_S1.symm ▸ Nat.one_pos)))
  show View.AllAt ([⟨Rect.unit (s := S256x512) ![0, 384] S256x128.size inb_S256x512_S256x128_0_384, head ![0, 384] inb_S256x512_S256x128_0_384 3⟩,
    ⟨Rect.unit (s := S256x512) ![0, 256] S256x128.size inb_S256x512_S256x128_0_256, head ![0, 256] inb_S256x512_S256x128_0_256 2⟩,
    ⟨Rect.unit (s := S256x512) ![0, 128] S256x128.size inb_S256x512_S256x128_0_128, head ![0, 128] inb_S256x512_S256x128_0_128 1⟩,
    ⟨Rect.unit (s := S256x512) ![0, 0] S256x128.size inb_S256x512_S256x128_0_0, head ![0, 0] inb_S256x512_S256x128_0_0 0⟩] : List (View.Piece (Elt Ideal) S256x512 .bf16)) _ _
  have ek : View.readAt (Elt Ideal) arg4.view (Rect.unit (s := S256x128) ![0, 0] S256x128.size inb_S256x128_S256x128_0_0).toLoadRect (harg4.unread x2) = x2 := by
    rw [View.readAt_eq_ld, harg4.read_unread, View.ld_unit_zero zero2]
  have ev : View.readAt (Elt Ideal) arg5.view (Rect.unit (s := S256x128) ![0, 0] S256x128.size inb_S256x128_S256x128_0_0).toLoadRect (harg5.unread x3) = x3 := by
    rw [View.readAt_eq_ld, harg5.read_unread, View.ld_unit_zero zero2]
  have each (p : Fin 4) (o : Nat) (ho : o = 128 * p.val) (inb) :
      View.TileAt (S := S256x512) (Val := Elt Ideal) (e := .bf16) (ix2 r ⟨128 * g.val + d.val, by omega⟩) ![0, o] S256x128.size
        (head ![0, o] inb p) (cell x0 x1 x2 x3 (i 1) g r d) := by
    have eh : head ![0, o] inb p = k0_pay5 x2 x3 (View.ld x1 (Rect.unit (s := S256x512) ![0, o] S256x128.size inb))
        (View.ld x0 (Rect.unit (s := S8) (k0_off1 i (BitVec.ofNat 32 p.val)) S1.size (k0_off1_inb i p))
          (Shape.Idx.first (numel1_S1.symm ▸ Nat.one_pos))) := by
      show k0_pay5 _ _ _ _ = _
      rw [ek, ev, View.readAt_eq_ld, View.readAt_eq_ld, harg3.read_unread, harg2.read_unread]
    rw [eh]
    exact tile x0 x1 x2 x3 (i 1) g r d p.val o ho inb _ fun hp => word x0 i p _ hp
  refine View.allAt_cons_unit _ _ _ _ _ (each 3 _ rfl _) ?_
  refine View.allAt_cons_unit _ _ _ _ _ (each 2 _ rfl _) ?_
  refine View.allAt_cons_unit _ _ _ _ _ (each 1 _ rfl _) ?_
  exact View.allAt_cons_unit _ _ _ _ _ (each 0 _ rfl _) (View.allAt_nil _ _)

/-- The result array as one function of the argument arrays. -/
def G (a0 : FVec Ideal S8192x7168 .bf16) (a1 : FVec Ideal S8192x1024 .f32) (a2 : FVec Ideal S8 .f32) :
    FVec Ideal S4096x1024 .bf16 := fun y =>
  let b : Fin 16 := ⟨(y 0).val / 256, by have : (y 0).val < 4096 := (y 0).isLt; omega⟩
  let h : Fin 2 := ⟨(y 1).val / 512, by have : (y 1).val < 1024 := (y 1).isLt; omega⟩
  let g : Fin 4 := ⟨(y 1).val % 512 / 128, by omega⟩
  quotient (logit a0 a1 b h g ⟨(y 0).val % 256, by omega⟩) (extra a2 h g)
    fun j => value a1 b h j ⟨(y 1).val % 128, by omega⟩

theorem G_at (a0 : FVec Ideal S8192x7168 .bf16) (a1 : FVec Ideal S8192x1024 .f32) (a2 : FVec Ideal S8 .f32) (b : Fin 16)
    (h : Fin 2) (g : Fin 4) (i : Fin 256) (d : Fin 128) (y : S4096x1024.Idx) (hr : (y 0).val = 256 * b.val + i.val)
    (hw : (y 1).val = 512 * h.val + 128 * g.val + d.val) :
    G a0 a1 a2 y = quotient (logit a0 a1 b h g i) (extra a2 h g) fun j => value a1 b h j d := by
  have eb : (⟨(y 0).val / 256, by have : (y 0).val < 4096 := (y 0).isLt; omega⟩ : Fin 16) = b := Fin.ext (by show _ / _ = _; omega)
  have eh : (⟨(y 1).val / 512, by have : (y 1).val < 1024 := (y 1).isLt; omega⟩ : Fin 2) = h := Fin.ext (by show _ / _ = _; omega)
  have eg : (⟨(y 1).val % 512 / 128, by omega⟩ : Fin 4) = g := Fin.ext (by show _ / _ = _; omega)
  have ei : (⟨(y 0).val % 256, by omega⟩ : Fin 256) = i := Fin.ext (by show _ % _ = _; omega)
  have ed : (⟨(y 1).val % 128, by omega⟩ : Fin 128) = d := Fin.ext (by show _ % _ = _; omega)
  unfold G
  dsimp only
  rw [eb, eh, eg, ei, ed]

variable (m : (ℓ : Loc nD τ sig) → Buf (Elt Ideal) ℓ) (ρ : Dev nD → PrngReg)

/-- Each window's block index at a grid point. -/
theorem idx : ∀ t : Fin cfg0.N, win0_0.index t (0 : Fin 1) = 0
    ∧ win0_1.index t (0 : Fin 2) = (grid0.coords t 0).val ∧ win0_1.index t (1 : Fin 2) = (grid0.coords t 1).val
    ∧ win0_2.index t (0 : Fin 2) = (grid0.coords t 0).val ∧ win0_2.index t (1 : Fin 2) = (grid0.coords t 1).val
    ∧ win0_3.index t (0 : Fin 2) = (grid0.coords t 0).val ∧ win0_3.index t (1 : Fin 2) = 2 + (grid0.coords t 1).val
    ∧ win0_4.index t (0 : Fin 2) = (grid0.coords t 0).val ∧ win0_4.index t (1 : Fin 2) = (grid0.coords t 1).val :=
  (by decide +kernel : ∀ t : Fin grid0.N, _)

theorem at_point : ∀ (b : Fin 16) (h : Fin 2), ∃ t : Fin cfg0.N, (grid0.coords t 0).val = b.val ∧ (grid0.coords t 1).val = h.val :=
  (by decide +kernel : ∀ (b : Fin 16) (h : Fin 2), ∃ t : Fin grid0.N, _)

theorem emb4 (t : Fin cfg0.N) (j : S256x512.Idx) :
    (((cfg0.win 4).blk t).view.emb j 0).val = 256 * (grid0.coords t 0).val + (j 0).val
    ∧ (((cfg0.win 4).blk t).view.emb j 1).val = 512 * (grid0.coords t 1).val + (j 1).val := by
  obtain ⟨-, -, -, -, -, -, -, e0, e1⟩ := idx t
  constructor
  · show win0_4.index t (0 : Fin 2) * 256 + 1 * (j 0).val = _; omega
  · show win0_4.index t (1 : Fin 2) * 512 + 1 * (j 1).val = _; omega

theorem iblk0 (c : Dev nD) (t : Fin cfg0.N) (h : Fin 2) (g : Fin 4) :
    iblk m c 0 t (ix1 ⟨4 * h.val + g.val, by omega⟩) = extra (V m c main_arg2) h g := by
  obtain ⟨e0, -⟩ := idx t
  refine congrArg (V m c main_arg2) (funext fun a => Fin.ext ?_)
  match a with
  | ⟨0, _⟩ => show win0_0.index t (0 : Fin 1) * 8 + 1 * (4 * h.val + g.val) = 4 * h.val + g.val; omega

theorem iblk1 (c : Dev nD) (t : Fin cfg0.N) (g : Fin 4) (r : Fin 256) (e : Fin 128) :
    iblk m c 1 t (ix2 r ⟨128 * g.val + e.val, by omega⟩)
      = query (V m c main_arg0) (grid0.coords t 0) (grid0.coords t 1) g r e := by
  obtain ⟨-, e0, e1, -⟩ := idx t
  refine congrArg (V m c main_arg0) (funext fun a => Fin.ext ?_)
  match a with
  | ⟨0, _⟩ => show win0_1.index t (0 : Fin 2) * 256 + 1 * r.val = 256 * (grid0.coords t 0).val + r.val; omega
  | ⟨1, _⟩ =>
    show win0_1.index t (1 : Fin 2) * 512 + 1 * (128 * g.val + e.val) = 512 * (grid0.coords t 1).val + 128 * g.val + e.val
    omega

theorem iblk2 (c : Dev nD) (t : Fin cfg0.N) (j : Fin 256) (e : Fin 128) :
    iblk m c 2 t (ix2 j e) = key (V m c main_arg1) (grid0.coords t 0) (grid0.coords t 1) j e := by
  obtain ⟨-, -, -, e0, e1, -⟩ := idx t
  refine congrArg (V m c main_arg1) (funext fun a => Fin.ext ?_)
  match a with
  | ⟨0, _⟩ => show win0_2.index t (0 : Fin 2) * 256 + 1 * j.val = 256 * (grid0.coords t 0).val + j.val; omega
  | ⟨1, _⟩ => show win0_2.index t (1 : Fin 2) * 128 + 1 * e.val = 128 * (grid0.coords t 1).val + e.val; omega

theorem iblk3 (c : Dev nD) (t : Fin cfg0.N) (j : Fin 256) (e : Fin 128) :
    iblk m c 3 t (ix2 j e) = value (V m c main_arg1) (grid0.coords t 0) (grid0.coords t 1) j e := by
  obtain ⟨-, -, -, -, -, e0, e1, -⟩ := idx t
  refine congrArg (V m c main_arg1) (funext fun a => Fin.ext ?_)
  match a with
  | ⟨0, _⟩ => show win0_3.index t (0 : Fin 2) * 256 + 1 * j.val = 256 * (grid0.coords t 0).val + j.val; omega
  | ⟨1, _⟩ => show win0_3.index t (1 : Fin 2) * 128 + 1 * e.val = 256 + 128 * (grid0.coords t 1).val + e.val; omega

/-- The block's entries from the argument arrays. -/
theorem cell_eq (c : Dev nD) (t : Fin cfg0.N) (g : Fin 4) (r : Fin 256) (d : Fin 128) :
    cell (iblk m c 0 t) (iblk m c 1 t) (iblk m c 2 t) (iblk m c 3 t) (grid0.coords t 1) g r d
      = quotient (logit (V m c main_arg0) (V m c main_arg1) (grid0.coords t 0) (grid0.coords t 1) g r)
          (extra (V m c main_arg2) (grid0.coords t 1) g)
          fun j => value (V m c main_arg1) (grid0.coords t 0) (grid0.coords t 1) j d := by
  unfold cell logit
  refine congr (congr (congrArg quotient (funext fun j => ?_)) (iblk0 m c t _ g)) (funext fun j => iblk3 m c t j d)
  refine congrArg (· * scale) (Finset.sum_congr rfl fun e _ => ?_)
  exact congr (congrArg _ (iblk1 m c t g r e)) (iblk2 m c t j e)

/-- What a point leaves at a place of its block, from the argument arrays. -/
theorem block_at (c : Dev nD) (t : Fin cfg0.N) (r : Fin 256) (w : Fin 512) :
    out0_A_4 c (grid0.coords t) (ms0_0 t) (hs0_0 t) (ms0_1 t) (hs0_1 t) (ms0_2 t) (hs0_2 t) (ms0_3 t) (hs0_3 t)
        (ms0_4 t) (hs0_4 t) (iblk m c 0 t) (iblk m c 1 t) (iblk m c 2 t) (iblk m c 3 t) (ix2 r w)
      = G (V m c main_arg0) (V m c main_arg1) (V m c main_arg2) (((cfg0.win 4).blk t).view.emb (ix2 r w)) := by
  obtain ⟨e0, e1⟩ := emb4 t (ix2 r w)
  have ew : w = ⟨128 * (w.val / 128) + w.val % 128, by omega⟩ := Fin.ext (by show w.val = 128 * (w.val / 128) + w.val % 128; omega)
  have h1 := (out_at c (grid0.coords t) (ms0_0 t) (hs0_0 t) (ms0_1 t) (hs0_1 t) (ms0_2 t) (hs0_2 t) (ms0_3 t) (hs0_3 t) (ms0_4 t)
    (hs0_4 t) (iblk m c 0 t) (iblk m c 1 t) (iblk m c 2 t) (iblk m c 3 t) ⟨w.val / 128, by omega⟩ r
    ⟨w.val % 128, by omega⟩).trans (cell_eq m c t _ _ _)
  have h2 := G_at (V m c main_arg0) (V m c main_arg1) (V m c main_arg2) (grid0.coords t 0) (grid0.coords t 1)
    ⟨w.val / 128, by omega⟩ r ⟨w.val % 128, by omega⟩ (((cfg0.win 4).blk t).view.emb (ix2 r w)) e0
    (e1.trans (by show 512 * (grid0.coords t 1).val + w.val = 512 * (grid0.coords t 1).val + 128 * (w.val / 128) + w.val % 128; omega))
  rw [h2, ← h1, ← ew]

/-- What a point writes back is its block of `G`. -/
theorem flushed (c : Dev nD) (t : Fin cfg0.N) : (dats m 0 c).flushed 4 t
    = ((cfg0.win 4).blk t).view.read (Elt Ideal) (G (V m c main_arg0) (V m c main_arg1) (V m c main_arg2)) := by
  rw [flushed4_A]
  generalize hX : out0_A_4 c (grid0.coords t) (ms0_0 t) (hs0_0 t) (ms0_1 t) (hs0_1 t) (ms0_2 t) (hs0_2 t) (ms0_3 t) (hs0_3 t)
        (ms0_4 t) (hs0_4 t) (iblk m c 0 t) (iblk m c 1 t) (iblk m c 2 t) (iblk m c 3 t) = X
  funext j
  have h := block_at m c t (j 0) (j 1)
  rw [hX] at h
  show X j = G (V m c main_arg0) (V m c main_arg1) (V m c main_arg2) (((cfg0.win 4).blk t).view.emb j)
  rw [← ix2_eta j] at *
  exact h

/-- Every index of the result array is in some point's block. -/
theorem covered (i : S4096x1024.Idx) : ∃ t : Fin cfg0.N, (cfg0.win 4).flush t = true ∧ i ∈ ((cfg0.win 4).blk t).view.set := by
  have l0 : (i 0).val < 4096 := (i 0).isLt
  have l1 : (i 1).val < 1024 := (i 1).isLt
  obtain ⟨t, h0, h1⟩ := at_point ⟨(i 0).val / 256, by omega⟩ ⟨(i 1).val / 512, by omega⟩
  let j : S256x512.Idx := ix2 ⟨(i 0).val % 256, by omega⟩ ⟨(i 1).val % 512, by omega⟩
  obtain ⟨e0, e1⟩ := emb4 t j
  have e : ((cfg0.win 4).blk t).view.emb j = i := by
    funext a; apply Fin.ext
    match a with
    | ⟨0, _⟩ => exact e0.trans (by rw [h0]; show 256 * ((i 0).val / 256) + (i 0).val % 256 = (i 0).val; omega)
    | ⟨1, _⟩ => exact e1.trans (by rw [h1]; show 512 * ((i 1).val / 512) + (i 1).val % 512 = (i 1).val; omega)
  exact ⟨t, flush0_4 _, by have h := ((cfg0.win 4).blk t).view.emb_mem_set j; rwa [e] at h⟩

/-- The result array after the run. -/
theorem final (c : Dev nD) : (dats m 0 c).arrAt 4 cfg0.N = G (m ((c : Thread nD τ).loc main_arg0))
    (m ((c : Thread nD τ).loc main_arg1)) (m ((c : Thread nD τ).loc main_arg2)) :=
  ((dats m 0 c).arrAt_eq_of_cover 4 (G (V m c main_arg0) (V m c main_arg1) (V m c main_arg2)) (fun t _ => flushed m c t)
    covered).trans (by rw [V_main_arg0, V_main_arg1, V_main_arg2])

end Cert.CtxKernel

end
-- ==== Proof.CtxRef.lean ====
/- The reference of the context attention read at an entry, one operation after another. -/
module

public import proofs.«01_k».proof.Proof.CtxSpec
public import proofs.«01_k».proof.Proof.Gen.CtxRefIdeal.Read

@[expose] public section

noncomputable section

namespace Cert.CtxRef

open Cert.CtxRefIdeal Cert.CtxRefIdeal.Gen Cert.CtxRefIdeal.Read Idealize.ShloMosaic Cert.Softmax Cert.CtxSpec

variable (x0 : FVec Ideal S8192x7168 .bf16) (x1 : FVec Ideal S8192x1024 .f32) (x2 : FVec Ideal S8 .f32)
variable (b : Fin 16) (h : Fin 2) (g : Fin 4) (i : Fin 256)

/-- The scaled logits. -/
theorem v10 (j : Fin 256) : val_main_v10 (F := Ideal) x0 x1 (ix5 b h g i j) = logit x0 x1 b h g i j := by
  rw [val_main_v10_apply, val_main_v8_apply, val_main_v7_apply, val_main_v9_apply, val_main_cst_apply]
  refine congrArg (· * _) (Finset.sum_congr rfl fun e _ => ?_)
  rw [val_main_v4_apply, val_main_v3_apply, val_main_v2_apply, val_main_v1_apply, val_main_v0_apply, mul_comm]
  refine congrArg₂ (fun p q => x0 p * x1 q) ?_ ?_ <;> funext a <;> apply Fin.ext
  · match a with
    | ⟨0, _⟩ =>
      show ((((b.val * 256 + i.val) * 2 + h.val) * 4 + g.val) * 128 + e.val) / 1024 = 256 * b.val + i.val
      omega
    | ⟨1, _⟩ =>
      show ((((b.val * 256 + i.val) * 2 + h.val) * 4 + g.val) * 128 + e.val) % 1024 = 512 * h.val + 128 * g.val + e.val
      omega
  · match a with
    | ⟨0, _⟩ => show (((b.val * 256 + j.val) * 2 + h.val) * 128 + e.val) / 256 = 256 * b.val + j.val; omega
    | ⟨1, _⟩ => show (((b.val * 256 + j.val) * 2 + h.val) * 128 + e.val) % 256 = 128 * h.val + e.val; omega

/-- The extra logit, the same at every token. -/
theorem v12 (z : Fin 1) : val_main_v12 (F := Ideal) x2 (ix5 b h g i z) = extra x2 h g := by
  rw [val_main_v12_apply, val_main_v11_apply]
  refine congrArg x2 (funext fun a => Fin.ext ?_)
  match a with
  | ⟨0, _⟩ => show (((0 * 2 + h.val) * 4 + g.val) * 1 + 0) * 1 + 0 = 4 * h.val + g.val; omega

/-- The logits with the extra one last. -/
theorem v13_cast (j : Fin 256) :
    val_main_v13 (F := Ideal) x0 x1 x2 (ix5 b h g i j.castSucc) = logit x0 x1 b h g i j :=
  (concatenate_pair_apply_left (t := S16x2x4x256x257) 4 (val_main_v10 (F := Ideal) x0 x1) (val_main_v12 (F := Ideal) x2)
    concatenates_S16x2x4x256x256_S16x2x4x256x1_S16x2x4x256x257_d4 _ rfl (ix5 b h g i j) fun a => match a with
    | ⟨0, _⟩ => rfl | ⟨1, _⟩ => rfl | ⟨2, _⟩ => rfl | ⟨3, _⟩ => rfl | ⟨4, _⟩ => rfl).trans (v10 x0 x1 b h g i j)

theorem v13_last : val_main_v13 (F := Ideal) x0 x1 x2 (ix5 b h g i (Fin.last 256)) = extra x2 h g :=
  (concatenate_pair_apply_right (t := S16x2x4x256x257) 4 (val_main_v10 (F := Ideal) x0 x1) (val_main_v12 (F := Ideal) x2)
    concatenates_S16x2x4x256x256_S16x2x4x256x1_S16x2x4x256x257_d4 _ rfl rfl (ix5 b h g i 0)
    (fun a => match a with
    | ⟨0, _⟩ => fun _ => rfl | ⟨1, _⟩ => fun _ => rfl | ⟨2, _⟩ => fun _ => rfl | ⟨3, _⟩ => fun _ => rfl
    | ⟨4, _⟩ => fun ne => absurd rfl ne) rfl).trans (v12 x2 b h g i 0)

/-- Their greatest. -/
theorem v16 : val_main_v16 (F := Ideal) x0 x1 x2 (ix4 b h g i) = peak (logit x0 x1 b h g i) (extra x2 h g) := by
  rw [val_main_v16_apply, val_main_v15_apply, val_main_cst_1_apply]
  show max (Ideal.ofBits .f32 0xFF800000#32) _ = _
  rw [Finite.ofBits_bot, max_eq_right bot_le]
  have hr : S16x2x4x256x257.Reduces [4] S16x2x4x256 := by decide
  refine (Finite.reduce_top (val_main_v13 (F := Ideal) x0 x1 x2) (val_main_cst_0 (F := Ideal))
    reducesTo_S16x2x4x256x257_S16x2x4x256_d4 hr h_S_ Finite.ofBits_bot (ix4 b h g i) (n := 257) rfl
    (fun k => val_main_v13 (F := Ideal) x0 x1 x2 (ix5 b h g i k)) fun k => congrArg _ (funext fun a => ?_)).trans
    (top_snoc _ _ _ (v13_cast x0 x1 x2 b h g i) (v13_last x0 x1 x2 b h g i))
  match a with
  | ⟨0, _⟩ => rfl | ⟨1, _⟩ => rfl | ⟨2, _⟩ => rfl | ⟨3, _⟩ => rfl | ⟨4, _⟩ => rfl

/-- The exponentials. -/
theorem v20 (k : Fin 257) : val_main_v20 (F := Ideal) x0 x1 x2 (ix5 b h g i k)
    = Ideal.exp (val_main_v13 (F := Ideal) x0 x1 x2 (ix5 b h g i k) - peak (logit x0 x1 b h g i) (extra x2 h g)) := by
  rw [val_main_v20_apply, val_main_v19_apply, val_main_v18_apply, val_main_v17_apply, ← v16]
  show Ideal.exp (_ - _) = Ideal.exp (_ - _)
  refine congrArg (fun p => Ideal.exp (_ - val_main_v16 (F := Ideal) x0 x1 x2 p)) (funext fun a => ?_)
  match a with
  | ⟨0, _⟩ => rfl | ⟨1, _⟩ => rfl | ⟨2, _⟩ => rfl | ⟨3, _⟩ => rfl

/-- Their sum. -/
theorem v21 : val_main_v21 (F := Ideal) x0 x1 x2 (ix4 b h g i) = den (logit x0 x1 b h g i) (extra x2 h g) := by
  have e : ∀ k : Fin 257, idx_main_v21 (ix4 b h g i) k = ix5 b h g i k := fun k => funext fun a => by
    match a with
    | ⟨0, _⟩ => rfl | ⟨1, _⟩ => rfl | ⟨2, _⟩ => rfl | ⟨3, _⟩ => rfl | ⟨4, _⟩ => rfl
  rw [val_main_v21_apply, val_main_cst_2_apply]
  simp only [e, v20, Ideal.ofBits_def, Ideal.ofBits_zero_f32, zero_add]
  rw [Fin.sum_univ_castSucc]
  simp only [v13_cast, v13_last]
  rfl

/-- The weights. -/
theorem v25 (j : Fin 256) : val_main_v25 (F := Ideal) x0 x1 x2 (ix5 b h g i j)
    = Ideal.div (Ideal.exp (logit x0 x1 b h g i j - peak (logit x0 x1 b h g i) (extra x2 h g)))
        (den (logit x0 x1 b h g i) (extra x2 h g)) := by
  have e : idx_main_v25 (ix5 b h g i j) = ix5 b h g i j.castSucc := funext fun a => by
    match a with
    | ⟨0, _⟩ => rfl | ⟨1, _⟩ => rfl | ⟨2, _⟩ => rfl | ⟨3, _⟩ => rfl | ⟨4, _⟩ => rfl
  rw [val_main_v25_apply, e, val_main_v24_apply, val_main_v23_apply, val_main_v22_apply, v20, v13_cast, ← v21]
  show Ideal.div _ _ = Ideal.div _ _
  refine congrArg (fun p => Ideal.div _ (val_main_v21 (F := Ideal) x0 x1 x2 p)) (funext fun a => ?_)
  match a with
  | ⟨0, _⟩ => rfl | ⟨1, _⟩ => rfl | ⟨2, _⟩ => rfl | ⟨3, _⟩ => rfl

/-- The weighted values, at token `i` of batch `b`. -/
theorem v27 (d : Fin 128) : val_main_v27 (F := Ideal) x0 x1 x2 (ix5 b i h g d) = entry x0 x1 x2 b h g i d := by
  rw [val_main_v27_apply, val_main_v26_apply]
  unfold entry attend
  refine Finset.sum_congr rfl fun j _ => ?_
  have e : ridx_main_v26 (idx_main_v27 (ix5 b i h g d)) j = ix5 b h g i j := funext fun a => by
    match a with
    | ⟨0, _⟩ => rfl | ⟨1, _⟩ => rfl | ⟨2, _⟩ => rfl | ⟨3, _⟩ => rfl | ⟨4, _⟩ => rfl
  rw [e, v25, val_main_v6_apply, val_main_v5_apply, mul_comm]
  refine congrArg (fun p => _ * x1 p) (funext fun a => Fin.ext ?_)
  match a with
  | ⟨0, _⟩ => show (((b.val * 256 + j.val) * 2 + h.val) * 128 + d.val) / 256 = 256 * b.val + j.val; omega
  | ⟨1, _⟩ => show 256 + (((b.val * 256 + j.val) * 2 + h.val) * 128 + d.val) % 256 = 256 + 128 * h.val + d.val; omega

/-- The result. -/
theorem result (r : Fin 4096) (w : Fin 1024) (hr : r.val = 256 * b.val + i.val) (d : Fin 128)
    (hw : w.val = 512 * h.val + 128 * g.val + d.val) :
    val_main_v29 (F := Ideal) x0 x1 x2 (ix2 r w) = entry x0 x1 x2 b h g i d := by
  rw [← v27, val_main_v29_apply, val_main_v28_apply]
  refine congrArg (val_main_v27 (F := Ideal) x0 x1 x2) (funext fun a => Fin.ext ?_)
  match a with
  | ⟨0, _⟩ => show (r.val * 1024 + w.val) / 262144 = b.val; omega
  | ⟨1, _⟩ => show (r.val * 1024 + w.val) / 1024 % 256 = i.val; omega
  | ⟨2, _⟩ => show (r.val * 1024 + w.val) / 512 % 2 = h.val; omega
  | ⟨3, _⟩ => show (r.val * 1024 + w.val) / 128 % 4 = g.val; omega
  | ⟨4, _⟩ => show (r.val * 1024 + w.val) % 128 = d.val; omega

end Cert.CtxRef

end
-- ==== Proof.CtxPre.lean ====
/- The context attention's precondition read: every entry of its three operands is a real number. -/
module

public import proofs.«01_k».proof.Proof.Finite
public import proofs.«01_k».proof.Pre_finite_logits

@[expose] public section

noncomputable section

namespace Cert.CtxPre

open Idealize.ShloMosaic Cert.Softmax Cert.Finite

instance facts : Cert.Pre_finite_logits.Facts where
  bitsLt_bf16_f32 := by decide
  bcast_S_S8192x7168 := by decide
  reducesTo_S8192x7168_S_d0_1 := by decide
  h_S_ := by decide
  bcast_S_S8192x1024 := by decide
  reducesTo_S8192x1024_S_d0_1 := by decide
  bcast_S_S8 := by decide
  reducesTo_S8_S_d0 := by decide

theorem reals (x0 : FVec Ideal Cert.Pre_finite_logits.S8192x7168 .bf16) (x1 : FVec Ideal Cert.Pre_finite_logits.S8192x1024 .f32)
    (x2 : FVec Ideal Cert.Pre_finite_logits.S8 .f32) (h : Cert.Pre_finite_logits.fn (F := Ideal) x0 x1 x2 = fun _ => 1#1) :
    (∀ i, IsReal (x0 i)) ∧ (∀ i, IsReal (x1 i)) ∧ ∀ i, IsReal (x2 i) := by
  have hs : ∀ j j' : Cert.Pre_finite_logits.S_.Idx, j = j' := fun j j' => funext fun a => a.elim0
  obtain ⟨h01, h2⟩ := and_one _ _ (congrFun h fun a => a.elim0)
  obtain ⟨h0, h1⟩ := and_one _ _ h01
  exact ⟨reals_of_all (extf .f32 x0 Cert.Pre_finite_logits.Facts.bitsLt_bf16_f32) _ _ _ _ hs _ h0, reals_of_all x1 _ _ _ _ hs _ h1, reals_of_all x2 _ _ _ _ hs _ h2⟩

end Cert.CtxPre

end
-- ==== Proof.CtxClaim.lean ====
/- The context attention's kernel and reference give one array: both entries are the attention of the same logits, extra
   logit and values, the kernel dividing the weighted sum by the normaliser and the reference each weight. -/
module

public import proofs.«01_k».proof.Defs
public import proofs.«01_k».proof.Proof.CtxKernel
public import proofs.«01_k».proof.Proof.CtxRef
public import proofs.«01_k».proof.Proof.CtxPre
public import proofs.«01_k».proof.Proof.Gen.CtxRefIdeal.Run

@[expose] public section

noncomputable section

namespace Cert.CtxClaim

open Idealize.ShloMosaic Idealize.ShloMosaic.TcCoe Idealize.SL.Sem Cert.Softmax Cert.CtxSpec

/-- The reference's array, where every operand of the logits is real, is the kernel's. -/
theorem ref_eq (a0 : FVec Ideal Cert.CtxRefIdeal.S8192x7168 .bf16) (a1 : FVec Ideal Cert.CtxRefIdeal.S8192x1024 .f32)
    (a2 : FVec Ideal Cert.CtxRefIdeal.S8 .f32) (h0 : ∀ i, IsReal (a0 i)) (h1 : ∀ i, IsReal (a1 i)) (h2 : ∀ i, IsReal (a2 i)) :
    Cert.CtxRefIdeal.Read.val_main_v29 (F := Ideal) a0 a1 a2 = CtxKernel.G a0 a1 a2 := by
  funext y
  have l0 : (y 0).val < 4096 := (y 0).isLt
  have l1 : (y 1).val < 1024 := (y 1).isLt
  have e0 : (y 0).val = 256 * ((y 0).val / 256) + (y 0).val % 256 := by omega
  have e1 : (y 1).val = 512 * ((y 1).val / 512) + 128 * ((y 1).val % 512 / 128) + (y 1).val % 128 := by omega
  have hG := CtxKernel.G_at a0 a1 a2 ⟨(y 0).val / 256, by omega⟩ ⟨(y 1).val / 512, by omega⟩ ⟨(y 1).val % 512 / 128, by omega⟩
    ⟨(y 0).val % 256, by omega⟩ ⟨(y 1).val % 128, by omega⟩ y e0 e1
  have hR := CtxRef.result a0 a1 a2 ⟨(y 0).val / 256, by omega⟩ ⟨(y 1).val / 512, by omega⟩ ⟨(y 1).val % 512 / 128, by omega⟩
    ⟨(y 0).val % 256, by omega⟩ (y 0) (y 1) e0 ⟨(y 1).val % 128, by omega⟩ e1
  have hq := div_eq_attend (fun j => logit_real h0 h1 ⟨(y 0).val / 256, by omega⟩ ⟨(y 1).val / 512, by omega⟩
    ⟨(y 1).val % 512 / 128, by omega⟩ ⟨(y 0).val % 256, by omega⟩ j) (h2 (ix1 ⟨4 * ((y 1).val / 512) + (y 1).val % 512 / 128, by omega⟩))
    (fun j => value a1 ⟨(y 0).val / 256, by omega⟩ ⟨(y 1).val / 512, by omega⟩ j ⟨(y 1).val % 128, by omega⟩)
  rw [ix2_eta] at hR
  exact hR.trans (hq.symm.trans hG.symm)

theorem algebraic [hk : Cert.CtxIdeal.Facts] [hr : Cert.CtxRefIdeal.Facts] :
    Cert.algebraic_CtxIdeal_CtxRefIdeal_pre_finite_logits := by
  intro m g m' g' hpre hargs
  refine ⟨fun c => CtxKernel.G (m ((c.tc : Thread Cert.CtxIdeal.nD Cert.CtxIdeal.τ).loc Cert.CtxIdeal.main_arg0))
    (m ((c.tc : Thread Cert.CtxIdeal.nD Cert.CtxIdeal.τ).loc Cert.CtxIdeal.main_arg1))
    (m ((c.tc : Thread Cert.CtxIdeal.nD Cert.CtxIdeal.τ).loc Cert.CtxIdeal.main_arg2)), ?_, ?_⟩
  · exact (θ_run _ _ _).mono (fun r h c => ⟨(h c).1.trans (CtxKernel.final m c), (h c).2⟩) (Cert.CtxIdeal.Value.run_blocks m g)
  · refine (θ_run _ _ _).mono (fun r h c => ⟨(h c).1.trans ?_, (h c).2⟩) (Cert.CtxRefIdeal.Value.run m' g')
    obtain ⟨r0, r1, r2⟩ := CtxPre.reals _ _ _ (hpre c)
    obtain ⟨e0, e1, e2⟩ := hargs c
    rw [Cert.CtxRefIdeal.Read.val_main_v29_eq, e0, e1, e2]
    exact ref_eq _ _ _ r0 r1 r2

end Cert.CtxClaim

end
-- ==== Proof.InProj.lean ====
/- The input projection: the kernel's blocks of 1024 by 1024 and the reference's one product give one array. -/
module

public import proofs.«01_k».proof.Defs
public import proofs.«01_k».proof.Proof.Gen.InProjIdeal.Value
public import proofs.«01_k».proof.Proof.Gen.InProjRefIdeal.Run
public import proofs.«01_k».proof.Proof.Gen.InProjRefIdeal.Read
public import Idealize.ShloMosaic.Lib.Pointwise
public import Idealize.ShloMosaic.Lib.Pipeline.ValueKit.Tiles

@[expose] public section

set_option maxRecDepth 16384

noncomputable section

namespace Cert.InProjClaim

open Cert.InProjIdeal Cert.InProjIdeal.Gen Cert.InProjIdeal.Value Idealize.ShloMosaic Idealize.ShloMosaic.TcCoe Idealize.SL.Sem

/-- The product of the two arrays. -/
def G (a0 : FVec Ideal S8192x1024 .bf16) (a1 : FVec Ideal S1024x7168 .bf16) : FVec Ideal S8192x7168 .bf16 := fun y =>
  ∑ k : Fin 1024, a0 (ix2 (⟨(y 0).val, (y 0).isLt⟩ : Fin 8192) k) * a1 (ix2 k (⟨(y 1).val, (y 1).isLt⟩ : Fin 7168))

theorem zero2 : (![0, 0] : Fin 2 → Nat) = fun _ => 0 := funext fun a => by fin_cases a <;> rfl

/-- What a point stores, at an index of its block. -/
theorem out_at (x0 x1 : Vec Ideal S1024x1024 .bf16) (r d : Fin 1024) :
    out0_2 (F := Ideal) x0 x1 (ix2 r d) = ∑ k : Fin 1024, x0 (ix2 r k) * x1 (ix2 k d) := by
  unfold out0_2
  rw [View.ld_unit_zero zero2, View.ld_unit_zero zero2]
  refine (congrFun (View.canon_cons_unit_lit _ _ _ (fun a => match a with | ⟨0, _⟩ => rfl | ⟨1, _⟩ => rfl)) _).trans ?_
  pointwise [k0_pay1]

variable (m : (ℓ : Loc nD τ sig) → Buf (Elt Ideal) ℓ) (ρ : Dev nD → PrngReg)

/-- Each window's block index at a grid point. -/
theorem idx : ∀ t : Fin cfg0.N, win0_0.index t (0 : Fin 2) = (grid0.coords t 1).val ∧ win0_0.index t (1 : Fin 2) = 0
    ∧ win0_1.index t (0 : Fin 2) = 0 ∧ win0_1.index t (1 : Fin 2) = (grid0.coords t 0).val
    ∧ win0_2.index t (0 : Fin 2) = (grid0.coords t 1).val ∧ win0_2.index t (1 : Fin 2) = (grid0.coords t 0).val :=
  (by decide +kernel : ∀ t : Fin grid0.N, _)

theorem at_point : ∀ (i : Fin 8) (j : Fin 7), ∃ t : Fin cfg0.N, (grid0.coords t 1).val = i.val ∧ (grid0.coords t 0).val = j.val :=
  (by decide +kernel : ∀ (i : Fin 8) (j : Fin 7), ∃ t : Fin grid0.N, _)

theorem emb2 (t : Fin cfg0.N) (j : S1024x1024.Idx) :
    (((cfg0.win 2).blk t).view.emb j 0).val = 1024 * (grid0.coords t 1).val + (j 0).val
    ∧ (((cfg0.win 2).blk t).view.emb j 1).val = 1024 * (grid0.coords t 0).val + (j 1).val := by
  obtain ⟨-, -, -, -, e0, e1⟩ := idx t
  constructor
  · show win0_2.index t (0 : Fin 2) * 1024 + 1 * (j 0).val = _; omega
  · show win0_2.index t (1 : Fin 2) * 1024 + 1 * (j 1).val = _; omega

/-- What a point leaves at a place of its block, from the argument arrays. -/
theorem block_at (c : Dev nD) (t : Fin cfg0.N) (r d : Fin 1024) :
    out0_2 (iblk m c 0 t) (iblk m c 1 t) (ix2 r d)
      = G (V m c main_arg0) (V m c main_arg1) (((cfg0.win 2).blk t).view.emb (ix2 r d)) := by
  obtain ⟨e0, e1⟩ := emb2 t (ix2 r d)
  obtain ⟨i00, i01, i10, i11, -⟩ := idx t
  refine (out_at _ _ r d).trans (Finset.sum_congr rfl fun k _ => congr (congrArg HMul.hMul ?_) ?_)
  · refine congrArg (V m c main_arg0) (funext fun a => Fin.ext ?_)
    match a with
    | ⟨0, _⟩ => show win0_0.index t (0 : Fin 2) * 1024 + 1 * r.val = (((cfg0.win 2).blk t).view.emb (ix2 r d) 0).val
                rw [e0, i00]; show _ = 1024 * (grid0.coords t 1).val + r.val; omega
    | ⟨1, _⟩ => show win0_0.index t (1 : Fin 2) * 1024 + 1 * k.val = k.val; omega
  · refine congrArg (V m c main_arg1) (funext fun a => Fin.ext ?_)
    match a with
    | ⟨0, _⟩ => show win0_1.index t (0 : Fin 2) * 1024 + 1 * k.val = k.val; omega
    | ⟨1, _⟩ => show win0_1.index t (1 : Fin 2) * 1024 + 1 * d.val = (((cfg0.win 2).blk t).view.emb (ix2 r d) 1).val
                rw [e1, i11]; show _ = 1024 * (grid0.coords t 0).val + d.val; omega

/-- What a point writes back is its block of `G`. -/
theorem flushed (c : Dev nD) (t : Fin cfg0.N) : (dats m 0 c).flushed 2 t
    = ((cfg0.win 2).blk t).view.read (Elt Ideal) (G (V m c main_arg0) (V m c main_arg1)) := by
  rw [flushed2]
  generalize hX : out0_2 (iblk m c 0 t) (iblk m c 1 t) = X
  funext j
  have h := block_at m c t (j 0) (j 1)
  rw [hX] at h
  show X j = G (V m c main_arg0) (V m c main_arg1) (((cfg0.win 2).blk t).view.emb j)
  rw [← ix2_eta j] at *
  exact h

/-- Every index of the result array is in some point's block. -/
theorem covered (i : S8192x7168.Idx) : ∃ t : Fin cfg0.N, (cfg0.win 2).flush t = true ∧ i ∈ ((cfg0.win 2).blk t).view.set := by
  have l0 : (i 0).val < 8192 := (i 0).isLt
  have l1 : (i 1).val < 7168 := (i 1).isLt
  obtain ⟨t, h0, h1⟩ := at_point ⟨(i 0).val / 1024, by omega⟩ ⟨(i 1).val / 1024, by omega⟩
  let j : S1024x1024.Idx := ix2 ⟨(i 0).val % 1024, by omega⟩ ⟨(i 1).val % 1024, by omega⟩
  obtain ⟨e0, e1⟩ := emb2 t j
  have e : ((cfg0.win 2).blk t).view.emb j = i := by
    funext a; apply Fin.ext
    match a with
    | ⟨0, _⟩ => exact e0.trans (by rw [h0]; show 1024 * ((i 0).val / 1024) + (i 0).val % 1024 = (i 0).val; omega)
    | ⟨1, _⟩ => exact e1.trans (by rw [h1]; show 1024 * ((i 1).val / 1024) + (i 1).val % 1024 = (i 1).val; omega)
  exact ⟨t, flush0_2 _, by have h := ((cfg0.win 2).blk t).view.emb_mem_set j; rwa [e] at h⟩

/-- The result array after the run. -/
theorem final (c : Dev nD) : (dats m 0 c).arrAt 2 cfg0.N = G (m ((c : Thread nD τ).loc main_arg0))
    (m ((c : Thread nD τ).loc main_arg1)) :=
  ((dats m 0 c).arrAt_eq_of_cover 2 (G (V m c main_arg0) (V m c main_arg1)) (fun t _ => flushed m c t)
    covered).trans (by rw [V_main_arg0, V_main_arg1])

theorem ref_eq (a0 : FVec Ideal S8192x1024 .bf16) (a1 : FVec Ideal S1024x7168 .bf16) :
    Cert.InProjRefIdeal.Read.val_main_v3 (F := Ideal) a0 a1 = G a0 a1 := by
  funext y
  refine (Cert.InProjRefIdeal.Read.val_main_v2_apply a0 a1 y).trans (Finset.sum_congr rfl fun k _ => congr (congrArg HMul.hMul ?_) ?_)
  · refine congrArg a0 (funext fun a => Fin.ext ?_)
    match a with
    | ⟨0, _⟩ => rfl
    | ⟨1, _⟩ => rfl
  · refine congrArg a1 (funext fun a => Fin.ext ?_)
    match a with
    | ⟨0, _⟩ => rfl
    | ⟨1, _⟩ => rfl

theorem algebraic [hk : Cert.InProjIdeal.Facts] [hr : Cert.InProjRefIdeal.Facts] :
    Cert.algebraic_InProjIdeal_InProjRefIdeal := by
  intro m g m' g' _ hargs
  refine ⟨fun c => G (m ((c.tc : Thread Cert.InProjIdeal.nD Cert.InProjIdeal.τ).loc Cert.InProjIdeal.main_arg0))
    (m ((c.tc : Thread Cert.InProjIdeal.nD Cert.InProjIdeal.τ).loc Cert.InProjIdeal.main_arg1)), ?_, ?_⟩
  · exact (θ_run _ _ _).mono (fun r h c => ⟨(h c).1.trans (final m c), (h c).2⟩) (Cert.InProjIdeal.Value.run_blocks m g)
  · refine (θ_run _ _ _).mono (fun r h c => ⟨(h c).1.trans ?_, (h c).2⟩) (Cert.InProjRefIdeal.Value.run m' g')
    obtain ⟨e0, e1⟩ := hargs c
    rw [Cert.InProjRefIdeal.Read.val_main_v3_eq, e0, e1]
    exact ref_eq _ _

end Cert.InProjClaim

end
-- ==== Proof.MoeBody.lean ====
/-
  The grouped expert call's kernel body, run once for every outcome of its four conditions. It is stated on any
  staging memrefs: what the body leaves in the accumulator and in the result block is a predicate of what it was
  handed there, of the four input blocks and of the two table words it reads.
-/
module

public import proofs.«01_k».proof.Proof.Gen.MoeIdeal.Launch
public import proofs.«01_k».proof.Proof.Gen.MoeIdeal.Skeleton
public import Idealize.ShloMosaic.Lib.Pipeline.FrameBody
public import Idealize.ShloMosaic.Lib.Pipeline.Value
public import Idealize.ShloMosaic.Lib.Tactic
public import Idealize.ShloMosaic.Lib.WritesUnit

@[expose] public section

set_option maxRecDepth 16384

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MT nD τ sig Unit (Elt F) ℕ (UR sig nD τ) ℕ

/-- The two halves of a block of 1024 rows. -/
abbrev half0 : Rect S1024x1024 := Rect.unit (s := S1024x1024) ![0, 0] S512x1024.size inb_S1024x1024_S512x1024_0_0
abbrev half1 : Rect S1024x1024 := Rect.unit (s := S1024x1024) ![512, 0] S512x1024.size inb_S1024x1024_S512x1024_512_0
/-- The rows of each half, read. -/
def lo (X : Vec F S1024x1024 .f32) : Vec F S512x1024 .f32 := fun y => X (half0.emb y)
def hi (X : Vec F S1024x1024 .f32) : Vec F S512x1024 .f32 := fun y => X (half1.emb y)

/-- The tables as the body is handed them. -/
abbrev tM0 : Memref sig .tc .smem S24 .i32 := Memref.whole main_arg1
abbrev tM1 : Memref sig .tc .smem S24 .i32 := Memref.whole main_arg2
abbrev tM2 : Memref sig .tc .smem S1 .i32 := Memref.whole main_arg3
abbrev tPt (c : Dev nD) {S : Shape} {e : EltTy} (M : Memref sig .tc .smem S e) (f : Buf (Elt F) (M.view.loc (c : Thread nD τ))) : sProp 𝕄 :=
  M.view.loc (c : Thread nD τ) ↦{fullShare.right} f

/-- What the point adds up in a half of the block: rows `xr` of the input, onto the half `ar` of the accumulator. -/
def stepv (i : grid0.Coords) (x1 x2 : Vec F S1x1024x512 .f32) (x3 : Vec F S1x512x1024 .f32) (xr ar : Vec F S512x1024 .f32) : Vec F S512x1024 .f32 :=
  k0_pay4 i x1 x2 x3 xr ar

/-- What the body leaves in the accumulator, at a tile in use: the first half stepped, and the second where the tile holds more than 512 rows. -/
def PostA (i : grid0.Coords) (x0 : Vec F S1024x1024 .f32) (x1 x2 : Vec F S1x1024x512 .f32) (x3 : Vec F S1x512x1024 .f32) (a : Vec F S1024x1024 .f32)
    (valid used : BitVec 32) (a' : Vec F S1024x1024 .f32) : Prop :=
  k0_cond1 i used = 1#1 → lo a' = stepv i x1 x2 x3 (lo x0) (lo a) ∧ (k0_cond2 valid = 1#1 → hi a' = stepv i x1 x2 x3 (hi x0) (hi a))

/-- What the body leaves in the result block: the same values, in each half that it does not clear. -/
def PostY (i : grid0.Coords) (x0 : Vec F S1024x1024 .f32) (x1 x2 : Vec F S1x1024x512 .f32) (x3 : Vec F S1x512x1024 .f32) (a : Vec F S1024x1024 .f32)
    (valid used : BitVec 32) (y' : Vec F S1024x1024 .f32) : Prop :=
  k0_cond1 i used = 1#1 → (k0_cond3 i valid ≠ 1#1 → lo y' = stepv i x1 x2 x3 (lo x0) (lo a))
    ∧ (k0_cond2 valid = 1#1 → k0_cond4 i valid ≠ 1#1 → hi y' = stepv i x1 x2 x3 (hi x0) (hi a))

/-- The two words the body reads: the rows tile `i` holds, and the number of tiles in use. -/
def validW (i : grid0.Coords) (xt1 : S24.Idx → BitVec 32) : BitVec 32 :=
  xt1 ((Rect.unit (s := S24) (k0_off1 i) S1.size (k0_off1_inb i)).emb (Shape.Idx.first (numel1_S1.symm ▸ Nat.one_pos)))
def usedW (xt2 : S1.Idx → BitVec 32) : BitVec 32 :=
  xt2 ((Rect.unit (s := S1) ![0] S1.size inb_S1_S1_0).emb (Shape.Idx.first (numel1_S1.symm ▸ Nat.one_pos)))

section Halves
variable {κ : Kind} {sp : Space} (v : View sig κ sp S1024x1024 .f32) (f : v.ty.Contents (Elt F)) (w : Vec F S512x1024 .f32) (L : List (View.Piece (Elt F) S1024x1024 .f32))

theorem lo_cons0 : lo (v.read (Elt F) (v.writes (Elt F) f (⟨half0, w⟩ :: L))) = w :=
  funext fun y => View.read_writes_cons_unit_of_mem v f _ w L _ y rfl fun a => congrArg (_ + ·) (Nat.one_mul _)
theorem hi_cons1 : hi (v.read (Elt F) (v.writes (Elt F) f (⟨half1, w⟩ :: L))) = w :=
  funext fun y => View.read_writes_cons_unit_of_mem v f _ w L _ y rfl fun a => congrArg (_ + ·) (Nat.one_mul _)
theorem lo_cons1 : lo (v.read (Elt F) (v.writes (Elt F) f (⟨half1, w⟩ :: L))) = lo (v.read (Elt F) (v.writes (Elt F) f L)) :=
  funext fun y => View.read_writes_cons_unit_of_not_mem v f _ w L _ rfl 0 (.inl (by
    show 0 + 1 * (y 0).val < 512
    have : (y 0).val < 512 := (y 0).isLt
    omega))
theorem hi_cons0 : hi (v.read (Elt F) (v.writes (Elt F) f (⟨half0, w⟩ :: L))) = hi (v.read (Elt F) (v.writes (Elt F) f L)) :=
  funext fun y => View.read_writes_cons_unit_of_not_mem v f _ w L _ rfl 0 (.inr (by
    show 0 + 512 ≤ 512 + 1 * (y 0).val
    omega))
end Halves

/-- A load of a whole block of rank 3, and a load of either half of a block, off the buffer that holds it. -/
theorem readAt_whole3 {S : Shape} (M : Memref sig .tc .vmem S .f32) (hM : M.IsWhole) (X : Vec F S .f32) {off : Fin S.rank → ℕ} (h : off = fun _ => 0)
    (inb : ∀ a, off a + S.size a ≤ S.size a) :
    View.readAt (Elt F) M.view (Rect.unit off S.size inb).toLoadRect (hM.unread X) = X := by
  rw [View.readAt_eq_ld, hM.read_unread]; exact View.ld_unit_zero h inb X
theorem readAt_lo (M : Memref sig .tc .vmem S1024x1024 .f32) (hM : M.IsWhole) (X : Vec F S1024x1024 .f32) :
    View.readAt (Elt F) M.view half0.toLoadRect (hM.unread X) = lo X := by
  rw [View.readAt_eq_ld, hM.read_unread]; rfl
theorem readAt_hi (M : Memref sig .tc .vmem S1024x1024 .f32) (hM : M.IsWhole) (X : Vec F S1024x1024 .f32) :
    View.readAt (Elt F) M.view half1.toLoadRect (hM.unread X) = hi X := by
  rw [View.readAt_eq_ld, hM.read_unread]; rfl
theorem zero3 : (![0, 0, 0] : Fin 3 → ℕ) = fun _ => 0 := by decide

theorem postA_of {κ : Kind} {sp : Space} (v : View sig κ sp S1024x1024 .f32) (f : v.ty.Contents (Elt F)) (i : grid0.Coords) (x0 : Vec F S1024x1024 .f32) (x1 x2 : Vec F S1x1024x512 .f32)
    (x3 : Vec F S1x512x1024 .f32) (a : Vec F S1024x1024 .f32) (valid used : BitVec 32) :
    PostA i x0 x1 x2 x3 a valid used (v.read (Elt F) (if hc : k0_cond1 i used = 1#1 then
      if hc : k0_cond2 valid = 1#1 then v.writes (Elt F) f [⟨half1, k0_pay7 i x1 x2 x3 (hi x0) (hi a)⟩, ⟨half0, k0_pay5 i x1 x2 x3 (lo x0) (lo a)⟩]
      else v.writes (Elt F) f [⟨half0, k0_pay5 i x1 x2 x3 (lo x0) (lo a)⟩] else f)) := by
  have e5 : ∀ xr ar, k0_pay5 i x1 x2 x3 xr ar = stepv i x1 x2 x3 xr ar := fun _ _ => shapeCast_self _ _
  have e7 : ∀ xr ar, k0_pay7 i x1 x2 x3 xr ar = stepv i x1 x2 x3 xr ar := fun _ _ => shapeCast_self _ _
  intro h1
  rw [dif_pos h1, e5, e7]
  by_cases h2 : k0_cond2 valid = 1#1
  · rw [dif_pos h2, lo_cons1, lo_cons0, hi_cons1]; exact ⟨rfl, fun _ => rfl⟩
  · rw [dif_neg h2, lo_cons0]; exact ⟨rfl, fun h => absurd h h2⟩

theorem postY_of {κ : Kind} {sp : Space} (v : View sig κ sp S1024x1024 .f32) (f : v.ty.Contents (Elt F)) (i : grid0.Coords) (x0 : Vec F S1024x1024 .f32) (x1 x2 : Vec F S1x1024x512 .f32)
    (x3 : Vec F S1x512x1024 .f32) (a : Vec F S1024x1024 .f32) (valid used : BitVec 32) (g : v.ty.Contents (Elt F))
    (hg : g = if hc : k0_cond1 i used = 1#1 then
      if hc : k0_cond2 valid = 1#1 then v.writes (Elt F) f [⟨half1, k0_pay6 i x1 x2 x3 (hi x0) (hi a)⟩, ⟨half0, k0_pay4 i x1 x2 x3 (lo x0) (lo a)⟩]
      else v.writes (Elt F) f [⟨half0, k0_pay4 i x1 x2 x3 (lo x0) (lo a)⟩] else f) (g' : v.ty.Contents (Elt F))
    (hg' : g' = if hc : k0_cond3 i valid = 1#1 then v.writes (Elt F) g [⟨half0, k0_pay8⟩] else g) :
    PostY i x0 x1 x2 x3 a valid used (v.read (Elt F) (if hc : k0_cond4 i valid = 1#1 then v.writes (Elt F) g' [⟨half1, k0_pay9⟩] else g')) := by
  intro h1
  rw [dif_pos h1] at hg
  have l4 : lo (v.read (Elt F) (if hc : k0_cond4 i valid = 1#1 then v.writes (Elt F) g' [⟨half1, k0_pay9⟩] else g')) = lo (v.read (Elt F) g') := by
    split
    · rw [lo_cons1]; rfl
    · rfl
  have h3 : hi (v.read (Elt F) g') = hi (v.read (Elt F) g) := by
    rw [hg']; split
    · rw [hi_cons0]; rfl
    · rfl
  have lg : lo (v.read (Elt F) g) = stepv i x1 x2 x3 (lo x0) (lo a) := by
    rw [hg]; split
    · rw [lo_cons1, lo_cons0]; rfl
    · rw [lo_cons0]; rfl
  refine ⟨fun n3 => ?_, fun h2 n4 => ?_⟩
  · rw [l4, hg', dif_neg n3, lg]
  · rw [dif_neg n4, h3, hg, dif_pos h2, hi_cons1]; rfl

theorem run (c : Dev nD) (i : grid0.Coords) (arg5 : Memref sig .tc .vmem S1024x1024 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1024x1024 .f32) (harg9 : arg9.IsWhole) (arg10 : Memref sig .tc .vmem S1024x1024 .f32) (harg10 : arg10.IsWhole)
    (x0 : Vec F S1024x1024 .f32) (x1 : Vec F S1x1024x512 .f32) (x2 : Vec F S1x1024x512 .f32) (x3 : Vec F S1x512x1024 .f32) (a y : Vec F S1024x1024 .f32)
    (xt0 : Buf (Elt F) (tM0.view.loc (c : Thread nD τ))) (xt1 : Buf (Elt F) (tM1.view.loc (c : Thread nD τ))) (xt2 : Buf (Elt F) (tM2.view.loc (c : Thread nD τ)))
    (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare y ∗ owns (c : Thread nD τ) arg10 fullShare a ∗ tPt c tM0 xt0 ∗ tPt c tM1 xt1 ∗ tPt c tM2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ (∃ y', ⌜PostY i x0 x1 x2 x3 a (validW i xt1) (usedW xt2) y'⌝ ∗ owns (c : Thread nD τ) arg9 fullShare y') ∗ (∃ a', ⌜PostA i x0 x1 x2 x3 a (validW i xt1) (usedW xt2) a'⌝ ∗ owns (c : Thread nD τ) arg10 fullShare a') ∗ tPt c tM0 xt0 ∗ tPt c tM1 xt1 ∗ tPt c tM2 xt2) -∗ K ⟨⟩))
      ⊢ wp frame (wpE (defs₀ (F := F)) Variants.none c none) Set.univ (cc0_moe_grouped i tM0 (Memref.isWhole_whole _) tM1 (Memref.isWhole_whole _) tM2 (Memref.isWhole_whole _) arg5 harg5 arg6 harg6 arg7 harg7 arg8 harg8 arg9 harg9 arg10 harg10) K := by
  simp only [cc0_moe_grouped_eq_skeleton]; unfold cc0_moe_grouped_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs, HS0⟩, HT0, HT1, HT2, Hk⟩
  obtain rfl := harg5.eq_unread hf0; obtain rfl := harg6.eq_unread hf1; obtain rfl := harg7.eq_unread hf2; obtain rfl := harg8.eq_unread hf3
  obtain rfl := harg9.eq_unread hf4; obtain rfl := harg10.eq_unread hfs
  sl_exec
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; swap
    · iexists _; isplitr; swap; · iexact H4
      ipureintro; rfl
    ipureintro
    have e2 : run.sl.r c xt2 = usedW xt2 := rfl
    have e1 : run.sl.r_1 c i xt1 = validW i xt1 := rfl
    rw [e1, e2]
    unfold run.sl.H4_1
    unfold run.sl.v55
    rw [readAt_whole3 arg6 harg6 x1 zero3, readAt_whole3 arg7 harg7 x2 zero3, readAt_whole3 arg8 harg8 x3 zero3]
    rw [readAt_hi arg5 harg5 x0, readAt_lo arg5 harg5 x0, readAt_hi arg10 harg10 a, readAt_lo arg10 harg10 a]
    exact postY_of arg9.view _ i x0 x1 x2 x3 a _ _ _ rfl _ rfl
  isplitl [HS0]
  · iexists _; isplitr; swap
    · iexists _; isplitr; swap; · iexact HS0
      ipureintro; rfl
    ipureintro
    have e2 : run.sl.r c xt2 = usedW xt2 := rfl
    have e1 : run.sl.r_1 c i xt1 = validW i xt1 := rfl
    rw [e1, e2]
    unfold run.sl.HS0_1
    unfold run.sl.v55
    rw [readAt_whole3 arg6 harg6 x1 zero3, readAt_whole3 arg7 harg7 x2 zero3, readAt_whole3 arg8 harg8 x3 zero3]
    rw [readAt_hi arg5 harg5 x0, readAt_lo arg5 harg5 x0, readAt_hi arg10 harg10 a, readAt_lo arg10 harg10 a]
    exact postA_of arg10.view _ i x0 x1 x2 x3 a _ _
  isplitl [HT0]; · iexact HT0
  isplitl [HT1]; · iexact HT1
  iexact HT2

end Cert.MoeIdeal.Hand

end
-- ==== Proof.MoeRun.lean ====
/-
  The grouped expert call, run: the tables read off the launch memory, the accumulator's contents point by point, the
  pipeline's proof data (the inputs exact, the result block held to a predicate), the body obligation, the launch, and
  the frame.
-/
module

public import proofs.«01_k».proof.Proof.MoeBody
public import Idealize.ShloMosaic.Lib.Pipeline.DatRel
public import Idealize.ShloMosaic.Lib.Pipeline.ArrRel
public import Idealize.ShloMosaic.Lib.Pipeline.Frame
public import Idealize.ShloMosaic.Lib.Claim

@[expose] public section

set_option maxRecDepth 16384

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffers when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents, and that every device (there is one) holds them. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl

/-- The pipeline's side condition of the tables, and the pipeline at tables that meet it. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄) = iprop(tPt c tM0 (tbl m 0) ∗ tPt c tM1 (tbl m 1) ∗ tPt c tM2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The accumulator's buffer. -/
abbrev accM : Memref sig .tc .vmem S1024x1024 .f32 := Memref.whole cc0_scratch0

theorem rest_eq (c : Dev nD) :
    (Pipeline.ΦA spec0 c : sProp 𝕄) = iprop(iprop((∃ d, owns (c : Thread nD τ) accM fullShare d)) ∗ (∃ r, prngReg c r)) := by
  unfold Pipeline.ΦA; rw [scopedRest0_eq]; simp only [accM, owns_whole]; try rfl

/-! ## What each point works on, and the accumulator point by point -/

/-- Window `w`'s block at point `t`, read off its array at the region's entry. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- Point `t`'s tile is in use; and it holds more than 512 rows. -/
def Used (t : Fin grid0.N) : Prop := k0_cond1 (grid0.coords t) (usedW (tbl m 2)) = 1#1
def Big (t : Fin grid0.N) : Prop := k0_cond2 (validW (grid0.coords t) (tbl m 1)) = 1#1

/-- A half of the accumulator after the point numbered `n`: each point's step on top of the last. -/
def accN (hO : Ok m) (c : Dev nD) (half : Vec F S1024x1024 .f32 → Vec F S512x1024 .f32) : (n : ℕ) → n < grid0.N → Vec F S512x1024 .f32
  | 0, h => stepv (grid0.coords ⟨0, h⟩) (iblk m hO c 1 ⟨0, h⟩) (iblk m hO c 2 ⟨0, h⟩) (iblk m hO c 3 ⟨0, h⟩) (half (iblk m hO c 0 ⟨0, h⟩)) k0_pay8
  | n + 1, h => stepv (grid0.coords ⟨n + 1, h⟩) (iblk m hO c 1 ⟨n + 1, h⟩) (iblk m hO c 2 ⟨n + 1, h⟩) (iblk m hO c 3 ⟨n + 1, h⟩) (half (iblk m hO c 0 ⟨n + 1, h⟩))
      (accN hO c half n (Nat.lt_of_succ_lt h))

/-- What the accumulator holds before the point numbered `n`, if the point before it was in use. -/
def Inv (hO : Ok m) (c : Dev nD) (n : ℕ) (a : Vec F S1024x1024 .f32) : Prop :=
  ∀ (k : ℕ) (h : k < grid0.N), n = k + 1 → Used m ⟨k, h⟩ → lo a = accN m hO c lo k h ∧ (Big m ⟨k, h⟩ → hi a = accN m hO c hi k h)

/-- What the result block holds after point `t`. -/
def Left (hO : Ok m) (c : Dev nD) (t : Fin grid0.N) (X : Vec F S1024x1024 .f32) : Prop :=
  Used m t → (k0_cond3 (grid0.coords t) (validW (grid0.coords t) (tbl m 1)) ≠ 1#1 → lo X = accN m hO c lo t.val t.isLt)
    ∧ (Big m t → k0_cond4 (grid0.coords t) (validW (grid0.coords t) (tbl m 1)) ≠ 1#1 → hi X = accN m hO c hi t.val t.isLt)

theorem coord0 : ∀ t : Fin grid0.N, (grid0.coords t 0).val = t.val / 7 := by decide +kernel
theorem coord1 : ∀ t : Fin grid0.N, (grid0.coords t 1).val = t.val % 7 := by decide +kernel

/-- The first step of a tile reads nothing of what the accumulator held. -/
theorem stepv_first (i : grid0.Coords) (h : (i 1).val = 0) (x1 x2 : Vec F S1x1024x512 .f32) (x3 : Vec F S1x512x1024 .f32) (xr ar ar' : Vec F S512x1024 .f32) :
    stepv i x1 x2 x3 xr ar = stepv i x1 x2 x3 xr ar' := by
  unfold stepv k0_pay4
  simp only [h]
  rfl

theorem accN_step (hO : Ok m) (c : Dev nD) (half : Vec F S1024x1024 .f32 → Vec F S512x1024 .f32) (t : Fin grid0.N) (ar : Vec F S512x1024 .f32)
    (h : ∀ (k : ℕ) (hk : k < grid0.N), t.val = k + 1 → (grid0.coords t 0).val = (grid0.coords ⟨k, hk⟩ 0).val → ar = accN m hO c half k hk) :
    stepv (grid0.coords t) (iblk m hO c 1 t) (iblk m hO c 2 t) (iblk m hO c 3 t) (half (iblk m hO c 0 t)) ar = accN m hO c half t.val t.isLt := by
  obtain ⟨n, hn⟩ := t
  cases n with
  | zero => exact stepv_first _ (coord1 ⟨0, hn⟩) _ _ _ _ _ _
  | succ k =>
    by_cases hz : (k + 1) % 7 = 0
    · exact stepv_first _ ((coord1 ⟨k + 1, hn⟩).trans hz) _ _ _ _ _ _
    · rw [h k (Nat.lt_of_succ_lt hn) rfl (by rw [coord0, coord0]; show (k + 1) / 7 = k / 7; omega)]; rfl

theorem used_of {t t' : Fin grid0.N} (h : (grid0.coords t 0).val = (grid0.coords t' 0).val) : Used m t ↔ Used m t' := by
  unfold Used k0_cond1; simp only [h]
theorem big_of {t t' : Fin grid0.N} (h : (grid0.coords t 0).val = (grid0.coords t' 0).val) : Big m t ↔ Big m t' := by
  have e : k0_off1 (grid0.coords t) = k0_off1 (grid0.coords t') := by unfold k0_off1; simp only [h]
  unfold Big validW
  have : ∀ (o o' : Fin 1 → ℕ) (ho : ∀ a, o a + S1.size a ≤ S24.size a) (ho' : ∀ a, o' a + S1.size a ≤ S24.size a) (h1 : 0 < S1.numel), o = o' →
      (Rect.unit (s := S24) o S1.size ho).emb (Shape.Idx.first h1) = (Rect.unit (s := S24) o' S1.size ho').emb (Shape.Idx.first h1) := by
    intro o o' ho ho' h1 e; subst e; rfl
  exact Eq.to_iff (congrArg (fun q => k0_cond2 (tbl m 1 q) = 1#1) (this _ _ _ _ _ e))

/-- The body's two outcomes, over the accumulator as the points leave it. -/
theorem inv_step (hO : Ok m) (c : Dev nD) (t : Fin grid0.N) (a a' : Vec F S1024x1024 .f32) (hI : Inv m hO c t.val a)
    (hP : PostA (grid0.coords t) (iblk m hO c 0 t) (iblk m hO c 1 t) (iblk m hO c 2 t) (iblk m hO c 3 t) a (validW (grid0.coords t) (tbl m 1)) (usedW (tbl m 2)) a') :
    Inv m hO c (t.val + 1) a' := by
  intro k hk e hu
  obtain rfl : t = ⟨k, hk⟩ := Fin.ext (Nat.succ_injective e)
  obtain ⟨h0, h1⟩ := hP hu
  refine ⟨h0.trans (accN_step m hO c lo _ _ fun j hj e' he => (hI j hj e' ((used_of m he).mp hu)).1), fun hb => (h1 hb).trans (accN_step m hO c hi _ _ fun j hj e' he =>
    (hI j hj e' ((used_of m he).mp hu)).2 ((big_of m he).mp hb))⟩

theorem left_step (hO : Ok m) (c : Dev nD) (t : Fin grid0.N) (a y' : Vec F S1024x1024 .f32) (hI : Inv m hO c t.val a)
    (hP : PostY (grid0.coords t) (iblk m hO c 0 t) (iblk m hO c 1 t) (iblk m hO c 2 t) (iblk m hO c 3 t) a (validW (grid0.coords t) (tbl m 1)) (usedW (tbl m 2)) y') :
    Left m hO c t y' := by
  intro hu
  obtain ⟨h0, h1⟩ := hP hu
  refine ⟨fun h3 => (h0 h3).trans (accN_step m hO c lo _ _ fun j hj e' he => (hI j hj e' ((used_of m he).mp hu)).1), fun hb h4 => (h1 hb h4).trans (accN_step m hO c hi _ _ fun j hj e' he =>
    (hI j hj e' ((used_of m he).mp hu)).2 ((big_of m he).mp hb))⟩

/-! ## The proof data -/

/-- The result's window is held to `Left`; the inputs' are exact. -/
def marked : Fin 5 → Bool := fun w => match w with | ⟨4, _⟩ => true | ⟨0, _⟩ => false | ⟨1, _⟩ => false | ⟨2, _⟩ => false | ⟨3, _⟩ => false

def dat (hO : Ok m) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
  Φ t := iprop((∃ a, ⌜Inv m hO c t.val a⌝ ∗ owns (c : Thread nD τ) accM fullShare a) ∗ (∃ r, prngReg c r) ∗ Pipeline.ΦT pre0 (tbl m) c)
  q _ := fullShare
  owed _ := 0

def rel (hO : Ok m) (c : Dev nD) : (w : Fin (cfgM m hO).W) → Fin (cfgM m hO).N → (((cfgM m hO).win w).block.Idx → Elt F ((cfgM m hO).win w).elt) → Prop := fun w t X => match w with
  | ⟨0, _⟩ => True
  | ⟨1, _⟩ => True
  | ⟨2, _⟩ => True
  | ⟨3, _⟩ => True
  | ⟨4, _⟩ => Left m hO c t X

theorem A_eq (hO : Ok m) (c : Dev nD) (w : Fin (cfgM m hO).W) : (dat m hO c).A w = V m c (Pipeline.arrRef spec0 w) := by
  dsimp only [dat]

theorem after0 (hO : Ok m) (c : Dev nD) (t : Fin (cfgM m hO).N) : (dat m hO c).after 0 t = iblk m hO c 0 t := by dsimp only [dat]; try rfl
theorem after1 (hO : Ok m) (c : Dev nD) (t : Fin (cfgM m hO).N) : (dat m hO c).after 1 t = iblk m hO c 1 t := by dsimp only [dat]; try rfl
theorem after2 (hO : Ok m) (c : Dev nD) (t : Fin (cfgM m hO).N) : (dat m hO c).after 2 t = iblk m hO c 2 t := by dsimp only [dat]; try rfl
theorem after3 (hO : Ok m) (c : Dev nD) (t : Fin (cfgM m hO).N) : (dat m hO c).after 3 t = iblk m hO c 3 t := by dsimp only [dat]; try rfl

/-- Each input's current staging buffer holds its block at every point, fetched there or not. -/
theorem before0 (hO : Ok m) (c : Dev nD) (t : Fin (cfgM m hO).N) (d) : (dat m hO c).before 0 t d = iblk m hO c 0 t :=
  ((dat m hO c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (hO : Ok m) (c : Dev nD) (t : Fin (cfgM m hO).N) (d) : (dat m hO c).before 1 t d = iblk m hO c 1 t :=
  ((dat m hO c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (hO : Ok m) (c : Dev nD) (t : Fin (cfgM m hO).N) (d) : (dat m hO c).before 2 t d = iblk m hO c 2 t :=
  ((dat m hO c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (hO : Ok m) (c : Dev nD) (t : Fin (cfgM m hO).N) (d) : (dat m hO c).before 3 t d = iblk m hO c 3 t :=
  ((dat m hO c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

abbrev ms0 (hO : Ok m) (t : Fin (cfgM m hO).N) : Memref sig .tc .vmem S1024x1024 .f32 := spec0_0.stage ((cfgM m hO).slots t 0)
abbrev ms1 (hO : Ok m) (t : Fin (cfgM m hO).N) : Memref sig .tc .vmem S1x1024x512 .f32 := spec0_1.stage ((cfgM m hO).slots t 1)
abbrev ms2 (hO : Ok m) (t : Fin (cfgM m hO).N) : Memref sig .tc .vmem S1x1024x512 .f32 := spec0_2.stage ((cfgM m hO).slots t 2)
abbrev ms3 (hO : Ok m) (t : Fin (cfgM m hO).N) : Memref sig .tc .vmem S1x512x1024 .f32 := spec0_3.stage ((cfgM m hO).slots t 3)
abbrev ms4 (hO : Ok m) (t : Fin (cfgM m hO).N) : Memref sig .tc .vmem S1024x1024 .f32 := spec0_4.stage ((cfgM m hO).slots t 4)

/-- The kernel body at point `t`, on what the pipeline calls it with. -/
abbrev bodyAt (hO : Ok m) (t : Fin (cfgM m hO).N) : Prog (TpuEff nD τ sig (Elt F) Λ₀ .tc) PUnit :=
  cc0_moe_grouped (grid0.coords t) tM0 (Memref.isWhole_whole _) tM1 (Memref.isWhole_whole _) tM2 (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4)) accM (Memref.isWhole_whole _)

theorem row (hO : Ok m) (t : Fin (cfgM m hO).N) :
    defs₀ (F := F) .tc (cfgM m hO).body ((cfgM m hO).bodyArgs t ((cfgM m hO).slots t)) = bodyAt m hO t := by
  unfold defs₀; rw [Defs.onTc_tc]

def bodyPre (hO : Ok m) (c : Dev nD) (t : Fin (cfgM m hO).N) : sProp 𝕄 :=
  iprop((dat m hO c).Φ t.castSucc ∗ (dat m hO c).owesAt () t.castSucc
    ∗ (∃ d, owns (c : Thread nD τ) (ms0 m hO t) fullShare ((dat m hO c).before 0 t d))
    ∗ (∃ d, owns (c : Thread nD τ) (ms1 m hO t) fullShare ((dat m hO c).before 1 t d))
    ∗ (∃ d, owns (c : Thread nD τ) (ms2 m hO t) fullShare ((dat m hO c).before 2 t d))
    ∗ (∃ d, owns (c : Thread nD τ) (ms3 m hO t) fullShare ((dat m hO c).before 3 t d))
    ∗ (∃ Y, ⌜((dat m hO c).toRRel marked (rel m hO c)).Finds 4 t Y⌝ ∗ owns (c : Thread nD τ) (ms4 m hO t) fullShare Y))

def bodyPost (hO : Ok m) (c : Dev nD) (t : Fin (cfgM m hO).N) : sProp 𝕄 :=
  iprop((dat m hO c).Φ t.succ ∗ (dat m hO c).owesAt () t.succ
    ∗ owns (c : Thread nD τ) (ms0 m hO t) fullShare ((dat m hO c).after 0 t)
    ∗ owns (c : Thread nD τ) (ms1 m hO t) fullShare ((dat m hO c).after 1 t)
    ∗ owns (c : Thread nD τ) (ms2 m hO t) fullShare ((dat m hO c).after 2 t)
    ∗ owns (c : Thread nD τ) (ms3 m hO t) fullShare ((dat m hO c).after 3 t)
    ∗ (∃ X, ⌜rel m hO c 4 t X⌝ ∗ owns (c : Thread nD τ) (ms4 m hO t) fullShare X))

theorem sound (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before0, before1, before2, before3]
  rw [after0, after1, after2, after3, show (dat m hO c).owesAt () t.succ = (dat m hO c).owesAt () t.castSucc from rfl,
    show (dat m hO c).Φ t.castSucc = iprop((∃ a, ⌜Inv m hO c t.val a⌝ ∗ owns (c : Thread nD τ) accM fullShare a) ∗ (∃ r, prngReg c r) ∗ Pipeline.ΦT pre0 (tbl m) c) from rfl,
    show (dat m hO c).Φ t.succ = iprop((∃ a, ⌜Inv m hO c (t.val + 1) a⌝ ∗ owns (c : Thread nD τ) accM fullShare a) ∗ (∃ r, prngReg c r) ∗ Pipeline.ΦT pre0 (tbl m) c) from rfl,
    tables_eq]
  iintro ⟨⟨⟨%a, %hI, HS⟩, Hg, ⟨HT0, HT1, HT2⟩⟩, Ho, ⟨%d0, H0⟩, ⟨%d1, H1⟩, ⟨%d2, H2⟩, ⟨%d3, H3⟩, ⟨%y, -, H4⟩⟩
  iapply (run c (grid0.coords t) _ _ _ _ _ _ _ _ _ _ _ _ (iblk m hO c 0 t) (iblk m hO c 1 t) (iblk m hO c 2 t) (iblk m hO c 3 t) a y (tbl m 0) (tbl m 1) (tbl m 2) _)
  isplitl [H0]; · iexact H0
  isplitl [H1]; · iexact H1
  isplitl [H2]; · iexact H2
  isplitl [H3]; · iexact H3
  isplitl [H4]; · iexact H4
  isplitl [HS]; · iexact HS
  isplitl [HT0]; · iexact HT0
  isplitl [HT1]; · iexact HT1
  isplitl [HT2]; · iexact HT2
  iintro ⟨H0, H1, H2, H3, ⟨%y', %hy, H4⟩, ⟨%a', %ha, HS⟩, HT0, HT1, HT2⟩
  isplitl [HS Hg HT0 HT1 HT2]
  · isplitl [HS]
    · iexists a'; isplitr
      · ipureintro; exact inv_step m hO c t a a' hI ha
      iexact HS
    isplitl [Hg]; · iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  iexists y'; isplitr
  · ipureintro; exact left_step m hO c t a y' hI hy
  iexact H4

theorem body_obligation (hO : Ok m) (c : Dev nD) : BodyObligationRel (dat (F := F) m hO c) (defs₀ (F := F)) Variants.none () Set.univ marked (rel m hO c) := fun t => by
  rw [bigSep_W0, bigSep_W0, row m hO]
  exact triple_restated (sound m hO c t) rfl .rfl fun _ => .rfl

/-! ## The launch and the frame -/

abbrev rdat (hO : Ok m) (c : Dev nD) : RDat τ (Elt F) Unit ℕ (UR sig nD τ) ℕ (cfgM m hO) c := (dat m hO c).toRRel marked (rel m hO c)

set_option backward.isDefEq.respectTransparency.types false in
theorem run_main (hO : Ok m) : θ_run defs (onTc (τ := τ) (main (F := F))) (s₀ m ρ)
    (fun r => Pipeline.RDat.FramePost (cfgM m hO) (rdat m hO) (V m) r ∧ r.2.sem = fun _ => 0) :=
  Pipeline.RDat.θ_run_frameP_track (Q' := _) pcfgs (fun _ => adm m hO) (0 : Fin 1) launch0 defs₀ Variants.none (rdat m hO) m ρ main
    (hbody := fun c => (body_obligation m hO c).toRRel) (hshare := fun c => (dat m hO c).share_full fun _ => rfl)
    (howed := fun _ _ => rfl) (V := V m) (hmain := hmain m Variants.none) (hA := A_eq m hO) (hpf := V_pre m)
    (hin := fun c => by
      show iprop(Pipeline.ΦA spec0 c ∗ Pipeline.ΦT pre0 (tbl m) c) ⊢ iprop((∃ a, ⌜Inv m hO c 0 a⌝ ∗ owns (c : Thread nD τ) accM fullShare a) ∗ (∃ r, prngReg c r) ∗ Pipeline.ΦT pre0 (tbl m) c)
      rw [rest_eq]
      iintro ⟨⟨⟨%a, HS⟩, Hg⟩, HT⟩
      isplitl [HS]
      · iexists a; isplitr
        · ipureintro; intro k hk e; exact absurd e (Nat.succ_ne_zero k).symm
        iexact HS
      isplitl [Hg]; · iexact Hg
      iexact HT)
    (hout := fun c => by
      show iprop((∃ a, ⌜Inv m hO c (cfgM m hO).N a⌝ ∗ owns (c : Thread nD τ) accM fullShare a) ∗ (∃ r, prngReg c r) ∗ Pipeline.ΦT pre0 (tbl m) c) ⊢ Pipeline.ΦA spec0 c
      rw [rest_eq]
      iintro ⟨⟨%a, -, HS⟩, Hg, -⟩
      isplitl [HS]; · iexists a; iexact HS
      iexact Hg)

/-- The frame: every argument ends at its launch contents, and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(Pipeline.RDat.FramePost.arr_in h.1 c 0 rfl).trans (A_eq m hO c 0),
     (h.1 c).2 main_arg1 (by decide : main_arg1 ∈ Pipeline.restRefs sig spec0),
     (h.1 c).2 main_arg2 (by decide : main_arg2 ∈ Pipeline.restRefs sig spec0),
     (h.1 c).2 main_arg3 (by decide : main_arg3 ∈ Pipeline.restRefs sig spec0),
     (Pipeline.RDat.FramePost.arr_in h.1 c 1 rfl).trans (A_eq m hO c 1),
     (Pipeline.RDat.FramePost.arr_in h.1 c 2 rfl).trans (A_eq m hO c 2),
     (Pipeline.RDat.FramePost.arr_in h.1 c 3 rfl).trans (A_eq m hO c 3)⟩, h.2⟩) (run_main m ρ hO)

end Cert.MoeIdeal.Hand

end
-- ==== Proof.MoePre.lean ====
/- The tables read: what the precondition says of them, the blocks they name, and the rows the mask sets. -/
module

public import proofs.«01_k».proof.Proof.MoeRun
public import proofs.«01_k».proof.Proof.Finite
public import proofs.«01_k».proof.Pre_tables_in_range
public import proofs.«01_k».proof.On_routed_rows
public import Idealize.ShloMosaic.Lib.Pointwise

@[expose] public section

set_option maxRecDepth 16384

noncomputable section

namespace Cert.MoePre

open Cert.MoeIdeal Cert.MoeIdeal.Gen Idealize.ShloMosaic Cert.Finite

instance pre_facts : Cert.Pre_tables_in_range.Facts where
  bcast_S_S24 := by decide
  reducesTo_S24_S_d0 := by decide
  h_S_ := by decide
  bcast_S_S1 := by decide
  reducesTo_S1_S_d0 := by decide

instance on_facts : Cert.On_routed_rows.Facts where
  shapeCasts_S1_S_ := by decide
  bcast_S_S24x1024x1024 := by decide
  bcast_S24_S24x1x1_0 := by decide
  bcast_S24x1x1_S24x1024x1024_0_1_2 := by decide
  shapeCasts_S24x1024x1024_S24576x1024 := by decide

variable {F : FTy → Type} [FloatOps F]

theorem ofBool_one (p : Bool) : BitVec.ofBool p = 1#1 ↔ p = true := by cases p <;> decide

theorem word_range (v : BitVec 32) (h0 : IntOp.cmpi .sge v 0#32 = 1#1) (h1 : IntOp.cmpi .slt v 8#32 = 1#1) : v.toNat < 8 := by
  simp only [IntOp.cmpi, ofBool_one, BitVec.sle_eq_decide, BitVec.slt_eq_decide, decide_eq_true_eq, BitVec.toInt_eq_toNat_cond, BitVec.toNat_ofNat,
    Nat.reducePow, Nat.reduceMod] at h0 h1
  omega

theorem word_pos (v : BitVec 32) (h : IntOp.cmpi .sge v 1#32 = 1#1) : 0 < v.toNat ∧ v.toNat < 2 ^ 31 := by
  have hv := v.isLt
  simp only [IntOp.cmpi, ofBool_one, BitVec.sle_eq_decide, decide_eq_true_eq, BitVec.toInt_eq_toNat_cond, BitVec.toNat_ofNat,
    Nat.reducePow, Nat.reduceMod] at h
  omega

/-- What the precondition says of the tables: each tile's expert is below 8, and the count of tiles is positive. -/
structure InRange (te : IVec S24 32) (nu : IVec S1 32) : Prop where
  expert : ∀ x, (te x).toNat < 8
  count : ∀ x, 0 < (nu x).toNat ∧ (nu x).toNat < 2 ^ 31

theorem inRange (x0 : FVec F S24576x1024 .f32) (x1 x2 : IVec S24 32) (x3 : IVec S1 32) (x4 x5 : FVec F S8x1024x3584 .f32) (x6 : FVec F S8x3584x1024 .f32)
    (h : Cert.Pre_tables_in_range.fn (F := F) x0 x1 x2 x3 x4 x5 x6 = fun _ => 1#1) : InRange x1 x3 := by
  have hs : ∀ j j' : Cert.Pre_tables_in_range.S_.Idx, j = j' := fun j j' => funext fun a => a.elim0
  obtain ⟨h5, h8⟩ := and_one _ _ (congrFun h fun a => a.elim0)
  constructor
  · intro x
    obtain ⟨ha, hb⟩ := and_one _ _ (all_of_reduce _ _ _ _ hs _ h5 x)
    exact word_range _ ha hb
  · exact fun x => word_pos _ (all_of_reduce _ _ _ _ hs _ h8 x)

/-- The tile the activations are taken from: the tile itself if it is in use, and one not after it in any case. -/
theorem tile_le (a n : BitVec 32) (ha : a.toNat < 24) (hn : 0 < n.toNat ∧ n.toNat < 2 ^ 31) : (Scalar.minsi a (Scalar.subi n 1#32)).toNat < 24 := by
  show (if a.slt (n - 1#32) then a else n - 1#32).toNat < 24
  have e : (n - 1#32).toNat = n.toNat - 1 := by simp only [BitVec.toNat_sub, BitVec.toNat_ofNat, Nat.reducePow, Nat.reduceMod]; omega
  split
  · exact ha
  · rename_i h
    simp only [BitVec.slt_eq_decide, decide_eq_true_eq, BitVec.toInt_eq_toNat_cond, e, Nat.reducePow] at h
    omega

theorem tile_used (a n : BitVec 32) (ha : a.toNat < 24) (hn : 0 < n.toNat ∧ n.toNat < 2 ^ 31) (hu : Scalar.cmpi .slt a n = 1#1) :
    Scalar.minsi a (Scalar.subi n 1#32) = a := by
  show (if a.slt (n - 1#32) then a else n - 1#32) = a
  have e : (n - 1#32).toNat = n.toNat - 1 := by simp only [BitVec.toNat_sub, BitVec.toNat_ofNat, Nat.reducePow, Nat.reduceMod]; omega
  change IntOp.cmpi .slt a n = 1#1 at hu
  simp only [IntOp.cmpi, ofBool_one, BitVec.slt_eq_decide, decide_eq_true_eq, BitVec.toInt_eq_toNat_cond, Nat.reducePow] at hu
  split
  · rfl
  · rename_i h
    simp only [BitVec.slt_eq_decide, decide_eq_true_eq, BitVec.toInt_eq_toNat_cond, e, Nat.reducePow] at h
    apply BitVec.eq_of_toNat_eq
    omega

theorem word_of (n : ℕ) (h : n < 2 ^ 32) : (BitVec.ofNat 32 n).toNat = n := by rw [BitVec.toNat_ofNat]; exact Nat.mod_eq_of_lt h

theorem part_le (b : BitVec 1) (i : grid0.Coords) : (Scalar.select b (BitVec.ofNat 32 (i 1).val) 6#32).toNat < 7 := by
  have hi : (i 1).val < 7 := (i 1).isLt
  unfold Scalar.select
  split
  · rw [word_of _ (by omega)]; exact hi
  · decide

/-- Tables in range name blocks inside the arrays. -/
theorem ok (pf : pre0.Contents (Elt F)) (h : InRange (pf 0) (pf 2)) : ok0 pf := by
  have w32 : EltTy.bits .f32 = 32 := rfl
  have tile : ∀ i : grid0.Coords, ∀ a, (cc0_transform_0 inb_S1_S1_0 numel1_S1 pf i a + 1) * S1024x1024.size a ≤ S24576x1024.size a := by
    intro i a
    have hi : (i 0).val < 24 := (i 0).isLt
    match a with
    | ⟨0, _⟩ =>
      have := tile_le (BitVec.ofNat 32 (i 0).val) (pf.at 2 (Rect.unit (s := S1) ![0] S1.size inb_S1_S1_0) numel1_S1) (by rw [word_of _ (by omega)]; exact hi) (h.count _)
      show ((Scalar.minsi (BitVec.ofNat 32 (i 0).val) (Scalar.subi (pf.at 2 (Rect.unit (s := S1) ![0] S1.size inb_S1_S1_0) numel1_S1) 1#32)).toNat + 1) * 1024 ≤ 24576
      omega
    | ⟨1, _⟩ => show (0 + 1) * 1024 ≤ 1024; decide
  have col : ∀ i : grid0.Coords, ∀ a, (cc0_transform_1 k0_off1_inb numel1_S1 inb_S1_S1_0 pf i a + 1) * S1x1024x512.size a ≤ S8x1024x3584.size a := by
    intro i a
    match a with
    | ⟨0, _⟩ => exact (Nat.mul_one _).le.trans (h.expert ((Rect.unit (s := S24) (k0_off1 i) S1.size (k0_off1_inb i)).emb (Shape.Idx.first (numel1_S1.symm ▸ Nat.one_pos))))
    | ⟨1, _⟩ => show (0 + 1) * 1024 ≤ 1024; decide
    | ⟨2, _⟩ => show ((Scalar.select _ (BitVec.ofNat 32 (i 1).val) 6#32).toNat + 1) * 512 ≤ 3584
                have := part_le (Scalar.cmpi .slt (BitVec.ofNat 32 (i 0).val) (pf.at 2 (Rect.unit (s := S1) ![0] S1.size inb_S1_S1_0) numel1_S1)) i; omega
  have row : ∀ i : grid0.Coords, ∀ a, (cc0_transform_3 k0_off1_inb numel1_S1 inb_S1_S1_0 pf i a + 1) * S1x512x1024.size a ≤ S8x3584x1024.size a := by
    intro i a
    match a with
    | ⟨0, _⟩ => exact col i 0
    | ⟨1, _⟩ => exact col i 2
    | ⟨2, _⟩ => show (0 + 1) * 1024 ≤ 1024; decide
  exact ⟨fun i => ⟨tile i, .inl w32⟩, fun i => ⟨col i, .inl w32⟩, fun i => ⟨col i, .inl w32⟩, fun i => ⟨row i, .inl w32⟩⟩

end Cert.MoePre

end
-- ==== Proof.MoeBits.lean ====
/- The grouped expert call as written, over bits: its text is that of the idealized program, and so is its frame. -/
module

public import proofs.«01_k».proof.Defs
public import proofs.«01_k».proof.Proof.MoePre
public import proofs.«01_k».proof.Proof.Gen.Moe
public import proofs.«01_k».proof.Proof.Gen.Moe.Launch

@[expose] public section

set_option maxRecDepth 16384

noncomputable section

namespace Cert.MoeBits

open Cert.Moe Cert.Moe.Gen
open Idealize.ShloMosaic Idealize.ShloMosaic.TcCoe Idealize.SL.Sem

/-- The two programs' bodies, body tables and mains are the same. -/
theorem bodies_eq : Cert.Moe.defs₀ (F := Bits) = Cert.MoeIdeal.defs₀ (F := Bits) := by
  unfold Cert.Moe.defs₀ Cert.MoeIdeal.defs₀
  refine congrArg Defs.onTc ?_
  funext l args
  match l, args with
  | 0, (t, s) => rfl
  | ⟨n + 1, h⟩, _ => exact absurd h (by omega)

theorem defs_eq : Cert.Moe.defs (F := Bits) = Cert.MoeIdeal.defs (F := Bits) := congrArg (Pipeline.defs Cert.Moe.pcfgs) bodies_eq

set_option maxHeartbeats 2000000 in
theorem main_eq : Cert.Moe.main (F := Bits) = Cert.MoeIdeal.main (F := Bits) := by
  funext c
  unfold Cert.Moe.main Cert.MoeIdeal.main
  rfl

variable (m : (ℓ : Loc nD τ sig) → Buf (Elt Bits) ℓ) (ρ : Dev nD → PrngReg)

theorem frame (hpre : Cert.Pre_Moe m) : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
by
  have hO : Cert.MoeIdeal.ok0 (F := Bits) (Cert.MoeIdeal.Hand.tbl (F := Bits) m) := Cert.MoePre.ok _ (Cert.MoePre.inRange _ _ _ _ _ _ _ (hpre 0))
  have h := Cert.MoeIdeal.Hand.frame (F := Bits) m ρ hO
  rw [defs_eq, main_eq]
  exact h

end Cert.MoeBits

end
-- ==== Proof.MoeValue.lean ====
/- The grouped expert call over the extended reals: on a routed row its result is the tile's expert applied to the row. -/
module

public import proofs.«01_k».proof.Proof.MoePre

@[expose] public section

set_option maxRecDepth 16384

noncomputable section

namespace Cert.MoeValue

open Cert.MoeIdeal Cert.MoeIdeal.Gen Cert.MoeIdeal.Hand Cert.MoePre Idealize.ShloMosaic Idealize.ShloMosaic.TcCoe Idealize.SL.Sem

/-! ## The specification -/

/-- Hidden unit `k` of expert `e` on row `R`. -/
def act (x : FVec Ideal S24576x1024 .f32) (wg wu : FVec Ideal S8x1024x3584 .f32) (e : Fin 8) (R : Fin 24576) (k : Fin 3584) : EReal :=
  (∑ j : Fin 1024, x (ix2 R j) * wg (ix3 e j k)) * Ideal.logistic (∑ j : Fin 1024, x (ix2 R j) * wg (ix3 e j k)) * ∑ j : Fin 1024, x (ix2 R j) * wu (ix3 e j k)

/-- What hidden unit `k` gives to column `d` of the row's result. -/
def term (x : FVec Ideal S24576x1024 .f32) (wg wu : FVec Ideal S8x1024x3584 .f32) (wd : FVec Ideal S8x3584x1024 .f32) (e : Fin 8) (R : Fin 24576) (d : Fin 1024) (k : ℕ) : EReal :=
  if h : k < 3584 then act x wg wu e R ⟨k, h⟩ * wd (ix3 e ⟨k, h⟩ d) else 0

/-! ## One step of a half -/

theorem step_at (i : grid0.Coords) (x1 x2 : Vec Ideal S1x1024x512 .f32) (x3 : Vec Ideal S1x512x1024 .f32) (xr ar : Vec Ideal S512x1024 .f32) (r : Fin 512) (d : Fin 1024) :
    stepv i x1 x2 x3 xr ar (ix2 r d) = (if (i 1).val = 0 then 0 else ar (ix2 r d))
      + ∑ k : Fin 512, ((∑ j : Fin 1024, xr (ix2 r j) * x1 (ix3 (0 : Fin 1) j k)) * Ideal.logistic (∑ j : Fin 1024, xr (ix2 r j) * x1 (ix3 (0 : Fin 1) j k))
        * ∑ j : Fin 1024, xr (ix2 r j) * x2 (ix3 (0 : Fin 1) j k)) * x3 (ix3 (0 : Fin 1) k d) := by
  unfold stepv
  pointwise [k0_pay4, k0_pay1, k0_pay2, k0_pay3]
  refine congrArg (· + _) ?_
  by_cases h : (i 1).val = 0
  · rw [if_pos h, h]; rfl
  · rw [if_neg h]
    have h7 : (i 1).val < 7 := (i 1).isLt
    have : Scalar.cmpi .eq (BitVec.ofNat 32 (i 1).val) 0#32 ≠ 1#1 := by
      intro e
      change BitVec.ofBool (BitVec.ofNat 32 (i 1).val == 0#32) = 1#1 at e
      rw [ofBool_one, beq_iff_eq] at e
      have := congrArg BitVec.toNat e
      rw [word_of _ (by omega)] at this
      exact h this
    exact if_neg this

/-- `half` is the part of a block from row `o`. -/
def HalfAt (half : Vec Ideal S1024x1024 .f32 → Vec Ideal S512x1024 .f32) (o : ℕ) (ho : o ≤ 512) : Prop :=
  ∀ (X : Vec Ideal S1024x1024 .f32) (r : Fin 512) (d : Fin 1024), half X (ix2 r d) = X (ix2 (⟨o + r.val, by omega⟩ : Fin 1024) d)

theorem lo_at : HalfAt lo 0 (by omega) := fun X r d => congrArg X (funext fun a => Fin.ext (match a with
  | ⟨0, _⟩ => congrArg (0 + ·) (Nat.one_mul _)
  | ⟨1, _⟩ => (Nat.zero_add _).trans (Nat.one_mul _)))

theorem hi_at : HalfAt hi 512 (by omega) := fun X r d => congrArg X (funext fun a => Fin.ext (match a with
  | ⟨0, _⟩ => congrArg (512 + ·) (Nat.one_mul _)
  | ⟨1, _⟩ => (Nat.zero_add _).trans (Nat.one_mul _)))

/-- One step over blocks that hold the row and 512 of the expert's hidden units adds 512 of the row's terms. -/
theorem point_of (x : FVec Ideal S24576x1024 .f32) (wg wu : FVec Ideal S8x1024x3584 .f32) (wd : FVec Ideal S8x3584x1024 .f32) (e : Fin 8) (R : Fin 24576) (i : grid0.Coords) (f : Fin 7)
    (hf : (i 1).val = f.val) (x1 x2 : Vec Ideal S1x1024x512 .f32) (x3 : Vec Ideal S1x512x1024 .f32) (xr ar : Vec Ideal S512x1024 .f32) (r : Fin 512) (d : Fin 1024)
    (h0 : ∀ j : Fin 1024, xr (ix2 r j) = x (ix2 R j)) (h1 : ∀ (j : Fin 1024) (k : Fin 512), x1 (ix3 (0 : Fin 1) j k) = wg (ix3 e j (⟨512 * f.val + k.val, by omega⟩ : Fin 3584)))
    (h2 : ∀ (j : Fin 1024) (k : Fin 512), x2 (ix3 (0 : Fin 1) j k) = wu (ix3 e j (⟨512 * f.val + k.val, by omega⟩ : Fin 3584)))
    (h3 : ∀ (k : Fin 512) (d : Fin 1024), x3 (ix3 (0 : Fin 1) k d) = wd (ix3 e (⟨512 * f.val + k.val, by omega⟩ : Fin 3584) d)) :
    stepv i x1 x2 x3 xr ar (ix2 r d) = (if f.val = 0 then 0 else ar (ix2 r d)) + ∑ k ∈ Finset.range 512, term x wg wu wd e R d (512 * f.val + k) := by
  rw [step_at, hf, Finset.sum_range]
  refine congrArg (_ + ·) (Finset.sum_congr rfl fun k _ => ?_)
  unfold term
  rw [dif_pos (by omega : 512 * f.val + k.val < 3584), h3]
  unfold act
  simp only [h0, h1, h2]

/-! ## The blocks a used tile's points work on -/

variable (m : (ℓ : Loc nD τ sig) → Buf (Elt Ideal) ℓ) (ρ : Dev nD → PrngReg)

/-- Tile `i`'s expert. -/
def expert (te : IVec S24 32) (nu : IVec S1 32) (h : InRange te nu) (i : Fin 24) : Fin 8 := ⟨(te (ix1 i)).toNat, h.expert _⟩

theorem used_word (t : Fin grid0.N) (hu : Used m t) :
    Scalar.cmpi .slt (BitVec.ofNat 32 (grid0.coords t 0).val) ((tbl m).at 2 (Rect.unit (s := S1) ![0] S1.size inb_S1_S1_0) numel1_S1) = 1#1 := by
  have h : k0_cond1 (grid0.coords t) (usedW (tbl m 2)) = 1#1 := hu
  unfold k0_cond1 at h
  exact (by decide : ∀ p : BitVec 1, Scalar.cmpi .ne (Scalar.extui p : BitVec 32) 0#32 = 1#1 → p = 1#1) _ h

theorem tile_at (h : InRange (tbl m 0) (tbl m 2)) (t : Fin grid0.N) (hu : Used m t) :
    cc0_transform_0 inb_S1_S1_0 numel1_S1 (tbl m) (grid0.coords t) 0 = (grid0.coords t 0).val := by
  have hi : (grid0.coords t 0).val < 24 := (grid0.coords t 0).isLt
  refine (congrArg BitVec.toNat (tile_used _ _ (by rw [word_of _ (by omega)]; exact hi) (h.count _) (used_word m t hu))).trans (word_of _ (by omega))

theorem place (i : grid0.Coords) : (Rect.unit (s := S24) (k0_off1 i) S1.size (k0_off1_inb i)).emb (Shape.Idx.first (numel1_S1.symm ▸ Nat.one_pos)) = ix1 (⟨(i 0).val, (i 0).isLt⟩ : Fin 24) := by
  have hi : (i 0).val < 24 := (i 0).isLt
  funext a
  apply Fin.ext
  match a with
  | ⟨0, _⟩ => show (BitVec.ofNat 32 (i 0).val).toNat + 1 * 0 = (i 0).val; rw [word_of _ (by omega)]; omega

theorem expert_at (h : InRange (tbl m 0) (tbl m 2)) (t : Fin grid0.N) :
    cc0_transform_1 k0_off1_inb numel1_S1 inb_S1_S1_0 (tbl m) (grid0.coords t) 0 = (expert _ _ h (⟨(grid0.coords t 0).val, (grid0.coords t 0).isLt⟩ : Fin 24)).val :=
  congrArg (fun q => (tbl m 0 q).toNat) (place (grid0.coords t))

theorem part_at (t : Fin grid0.N) (hu : Used m t) :
    cc0_transform_1 k0_off1_inb numel1_S1 inb_S1_S1_0 (tbl m) (grid0.coords t) 2 = (grid0.coords t 1).val := by
  have hi : (grid0.coords t 1).val < 7 := (grid0.coords t 1).isLt
  show (Scalar.select (Scalar.cmpi .slt (BitVec.ofNat 32 (grid0.coords t 0).val) ((tbl m).at 2 (Rect.unit (s := S1) ![0] S1.size inb_S1_S1_0) numel1_S1)) (BitVec.ofNat 32 (grid0.coords t 1).val) 6#32).toNat = _
  rw [used_word m t hu]
  exact word_of _ (by omega)

variable (hO : Ok m) (c : Dev nD) (h : InRange (tbl m 0) (tbl m 2))

section

variable (t : Fin grid0.N) (hu : Used m t) (i : Fin 24) (ht : (grid0.coords t 0).val = i.val)

include hu ht h in
theorem blk0 (r j : Fin 1024) : iblk m hO c 0 t (ix2 r j) = V m c main_arg0 (ix2 (⟨1024 * i.val + r.val, by omega⟩ : Fin 24576) j) := by
  refine congrArg (V m c main_arg0) (funext fun a => Fin.ext ?_)
  match a with
  | ⟨0, _⟩ => show cc0_transform_0 inb_S1_S1_0 numel1_S1 (tbl m) (grid0.coords t) 0 * 1024 + 1 * r.val = 1024 * i.val + r.val
              rw [tile_at m h t hu, ht]; omega
  | ⟨1, _⟩ => show 0 * 1024 + 1 * j.val = j.val; omega

variable (f : Fin 7) (hf : (grid0.coords t 1).val = f.val)

include hu ht hf in
theorem col (j : Fin 1024) (k : Fin 512) (a : Fin 3) : cc0_transform_1 k0_off1_inb numel1_S1 inb_S1_S1_0 (tbl m) (grid0.coords t) a * S1x1024x512.size a + 1 * (ix3 (0 : Fin 1) j k a).val
    = (ix3 (expert _ _ h i) j (⟨512 * f.val + k.val, by omega⟩ : Fin 3584) a).val := by
  match a with
  | ⟨0, _⟩ => show cc0_transform_1 k0_off1_inb numel1_S1 inb_S1_S1_0 (tbl m) (grid0.coords t) 0 * 1 + 1 * 0 = (expert _ _ h i).val
              rw [expert_at m h t]
              have : (⟨(grid0.coords t 0).val, (grid0.coords t 0).isLt⟩ : Fin 24) = i := Fin.ext ht
              rw [this]; omega
  | ⟨1, _⟩ => show 0 * 1024 + 1 * j.val = j.val; omega
  | ⟨2, _⟩ => show cc0_transform_1 k0_off1_inb numel1_S1 inb_S1_S1_0 (tbl m) (grid0.coords t) 2 * 512 + 1 * k.val = 512 * f.val + k.val
              rw [part_at m t hu, hf]; omega

include hu ht hf in
theorem blk1 (j : Fin 1024) (k : Fin 512) : iblk m hO c 1 t (ix3 (0 : Fin 1) j k) = V m c main_arg4 (ix3 (expert _ _ h i) j (⟨512 * f.val + k.val, by omega⟩ : Fin 3584)) :=
  congrArg (V m c main_arg4) (funext fun a => Fin.ext (col m h t hu i ht f hf j k a))

include hu ht hf in
theorem blk2 (j : Fin 1024) (k : Fin 512) : iblk m hO c 2 t (ix3 (0 : Fin 1) j k) = V m c main_arg5 (ix3 (expert _ _ h i) j (⟨512 * f.val + k.val, by omega⟩ : Fin 3584)) :=
  congrArg (V m c main_arg5) (funext fun a => Fin.ext (col m h t hu i ht f hf j k a))

include hu ht hf in
theorem blk3 (k : Fin 512) (d : Fin 1024) : iblk m hO c 3 t (ix3 (0 : Fin 1) k d) = V m c main_arg6 (ix3 (expert _ _ h i) (⟨512 * f.val + k.val, by omega⟩ : Fin 3584) d) := by
  refine congrArg (V m c main_arg6) (funext fun a => Fin.ext ?_)
  match a with
  | ⟨0, _⟩ => exact col m h t hu i ht f hf d k 0
  | ⟨1, _⟩ => exact col m h t hu i ht f hf d k 2
  | ⟨2, _⟩ => show 0 * 1024 + 1 * d.val = d.val; omega

/-! ## A half of the accumulator, in closed form -/

/-- The row's terms, from the argument arrays at the region's entry. -/
abbrev termV (e : Fin 8) (R : Fin 24576) (d : Fin 1024) : ℕ → EReal := term (V m c main_arg0) (V m c main_arg4) (V m c main_arg5) (V m c main_arg6) e R d

include hu ht hf in
theorem point_at (half : Vec Ideal S1024x1024 .f32 → Vec Ideal S512x1024 .f32) (o : ℕ) (ho : o ≤ 512) (hh : HalfAt half o ho) (ar : Vec Ideal S512x1024 .f32) (r : Fin 512) (d : Fin 1024) :
    stepv (grid0.coords t) (iblk m hO c 1 t) (iblk m hO c 2 t) (iblk m hO c 3 t) (half (iblk m hO c 0 t)) ar (ix2 r d)
      = (if f.val = 0 then 0 else ar (ix2 r d)) + ∑ k ∈ Finset.range 512, termV m c (expert _ _ h i) (⟨1024 * i.val + (o + r.val), by omega⟩ : Fin 24576) d (512 * f.val + k) :=
  point_of _ _ _ _ _ _ _ f hf _ _ _ _ _ r d (fun j => (hh _ r j).trans (blk0 m hO c h t hu i ht _ j)) (blk1 m hO c h t hu i ht f hf) (blk2 m hO c h t hu i ht f hf) (blk3 m hO c h t hu i ht f hf)

end

theorem acc_at (half : Vec Ideal S1024x1024 .f32 → Vec Ideal S512x1024 .f32) (o : ℕ) (ho : o ≤ 512) (hh : HalfAt half o ho) (i : Fin 24) (hu : ∀ t : Fin grid0.N, t.val / 7 = i.val → Used m t) (r : Fin 512) (d : Fin 1024) :
    ∀ (f : ℕ) (hf : f < 7) (hn : 7 * i.val + f < grid0.N), accN m hO c half (7 * i.val + f) hn (ix2 r d)
      = ∑ k ∈ Finset.range (512 * f + 512), termV m c (expert _ _ h i) (⟨1024 * i.val + (o + r.val), by omega⟩ : Fin 24576) d k := by
  intro f
  induction f with
  | zero =>
    intro hf hn
    have hq : (7 * i.val + 0) / 7 = i.val := by omega
    have e := point_at m hO c h ⟨7 * i.val + 0, hn⟩ (hu _ hq) i ((coord0 _).trans hq) ⟨0, hf⟩ ((coord1 _).trans (by show (7 * i.val + 0) % 7 = 0; omega)) half o ho hh (k0_pay8 (F := Ideal)) r d
    rw [if_pos rfl, zero_add] at e
    rw [← accN_step m hO c half ⟨7 * i.val + 0, hn⟩ (k0_pay8 (F := Ideal)) (fun k hk e' he => by
      rw [coord0, coord0] at he; change 7 * i.val + 0 = k + 1 at e'; change (7 * i.val + 0) / 7 = k / 7 at he; omega), e]
    refine Finset.sum_congr (by rw [Nat.mul_zero, Nat.zero_add]) fun k _ => ?_
    exact congrArg _ (Nat.zero_add k)
  | succ f ih =>
    intro hf hn
    have hq : (7 * i.val + (f + 1)) / 7 = i.val := by omega
    have e := point_at m hO c h ⟨7 * i.val + (f + 1), hn⟩ (hu _ hq) i ((coord0 _).trans hq) ⟨f + 1, hf⟩ ((coord1 _).trans (by show (7 * i.val + (f + 1)) % 7 = f + 1; omega)) half o ho hh
      (accN m hO c half (7 * i.val + f) (by omega)) r d
    rw [if_neg (Nat.succ_ne_zero f), ih (by omega) (by omega)] at e
    exact e.trans (Finset.sum_range_add _ (512 * f + 512) 512).symm

end Cert.MoeValue

end
-- ==== Proof.MoeRef.lean ====
/- The experts' reference over the extended reals: on any row the one-hot weights leave the tile's expert alone. -/
module

public import proofs.«01_k».proof.Proof.MoeValue
public import proofs.«01_k».proof.Proof.Gen.MoeRefIdeal.Run
public import proofs.«01_k».proof.Proof.Gen.MoeRefIdeal.Read

@[expose] public section

set_option maxRecDepth 16384

noncomputable section

namespace Cert.MoeRef

open Cert.MoeRefIdeal Cert.MoeRefIdeal.Read Cert.MoePre Cert.MoeValue Idealize.ShloMosaic

variable (x : FVec Ideal S24576x1024 .f32) (te : IVec S24 32) (wg wu : FVec Ideal S8x1024x3584 .f32) (wd : FVec Ideal S8x3584x1024 .f32)

/-- A row's weight for an expert is one if its tile's expert is that one, else zero. -/
theorem weight (h : ∀ x, (te x).toNat < 8) (i : Fin 24) (r : Fin 1024) (R : Fin 24576) (hR : R.val = 1024 * i.val + r.val) (e : Fin 8) (d : Fin 1024) :
    val_main_v11 (F := Ideal) te (ix3 e R d) = if (te (ix1 i)).toNat = e.val then 1 else 0 := by
  rw [val_main_v11_apply, val_main_v10_apply, val_main_v9_apply, val_main_v3_apply, val_main_call0_v4_apply, val_main_call0_v2_apply, val_main_call0_v3_apply,
    val_main_call0_v0_apply, val_main_call0_v1_apply, val_main_v2_apply, val_main_v1_apply, val_main_v0_apply]
  have e1 : ∀ q : S24.Idx, (q 0).val = R.val / 1024 → q = ix1 i := fun q hq => funext fun a => Fin.ext (match a with
    | ⟨0, _⟩ => hq.trans (show R.val / 1024 = i.val by omega))
  refine (congrArg (fun q => (((IntOp.cmpi .eq (te q) (BitVec.ofNat 32 e.val)).toNat : ℝ) : EReal)) (e1 _ rfl)).trans ?_
  show (((IntOp.cmpi .eq (te (ix1 i)) (BitVec.ofNat 32 e.val)).toNat : ℝ) : EReal) = _
  have hw := h (ix1 i)
  generalize te (ix1 i) = w at hw ⊢
  have he : e.val < 8 := e.isLt
  change (((BitVec.ofBool (w == BitVec.ofNat 32 e.val)).toNat : ℝ) : EReal) = _
  by_cases hq : w.toNat = e.val
  · have : w = BitVec.ofNat 32 e.val := BitVec.eq_of_toNat_eq (by rw [word_of _ (by omega)]; exact hq)
    rw [if_pos hq, ← this, beq_self_eq_true]
    have e1 : (BitVec.ofBool true).toNat = 1 := rfl
    rw [e1, Nat.cast_one, EReal.coe_one]
  · have : (w == BitVec.ofNat 32 e.val) = false := by
      rw [beq_eq_false_iff_ne]; intro e'; exact hq (by rw [e', word_of _ (by omega)])
    rw [if_neg hq, this]; norm_num

/-- One expert on one row. -/
theorem each (e : Fin 8) (R : Fin 24576) (d : Fin 1024) : val_main_v8 (F := Ideal) x wg wu wd (ix3 e R d) = ∑ k ∈ Finset.range 3584, term x wg wu wd e R d k := by
  rw [val_main_v8_apply, Finset.sum_range]
  refine Finset.sum_congr rfl fun k _ => ?_
  unfold term
  rw [dif_pos k.isLt]
  have el : lidx_main_v8 (ix3 e R d) k = ix3 R e k := funext fun a => Fin.ext (match a with | ⟨0, _⟩ => rfl | ⟨1, _⟩ => rfl | ⟨2, _⟩ => rfl)
  have er : ridx_main_v8 (ix3 e R d) k = ix3 e k d := funext fun a => Fin.ext (match a with | ⟨0, _⟩ => rfl | ⟨1, _⟩ => rfl | ⟨2, _⟩ => rfl)
  rw [el, er]
  refine congrArg (· * _) ?_
  have g : val_main_v4 (F := Ideal) x wg (ix3 R e k) = ∑ j : Fin 1024, x (ix2 R j) * wg (ix3 e j k) := by
    rw [val_main_v4_apply]
    refine Finset.sum_congr rfl fun j _ => congr (congrArg HMul.hMul (congrArg x ?_)) (congrArg wg ?_)
    · exact funext fun a => Fin.ext (match a with | ⟨0, _⟩ => rfl | ⟨1, _⟩ => rfl)
    · exact funext fun a => Fin.ext (match a with | ⟨0, _⟩ => rfl | ⟨1, _⟩ => rfl | ⟨2, _⟩ => rfl)
  have u : val_main_v6 (F := Ideal) x wu (ix3 R e k) = ∑ j : Fin 1024, x (ix2 R j) * wu (ix3 e j k) := by
    rw [val_main_v6_apply]
    refine Finset.sum_congr rfl fun j _ => congr (congrArg HMul.hMul (congrArg x ?_)) (congrArg wu ?_)
    · exact funext fun a => Fin.ext (match a with | ⟨0, _⟩ => rfl | ⟨1, _⟩ => rfl)
    · exact funext fun a => Fin.ext (match a with | ⟨0, _⟩ => rfl | ⟨1, _⟩ => rfl | ⟨2, _⟩ => rfl)
  unfold act
  rw [val_main_v7_apply, val_main_v5_apply, val_main_call1_v5_apply, val_main_call1_v3_apply, val_main_call1_v4_apply, val_main_call1_v2_apply,
    val_main_call1_v1_apply, val_main_call1_v0_apply, val_main_call1_cst_apply, val_main_call1_cst_0_apply, g, u]
  generalize (∑ j : Fin 1024, x (ix2 R j) * wg (ix3 e j k) : EReal) = a
  have one : (FloatOps.ofBits (F := Ideal) .f32 0x3F800000#32 : EReal) = 1 := Ideal.ofBits_one_f32
  show (a * Ideal.div (FloatOps.ofBits (F := Ideal) .f32 0x3F800000#32) (FloatOps.ofBits (F := Ideal) .f32 0x3F800000#32 + Ideal.exp (-a)) * _ : EReal) = _
  rw [one]
  rfl

theorem ref_at (h : ∀ x, (te x).toNat < 8) (i : Fin 24) (r : Fin 1024) (R : Fin 24576) (hR : R.val = 1024 * i.val + r.val) (d : Fin 1024) :
    val_main_v13 (F := Ideal) x te wg wu wd (ix2 R d) = ∑ k ∈ Finset.range 3584, term x wg wu wd ⟨(te (ix1 i)).toNat, h _⟩ R d k := by
  rw [val_main_v13_apply]
  have z : (val_main_cst (F := Ideal)) (Shape.Idx.first Cert.MoeRefIdeal.Gen.facts.h_S_) = (0 : EReal) := Ideal.ofBits_zero .f32
  have ei : ∀ e : Fin 8, idx_main_v13 (ix2 R d) e = ix3 e R d := fun e => funext fun a => Fin.ext (match a with | ⟨0, _⟩ => rfl | ⟨1, _⟩ => rfl | ⟨2, _⟩ => rfl)
  refine (congr (congrArg HAdd.hAdd z) (Finset.sum_congr rfl fun e _ => ?_)).trans ((zero_add _).trans ((Finset.sum_ite_eq Finset.univ (⟨(te (ix1 i)).toNat, h _⟩ : Fin 8) fun e => ∑ k ∈ Finset.range 3584, term x wg wu wd e R d k).trans (if_pos (Finset.mem_univ _))))
  rw [ei, val_main_v12_apply, weight te h i r R hR e d, each]
  show (if (te (ix1 i)).toNat = e.val then (1 : EReal) else 0) * _ = if (⟨(te (ix1 i)).toNat, h _⟩ : Fin 8) = e then _ else 0
  by_cases hq : (te (ix1 i)).toNat = e.val
  · rw [if_pos hq, if_pos (Fin.ext hq), one_mul]
  · rw [if_neg hq, if_neg (fun e' => hq (congrArg Fin.val e')), zero_mul]

end Cert.MoeRef

end
-- ==== Proof.MoeClaim.lean ====
/- The grouped experts: on the rows the mask sets, the kernel's result is the reference's. -/
module

public import proofs.«01_k».proof.Defs
public import proofs.«01_k».proof.Proof.MoeRef
public import Idealize.ShloMosaic.Lib.Pipeline.Kit
public import Idealize.ShloMosaic.Lib.Pipeline.ArrRel

@[expose] public section

set_option maxRecDepth 16384

noncomputable section

namespace Cert.MoeClaim

open Cert.MoeIdeal Cert.MoeIdeal.Gen Cert.MoeIdeal.Hand Cert.MoePre Cert.MoeValue Idealize.ShloMosaic Idealize.ShloMosaic.TcCoe Idealize.SL.Sem
open Idealize.ShloMosaic.Pipeline (Dat RDat)

/-! ## The mask, and the body's conditions -/

theorem mask_at {F : FTy → Type} [FloatOps F] (x0 : FVec F S24576x1024 .f32) (x1 x2 : IVec S24 32) (x3 : IVec S1 32) (x4 x5 : FVec F S8x1024x3584 .f32) (x6 : FVec F S8x3584x1024 .f32)
    (i : Fin 24) (r : Fin 1024) (R : Fin 24576) (hR : R.val = 1024 * i.val + r.val) (d : Fin 1024) (h : Cert.On_routed_rows.fn (F := F) x0 x1 x2 x3 x4 x5 x6 (ix2 R d) = 1#1) :
    IntOp.cmpi .slt (BitVec.ofNat 32 i.val) (x3 (ix1 0)) = 1#1 ∧ IntOp.cmpi .slt (BitVec.ofNat 32 r.val) (x2 (ix1 i)) = 1#1 := by
  unfold Cert.On_routed_rows.fn at h
  have e := (shapeCast_apply _ Cert.On_routed_rows.Facts.shapeCasts_S24x1024x1024_S24576x1024 (ix2 R d) (ix3 i r d)
    (by rw [Shape.rowMajor_val_three, Shape.rowMajor_val_two]; show (i.val * 1024 + r.val) * 1024 + d.val = R.val * 1024 + d.val; omega)).symm.trans h
  obtain ⟨h0, h1⟩ := Cert.Finite.and_one _ _ e
  have s1 : ∀ q q' : S1.Idx, q = q' := fun q q' => funext fun a => Fin.ext (match a with
    | ⟨0, _⟩ => by have := (q 0).isLt; have := (q' 0).isLt; show (q 0).val = (q' 0).val; change (q 0).val < 1 at *; change (q' 0).val < 1 at *; omega)
  constructor
  · refine Eq.trans (congrArg (fun q => IntOp.cmpi .slt (BitVec.ofNat 32 i.val) (x3 q)) (s1 _ _)) h0
  · refine Eq.trans (congrArg (fun q => IntOp.cmpi .slt (BitVec.ofNat 32 r.val) (x2 q)) ?_) h1
    exact funext fun a => Fin.ext (match a with | ⟨0, _⟩ => rfl)

theorem row_word (n : ℕ) (hn : n < 1024) (v : BitVec 32) (h : IntOp.cmpi .slt (BitVec.ofNat 32 n) v = 1#1) : n < v.toNat ∧ v.toNat < 2 ^ 31 := by
  have hv := v.isLt
  simp only [IntOp.cmpi, ofBool_one, BitVec.slt_eq_decide, decide_eq_true_eq, BitVec.toInt_eq_toNat_cond, word_of n (by omega), Nat.reducePow] at h
  omega

theorem not_le (n : ℕ) (hn : n < 1024) (v : BitVec 32) (h : n < v.toNat ∧ v.toNat < 2 ^ 31) : IntOp.cmpi .sle v (BitVec.ofNat 32 n) ≠ 1#1 := by
  simp only [IntOp.cmpi, ne_eq, ofBool_one, BitVec.sle_eq_decide, decide_eq_true_eq, BitVec.toInt_eq_toNat_cond, word_of n (by omega), Nat.reducePow]
  omega

theorem both : ∀ p q : BitVec 1, Scalar.cmpi .ne (Scalar.extui (Scalar.andi p q) : BitVec 32) 0#32 = 1#1 → q = 1#1 := by decide
theorem wide : ∀ p : BitVec 1, p = 1#1 → Scalar.cmpi .ne (Scalar.extui p : BitVec 32) 0#32 = 1#1 := by decide

theorem cond3_ne (i : grid0.Coords) (v : BitVec 32) (h : 0 < v.toNat ∧ v.toNat < 2 ^ 31) : k0_cond3 i v ≠ 1#1 := fun e =>
  not_le 0 (by omega) v h (both _ _ e)

theorem cond4_ne (i : grid0.Coords) (v : BitVec 32) (h : 512 < v.toNat ∧ v.toNat < 2 ^ 31) : k0_cond4 i v ≠ 1#1 := fun e =>
  not_le 512 (by omega) v h (both _ _ e)

theorem cond2_eq (v : BitVec 32) (h : 512 < v.toNat ∧ v.toNat < 2 ^ 31) : k0_cond2 v = 1#1 := by
  refine wide _ ?_
  show IntOp.cmpi .sgt v (BitVec.ofNat 32 512) = 1#1
  simp only [IntOp.cmpi, ofBool_one, BitVec.slt_eq_decide, decide_eq_true_eq, BitVec.toInt_eq_toNat_cond, word_of 512 (by omega), Nat.reducePow]
  omega

/-! ## The result array after the run -/

variable (m : (ℓ : Loc nD τ sig) → Buf (Elt Ideal) ℓ) (ρ : Dev nD → PrngReg) (hO : Ok m) (c : Dev nD)

theorem flush4 (t : Fin (cfgM m hO).N) : ((cfgM m hO).win 4).flush t = true ↔ t.val % 7 = 6 :=
  (fun t => Pipeline.Window.flushOf_reads cc0_transform_4 reads0_4 hreads0_4 0 (by decide) (by decide) (Pipeline.Window.sep_of_coord cc0_transform_4 0 0 (fun _ => rfl) (by decide))
    (P := 7) (m := 6) (by decide) rfl t : ∀ t : Fin grid0.N, Pipeline.Window.flushOf grid0 true cc0_transform_4 t = true ↔ t.val % 7 = 6) t

theorem index4 (t : Fin (cfgM m hO).N) : ((cfgM m hO).win 4).index t (0 : Fin 2) = t.val / 7 := by
  have hi : (grid0.coords t 0).val < 24 := (grid0.coords t 0).isLt
  exact (word_of (grid0.coords t 0).val (by omega)).trans (coord0 t)

theorem apart : ∀ t t' : Fin (cfgM m hO).N, ((cfgM m hO).win 4).flush t = true → ((cfgM m hO).win 4).flush t' = true → t ≠ t' →
    Disjoint (((cfgM m hO).win 4).blk t).view.set (((cfgM m hO).win 4).blk t').view.set :=
  Pipeline.Window.hdisj_of_index_inj _ fun t t' h h' e => by
    have e0 := congrFun e (0 : Fin 2)
    rw [index4, index4] at e0
    rw [flush4] at h h'
    exact Fin.ext (by omega)

theorem emb4 (t : Fin (cfgM m hO).N) (i : Fin 24) (ht : t.val / 7 = i.val) (r d : Fin 1024) (R : Fin 24576) (hR : R.val = 1024 * i.val + r.val) :
    (((cfgM m hO).win 4).blk t).view.emb (ix2 r d) = ix2 R d := funext fun a => Fin.ext (match a with
  | ⟨0, _⟩ => by
    refine (congrArg (fun q => q * 1024 + 1 * r.val) (index4 m hO t)).trans ?_
    show t.val / 7 * 1024 + 1 * r.val = R.val; omega
  | ⟨1, _⟩ => by show 0 * 1024 + 1 * d.val = d.val; omega)

/-- A result block at a row below the tile's count, once the tile's last point has left it. -/
theorem left_at (h : InRange (tbl m 0) (tbl m 2)) (i : Fin 24) (r : Fin 1024) (R : Fin 24576) (hR : R.val = 1024 * i.val + r.val) (d : Fin 1024)
    (hu : IntOp.cmpi .slt (BitVec.ofNat 32 i.val) (tbl m 2 (ix1 0)) = 1#1) (hr : IntOp.cmpi .slt (BitVec.ofNat 32 r.val) (tbl m 1 (ix1 i)) = 1#1)
    (hn : 7 * i.val + 6 < grid0.N) (X : Vec Ideal S1024x1024 .f32) (hX : Left m hO c ⟨7 * i.val + 6, hn⟩ X) :
    X (ix2 r d) = ∑ k ∈ Finset.range 3584, termV m c (expert _ _ h i) R d k := by
  have used : ∀ t : Fin grid0.N, t.val / 7 = i.val → Used m t := fun t ht => by
    refine wide _ (Eq.trans ?_ hu)
    show IntOp.cmpi .slt (BitVec.ofNat 32 (grid0.coords t 0).val) (usedW (tbl m 2)) = _
    rw [coord0, ht]
    refine congrArg (fun q => IntOp.cmpi .slt (BitVec.ofNat 32 i.val) (tbl m 2 q)) (funext fun a => Fin.ext ?_)
    match a with
    | ⟨0, _⟩ => rfl
  have hq : (7 * i.val + 6) / 7 = i.val := by omega
  have hv : validW (grid0.coords ⟨7 * i.val + 6, hn⟩) (tbl m 1) = tbl m 1 (ix1 i) := by
    refine congrArg (tbl m 1) ((place _).trans ?_)
    exact congrArg ix1 (Fin.ext ((coord0 _).trans hq))
  obtain ⟨h3, h4⟩ := hX (used _ hq)
  rw [hv] at h3 h4
  obtain ⟨w, w'⟩ := row_word _ r.isLt _ hr
  have hr' := r.isLt
  by_cases hlo : r.val < 512
  · have e := congrFun (h3 (cond3_ne _ _ ⟨by omega, w'⟩)) (ix2 (⟨r.val, hlo⟩ : Fin 512) d)
    rw [acc_at m hO c h lo 0 (by omega) lo_at i used _ d 6 (by omega) hn, lo_at] at e
    have e0 : (⟨0 + r.val, by omega⟩ : Fin 1024) = r := Fin.ext (Nat.zero_add _)
    have e1 : (⟨1024 * i.val + (0 + r.val), by omega⟩ : Fin 24576) = R := Fin.ext (by show 1024 * i.val + (0 + r.val) = R.val; omega)
    rw [e0, e1] at e
    exact e
  · have hb : Big m ⟨7 * i.val + 6, hn⟩ := by unfold Big; rw [hv]; exact cond2_eq _ ⟨by omega, w'⟩
    have e := congrFun (h4 hb (cond4_ne _ _ ⟨by omega, w'⟩)) (ix2 (⟨r.val - 512, by omega⟩ : Fin 512) d)
    rw [acc_at m hO c h hi 512 (by omega) hi_at i used _ d 6 (by omega) hn, hi_at] at e
    have e0 : (⟨512 + (r.val - 512), by omega⟩ : Fin 1024) = r := Fin.ext (by show 512 + (r.val - 512) = r.val; omega)
    have e1 : (⟨1024 * i.val + (512 + (r.val - 512)), by omega⟩ : Fin 24576) = R := Fin.ext (by show 1024 * i.val + (512 + (r.val - 512)) = R.val; omega)
    rw [e0, e1] at e
    exact e

theorem result_at (h : InRange (tbl m 0) (tbl m 2)) (i : Fin 24) (r : Fin 1024) (R : Fin 24576) (hR : R.val = 1024 * i.val + r.val) (d : Fin 1024)
    (hu : IntOp.cmpi .slt (BitVec.ofNat 32 i.val) (tbl m 2 (ix1 0)) = 1#1) (hr : IntOp.cmpi .slt (BitVec.ofNat 32 r.val) (tbl m 1 (ix1 i)) = 1#1)
    (s : PUnit × MemSt nD τ sig (Elt Ideal)) (hs : RDat.FramePost (cfgM m hO) (rdat m hO) (V m) s) :
    s.2.mem ((c.tc : Thread nD τ).loc main_v0) (ix2 R d) = ∑ k ∈ Finset.range 3584, termV m c (expert _ _ h i) R d k := by
  obtain ⟨after, hL, hA⟩ := hs.exists_exact c
  have hn : 7 * i.val + 6 < grid0.N := by have := i.isLt; show 7 * i.val + 6 < 168; omega
  have hf : ((cfgM m hO).win 4).flush ⟨7 * i.val + 6, hn⟩ = true := (flush4 m hO _).2 (by show (7 * i.val + 6) % 7 = 6; omega)
  have hX : Left m hO c ⟨7 * i.val + 6, hn⟩ (after 4 ⟨7 * i.val + 6, hn⟩) := (dat m hO c).toRRel_leaves (fgt := marked) (Rl := rel m hO c) rfl (hL 4 _ hf)
  refine Eq.trans ?_ (left_at m hO c h i r R hR d hu hr hn _ hX)
  refine (congrFun (hA 4) (ix2 R d)).trans ?_
  rw [← emb4 m hO ⟨7 * i.val + 6, hn⟩ i (by show (7 * i.val + 6) / 7 = i.val; omega) r d R hR]
  exact Dat.arrAt_emb_eq_flushed _ 4 (apart m hO) _ hf (ix2 r d)

/-! ## The claim -/

theorem algebraic [hk : Cert.MoeIdeal.Facts] [hr : Cert.MoeRefIdeal.Facts] : Cert.algebraic_MoeIdeal_MoeRefIdeal_on_routed_rows := by
  intro m g m' g' hpre hargs
  have h : InRange (tbl m 0) (tbl m 2) := inRange _ _ _ _ _ _ _ (hpre 0)
  have hO : Ok m := ok _ h
  refine ⟨fun c => Cert.MoeRefIdeal.Read.val_main_v13 (F := Ideal) (V m c main_arg0) (V m c main_arg1) (V m c main_arg4) (V m c main_arg5) (V m c main_arg6), ?_, ?_⟩
  · refine (θ_run _ _ _).mono (fun s hs c => ⟨fun y hy => ?_,
      (RDat.FramePost.arr_in hs.1 c 0 rfl).trans (A_eq m hO c 0),
      (hs.1 c).2 main_arg1 (by decide : main_arg1 ∈ Pipeline.restRefs sig spec0),
      (hs.1 c).2 main_arg2 (by decide : main_arg2 ∈ Pipeline.restRefs sig spec0),
      (hs.1 c).2 main_arg3 (by decide : main_arg3 ∈ Pipeline.restRefs sig spec0),
      (RDat.FramePost.arr_in hs.1 c 1 rfl).trans (A_eq m hO c 1),
      (RDat.FramePost.arr_in hs.1 c 2 rfl).trans (A_eq m hO c 2),
      (RDat.FramePost.arr_in hs.1 c 3 rfl).trans (A_eq m hO c 3)⟩) (run_main m g hO)
    obtain rfl : c = 0 := Subsingleton.elim _ _
    obtain ⟨R, d, rfl⟩ : ∃ (R : Fin 24576) (d : Fin 1024), y = ix2 R d := ⟨y 0, y 1, (ix2_eta y).symm⟩
    have hR : R.val = 1024 * (R.val / 1024) + R.val % 1024 := by omega
    obtain ⟨hu, hv⟩ := mask_at _ _ _ _ _ _ _ ⟨R.val / 1024, by omega⟩ ⟨R.val % 1024, by omega⟩ R hR d hy
    exact (result_at m hO 0 h ⟨R.val / 1024, by omega⟩ ⟨R.val % 1024, by omega⟩ R hR d hu hv s hs.1).trans
      (Cert.MoeRef.ref_at _ _ _ _ _ h.expert ⟨R.val / 1024, by omega⟩ ⟨R.val % 1024, by omega⟩ R hR d).symm
  · refine (θ_run _ _ _).mono (fun s hs c => ⟨fun y _ => congrFun ((hs c).1.trans ?_) y, (hs c).2⟩) (Cert.MoeRefIdeal.Value.run m' g')
    obtain ⟨e0, e1, e2, e3, e4, e5, e6⟩ := hargs c
    rw [Cert.MoeRefIdeal.Read.val_main_v13_eq, e0, e1, e4, e5, e6]

end Cert.MoeClaim

end
-- ==== Proof.FfnBody.lean ====
/-
  The dense feed-forward's kernel body, run once for both outcomes of its condition. It is stated on any staging
  memrefs: the accumulator is stepped at every point, and at the last part of the hidden axis both results' blocks
  are stored, each in two halves of 256 rows.
-/
module

public import proofs.«01_k».proof.Proof.Gen.FfnIdeal.Launch
public import proofs.«01_k».proof.Proof.Gen.FfnIdeal.Skeleton
public import Idealize.ShloMosaic.Lib.Pipeline.FrameBody
public import Idealize.ShloMosaic.Lib.Pipeline.Value
public import Idealize.ShloMosaic.Lib.Tactic
public import Idealize.ShloMosaic.Lib.WritesUnit

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MT nD τ sig Unit (Elt F) ℕ (UR sig nD τ) ℕ

/-- The two halves of a block of 512 rows. -/
abbrev half0 : Rect S512x1024 := Rect.unit (s := S512x1024) ![0, 0] S256x1024.size inb_S512x1024_S256x1024_0_0
abbrev half1 : Rect S512x1024 := Rect.unit (s := S512x1024) ![256, 0] S256x1024.size inb_S512x1024_S256x1024_256_0
/-- The rows of each half, read. -/
def lo {e : EltTy} (X : Vec F S512x1024 e) : Vec F S256x1024 e := fun y => X (half0.emb y)
def hi {e : EltTy} (X : Vec F S512x1024 e) : Vec F S256x1024 e := fun y => X (half1.emb y)
/-- The rows of the tables of modulations and of gains that the body reads. -/
def mod05 (X : Vec F S2x6x1024 .f32) : Vec F S1x1x1024 .f32 := fun y => X ((Rect.unit (s := S2x6x1024) ![0, 5, 0] S1x1x1024.size inb_S2x6x1024_S1x1x1024_0_5_0).emb y)
def mod15 (X : Vec F S2x6x1024 .f32) : Vec F S1x1x1024 .f32 := fun y => X ((Rect.unit (s := S2x6x1024) ![1, 5, 0] S1x1x1024.size inb_S2x6x1024_S1x1x1024_1_5_0).emb y)
def mod01 (X : Vec F S2x6x1024 .f32) : Vec F S1x1x1024 .f32 := fun y => X ((Rect.unit (s := S2x6x1024) ![0, 1, 0] S1x1x1024.size inb_S2x6x1024_S1x1x1024_0_1_0).emb y)
def mod11 (X : Vec F S2x6x1024 .f32) : Vec F S1x1x1024 .f32 := fun y => X ((Rect.unit (s := S2x6x1024) ![1, 1, 0] S1x1x1024.size inb_S2x6x1024_S1x1x1024_1_1_0).emb y)
def mod00 (X : Vec F S2x6x1024 .f32) : Vec F S1x1x1024 .f32 := fun y => X ((Rect.unit (s := S2x6x1024) ![0, 0, 0] S1x1x1024.size inb_S2x6x1024_S1x1x1024_0_0_0).emb y)
def mod10 (X : Vec F S2x6x1024 .f32) : Vec F S1x1x1024 .f32 := fun y => X ((Rect.unit (s := S2x6x1024) ![1, 0, 0] S1x1x1024.size inb_S2x6x1024_S1x1x1024_1_0_0).emb y)
def gain3 (X : Vec F S4x1024 .f32) : Vec F S1x1024 .f32 := fun y => X ((Rect.unit (s := S4x1024) ![3, 0] S1x1024.size inb_S4x1024_S1x1024_3_0).emb y)
def gain0 (X : Vec F S4x1024 .f32) : Vec F S1x1024 .f32 := fun y => X ((Rect.unit (s := S4x1024) ![0, 0] S1x1024.size inb_S4x1024_S1x1024_0_0).emb y)

/-- What the body stores in each half of the two results' blocks, from the accumulator it has just stepped. -/
def xLo (x4 : Vec F S512x1024 .f32) (x5 : Vec F S2x6x1024 .f32) (x6 : Vec F S4x1024 .f32) (a : Vec F S512x1024 .f32) : Vec F S256x1024 .f32 :=
  k0_pay3 (lo x4) (mod05 x5) (lo a) (gain3 x6)
def xHi (x4 : Vec F S512x1024 .f32) (x5 : Vec F S2x6x1024 .f32) (x6 : Vec F S4x1024 .f32) (a : Vec F S512x1024 .f32) : Vec F S256x1024 .f32 :=
  k0_pay7 (hi x4) (mod15 x5) (hi a) (gain3 x6)
def hLo (x4 : Vec F S512x1024 .f32) (x5 : Vec F S2x6x1024 .f32) (x6 : Vec F S4x1024 .f32) (x7 : Vec F S2x6x1024 .f32) (x8 : Vec F S4x1024 .f32) (a : Vec F S512x1024 .f32) : Vec F S256x1024 .bf16 :=
  k0_pay6 (k0_pay4 (lo x4) (mod05 x5) (lo a) (gain3 x6) (gain0 x8)) (k0_pay5 (mod01 x7)) (Scalar.ofBits .f32 0x3F800000#32) (mod00 x7)
def hHi (x4 : Vec F S512x1024 .f32) (x5 : Vec F S2x6x1024 .f32) (x6 : Vec F S4x1024 .f32) (x7 : Vec F S2x6x1024 .f32) (x8 : Vec F S4x1024 .f32) (a : Vec F S512x1024 .f32) : Vec F S256x1024 .bf16 :=
  k0_pay2 (k0_pay7 (hi x4) (mod15 x5) (hi a) (gain3 x6)) (gain0 x8) (k0_pay8 (hi x4) (mod15 x5) (hi a) (gain3 x6)) (Scalar.ofBits .f32 0x44800000#32) (mod11 x7) (mod10 x7)

/-- What the body leaves in the two results' blocks, at the last part of the hidden axis. -/
def PostX (i : grid0.Coords) (x4 : Vec F S512x1024 .f32) (x5 : Vec F S2x6x1024 .f32) (x6 : Vec F S4x1024 .f32) (a y : Vec F S512x1024 .f32) : Prop :=
  k0_cond1 i = 1#1 → lo y = xLo x4 x5 x6 a ∧ hi y = xHi x4 x5 x6 a
def PostH (i : grid0.Coords) (x4 : Vec F S512x1024 .f32) (x5 : Vec F S2x6x1024 .f32) (x6 : Vec F S4x1024 .f32) (x7 : Vec F S2x6x1024 .f32) (x8 : Vec F S4x1024 .f32) (a : Vec F S512x1024 .f32) (y : Vec F S512x1024 .bf16) : Prop :=
  k0_cond1 i = 1#1 → lo y = hLo x4 x5 x6 x7 x8 a ∧ hi y = hHi x4 x5 x6 x7 x8 a

section Halves
variable {κ : Kind} {sp : Space} {e : EltTy} (v : View sig κ sp S512x1024 e) (f : v.ty.Contents (Elt F)) (w : Vec F S256x1024 e) (L : List (View.Piece (Elt F) S512x1024 e))

theorem lo_cons0 : lo (v.read (Elt F) (v.writes (Elt F) f (⟨half0, w⟩ :: L))) = w :=
  funext fun y => View.read_writes_cons_unit_of_mem v f _ w L _ y rfl fun a => congrArg (_ + ·) (Nat.one_mul _)
theorem hi_cons1 : hi (v.read (Elt F) (v.writes (Elt F) f (⟨half1, w⟩ :: L))) = w :=
  funext fun y => View.read_writes_cons_unit_of_mem v f _ w L _ y rfl fun a => congrArg (_ + ·) (Nat.one_mul _)
theorem lo_cons1 : lo (v.read (Elt F) (v.writes (Elt F) f (⟨half1, w⟩ :: L))) = lo (v.read (Elt F) (v.writes (Elt F) f L)) :=
  funext fun y => View.read_writes_cons_unit_of_not_mem v f _ w L _ rfl 0 (.inl (by
    show 0 + 1 * (y 0).val < 256
    have : (y 0).val < 256 := (y 0).isLt
    omega))
end Halves

theorem zero2 : (![0, 0] : Fin 2 → ℕ) = fun _ => 0 := by decide

/-- A load through a literal rectangle, off the buffer that holds a block. -/
theorem readAt_unit {S : Shape} {e : EltTy} (M : Memref sig .tc .vmem S e) (hM : M.IsWhole) (X : Vec F S e) (R : Rect S) :
    View.readAt (Elt F) M.view R.toLoadRect (hM.unread X) = fun y => X (R.emb y) := by
  rw [View.readAt_eq_ld, hM.read_unread]; rfl
theorem readAt_all {S : Shape} {e : EltTy} (M : Memref sig .tc .vmem S e) (hM : M.IsWhole) (X : Vec F S e) {off : Fin S.rank → ℕ} (h : off = fun _ => 0)
    (inb : ∀ a, off a + S.size a ≤ S.size a) :
    View.readAt (Elt F) M.view (Rect.unit off S.size inb).toLoadRect (hM.unread X) = X := by
  rw [View.readAt_eq_ld, hM.read_unread]; exact View.ld_unit_zero h inb X

theorem read_all {κ : Kind} {sp : Space} (v : View sig κ sp S512x1024 .f32) (f : v.ty.Contents (Elt F)) (inb : ∀ a, (![0, 0] : Fin 2 → ℕ) a + S512x1024.size a ≤ S512x1024.size a) (w : Vec F S512x1024 .f32) :
    v.read (Elt F) (v.writes (Elt F) f [⟨Rect.unit ![0, 0] S512x1024.size inb, w⟩]) = w :=
  funext fun y => View.read_writes_cons_unit_of_mem v f inb w [] y y zero2 fun a => (Nat.zero_add _).symm

set_option maxHeartbeats 4000000 in
theorem run (c : Dev nD) (i : grid0.Coords) (arg2 : Memref sig .tc .vmem S512x1024 .bf16) (harg2 : arg2.IsWhole) (arg3 : Memref sig .tc .vmem S1024x1408 .bf16) (harg3 : arg3.IsWhole) (arg4 : Memref sig .tc .vmem S1024x1408 .bf16) (harg4 : arg4.IsWhole) (arg5 : Memref sig .tc .vmem S1408x1024 .bf16) (harg5 : arg5.IsWhole) (arg6 : Memref sig .tc .vmem S512x1024 .f32) (harg6 : arg6.IsWhole) (arg7 : Memref sig .tc .vmem S2x6x1024 .f32) (harg7 : arg7.IsWhole) (arg8 : Memref sig .tc .vmem S4x1024 .f32) (harg8 : arg8.IsWhole) (arg9 : Memref sig .tc .vmem S2x6x1024 .f32) (harg9 : arg9.IsWhole) (arg10 : Memref sig .tc .vmem S4x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole)
    (x0 : Vec F S512x1024 .bf16) (x1 x2 : Vec F S1024x1408 .bf16) (x3 : Vec F S1408x1024 .bf16) (x4 : Vec F S512x1024 .f32) (x5 : Vec F S2x6x1024 .f32) (x6 : Vec F S4x1024 .f32) (x7 : Vec F S2x6x1024 .f32) (x8 : Vec F S4x1024 .f32)
    (y : Vec F S512x1024 .f32) (z : Vec F S512x1024 .bf16) (a : Vec F S512x1024 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ owns (c : Thread nD τ) arg11 fullShare y ∗ owns (c : Thread nD τ) arg12 fullShare z ∗ owns (c : Thread nD τ) arg13 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (∃ y', ⌜PostX i x4 x5 x6 (k0_pay1 i x0 x1 x2 x3 a) y'⌝ ∗ owns (c : Thread nD τ) arg11 fullShare y') ∗ (∃ z', ⌜PostH i x4 x5 x6 x7 x8 (k0_pay1 i x0 x1 x2 x3 a) z'⌝ ∗ owns (c : Thread nD τ) arg12 fullShare z')
            ∗ owns (c : Thread nD τ) arg13 fullShare (k0_pay1 i x0 x1 x2 x3 a)) -∗ K ⟨⟩))
      ⊢ wp frame (wpE (defs₀ (F := F)) Variants.none c none) Set.univ (cc0_ffn_dense i arg2 harg2 arg3 harg3 arg4 harg4 arg5 harg5 arg6 harg6 arg7 harg7 arg8 harg8 arg9 harg9 arg10 harg10 arg11 harg11 arg12 harg12 arg13 harg13) K := by
  simp only [cc0_ffn_dense_eq_skeleton]; unfold cc0_ffn_dense_skel
  simp only [k0_part1_eq_skeleton, k0_part2_eq_skeleton]
  unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg12.eq_unread hf10; obtain rfl := harg13.eq_unread hfs
  sl_exec
  sl_step
  have eA : ∀ f, View.read (Elt F) arg13.view (arg13.view.writes (Elt F) f (run.sl.HS_1 c i arg2 harg2 arg3 harg3 arg4 harg4 arg5 harg5 arg13 harg13 x0 x1 x2 x3 a)) = k0_pay1 i x0 x1 x2 x3 a := fun f => by
    unfold run.sl.HS_1
    rw [readAt_all arg2 harg2 x0 zero2, readAt_all arg3 harg3 x1 zero2, readAt_all arg4 harg4 x2 zero2, readAt_all arg5 harg5 x3 zero2, readAt_all arg13 harg13 a zero2]
    exact read_all _ _ _ _
  have e25 : run.sl.v25 c i arg2 harg2 arg3 harg3 arg4 harg4 arg5 harg5 arg13 harg13 x0 x1 x2 x3 a = lo (k0_pay1 i x0 x1 x2 x3 a) := by
    unfold run.sl.v25 View.readCov; rw [View.readAt_eq_ld, eA]; rfl
  have e71 : run.sl.v71 c i arg2 harg2 arg3 harg3 arg4 harg4 arg5 harg5 arg13 harg13 x0 x1 x2 x3 a = hi (k0_pay1 i x0 x1 x2 x3 a) := by
    unfold run.sl.v71 View.readCov; rw [View.readAt_eq_ld, eA]; rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap
    · iexists _; isplitr; swap; · iexact H9
      ipureintro; rfl
    ipureintro
    intro h1
    rw [dif_pos h1]
    refine ⟨?_, ?_⟩
    · rw [lo_cons1, lo_cons0]
      rw [e25, readAt_unit, readAt_unit, readAt_unit]; rfl
    · rw [hi_cons1]
      rw [e71, readAt_unit, readAt_unit, readAt_unit]; rfl
  isplitl [H10]
  · iexists _; isplitr; swap
    · iexists _; isplitr; swap; · iexact H10
      ipureintro; rfl
    ipureintro
    intro h1
    rw [dif_pos h1]
    refine ⟨?_, ?_⟩
    · rw [lo_cons1, lo_cons0]
      simp only [e25, readAt_unit]; rfl
    · rw [hi_cons1]
      simp only [e71, readAt_unit]; rfl
  iexists _; isplitr; swap; · iexact HS
  ipureintro
  exact eA _

end Cert.FfnIdeal.Hand

end
-- ==== Proof.FfnRun.lean ====
/-
  The dense feed-forward, run: the accumulator's contents point by point, the pipeline's proof data (the inputs exact,
  the two results' blocks held to predicates), the body obligation, the launch, and the frame.
-/
module

public import proofs.«01_k».proof.Proof.FfnBody
public import proofs.«01_k».proof.Proof.Gen.FfnIdeal.Points
public import Idealize.ShloMosaic.Lib.Pipeline.DatRel
public import Idealize.ShloMosaic.Lib.Pipeline.ArrRel
public import Idealize.ShloMosaic.Lib.Pipeline.Frame
public import Idealize.ShloMosaic.Lib.Claim

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffers when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The accumulator's buffer. -/
abbrev accM : Memref sig .tc .vmem S512x1024 .f32 := Memref.whole cc0_scratch0

theorem rest_eq (c : Dev nD) :
    (Pipeline.ΦA spec0 c : sProp 𝕄) = iprop(iprop((∃ d, owns (c : Thread nD τ) accM fullShare d)) ∗ (∃ r, prngReg c r)) := by
  unfold Pipeline.ΦA; rw [scopedRest0_eq]; simp only [accM, owns_whole]; try rfl

/-! ## What each point works on, and the accumulator point by point -/

/-- Window `w`'s block at point `t`, read off its array at the region's entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One point's step of the accumulator, over the blocks it works on. -/
def stepv (c : Dev nD) (t : Fin grid0.N) (a : Vec F S512x1024 .f32) : Vec F S512x1024 .f32 :=
  k0_pay1 (grid0.coords t) (iblk m c 0 t) (iblk m c 1 t) (iblk m c 2 t) (iblk m c 3 t) a

/-- The accumulator after the point numbered `n`: each point's step on top of the last. -/
def accN (c : Dev nD) : (n : ℕ) → n < grid0.N → Vec F S512x1024 .f32
  | 0, h => stepv m c ⟨0, h⟩ (broadcast S512x1024 (Scalar.ofBits .f32 0x00000000#32))
  | n + 1, h => stepv m c ⟨n + 1, h⟩ (accN c n (Nat.lt_of_succ_lt h))

/-- What the accumulator holds before the point numbered `n`. -/
def Inv (c : Dev nD) (n : ℕ) (a : Vec F S512x1024 .f32) : Prop := ∀ (k : ℕ) (h : k < grid0.N), n = k + 1 → a = accN m c k h

/-- What the two results' blocks hold after point `t`. -/
def LeftX (c : Dev nD) (t : Fin grid0.N) (X : Vec F S512x1024 .f32) : Prop :=
  PostX (grid0.coords t) (iblk m c 4 t) (iblk m c 5 t) (iblk m c 6 t) (accN m c t.val t.isLt) X
def LeftH (c : Dev nD) (t : Fin grid0.N) (X : Vec F S512x1024 .bf16) : Prop :=
  PostH (grid0.coords t) (iblk m c 4 t) (iblk m c 5 t) (iblk m c 6 t) (iblk m c 7 t) (iblk m c 8 t) (accN m c t.val t.isLt) X

theorem coord0 : ∀ t : Fin grid0.N, (grid0.coords t 0).val = t.val / 2 := by decide +kernel
theorem coord1 : ∀ t : Fin grid0.N, (grid0.coords t 1).val = t.val % 2 := by decide +kernel

/-- The first step of a tile reads nothing of what the accumulator held. -/
theorem step_first (i : grid0.Coords) (h : (i 1).val = 0) (x0 : Vec F S512x1024 .bf16) (x1 x2 : Vec F S1024x1408 .bf16) (x3 : Vec F S1408x1024 .bf16) (a a' : Vec F S512x1024 .f32) :
    k0_pay1 i x0 x1 x2 x3 a = k0_pay1 i x0 x1 x2 x3 a' := by
  unfold k0_pay1
  simp only [h]
  rfl

/-- The body's step, over the accumulator as the points leave it. -/
theorem acc_step (c : Dev nD) (t : Fin grid0.N) (a : Vec F S512x1024 .f32) (hI : Inv m c t.val a) : stepv m c t a = accN m c t.val t.isLt := by
  obtain ⟨n, hn⟩ := t
  cases n with
  | zero => exact step_first _ (coord1 ⟨0, hn⟩) _ _ _ _ _ _
  | succ k => rw [hI k (Nat.lt_of_succ_lt hn) rfl]; rfl

theorem inv_step (c : Dev nD) (t : Fin grid0.N) (a : Vec F S512x1024 .f32) (hI : Inv m c t.val a) : Inv m c (t.val + 1) (stepv m c t a) := by
  intro k hk e
  obtain rfl : t = ⟨k, hk⟩ := Fin.ext (Nat.succ_injective e)
  exact acc_step m c _ a hI

/-! ## The proof data -/

/-- The results' windows are held to `LeftX` and `LeftH`; the inputs' are exact. -/
def marked : Fin 11 → Bool := fun w => match w with | ⟨9, _⟩ => true | ⟨10, _⟩ => true | ⟨0, _⟩ => false | ⟨1, _⟩ => false | ⟨2, _⟩ => false | ⟨3, _⟩ => false | ⟨4, _⟩ => false | ⟨5, _⟩ => false | ⟨6, _⟩ => false | ⟨7, _⟩ => false | ⟨8, _⟩ => false

def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ t := iprop((∃ a, ⌜Inv m c t.val a⌝ ∗ owns (c : Thread nD τ) accM fullShare a) ∗ (∃ r, prngReg c r))
  q _ := fullShare
  owed _ := 0

def rel (c : Dev nD) : (w : Fin cfg0.W) → Fin cfg0.N → ((cfg0.win w).block.Idx → Elt F (cfg0.win w).elt) → Prop := fun w t X => match w with
  | ⟨0, _⟩ => True
  | ⟨1, _⟩ => True
  | ⟨2, _⟩ => True
  | ⟨3, _⟩ => True
  | ⟨4, _⟩ => True
  | ⟨5, _⟩ => True
  | ⟨6, _⟩ => True
  | ⟨7, _⟩ => True
  | ⟨8, _⟩ => True
  | ⟨9, _⟩ => LeftX m c t X
  | ⟨10, _⟩ => LeftH m c t X

theorem A_eq (c : Dev nD) (w : Fin cfg0.W) : (dat m c).A w = V m c (Pipeline.arrRef spec0 w) := by
  dsimp only [dat]

theorem after0 (c : Dev nD) (t : Fin cfg0.N) : (dat m c).after 0 t = iblk m c 0 t := by dsimp only [dat]; try rfl
theorem after1 (c : Dev nD) (t : Fin cfg0.N) : (dat m c).after 1 t = iblk m c 1 t := by dsimp only [dat]; try rfl
theorem after2 (c : Dev nD) (t : Fin cfg0.N) : (dat m c).after 2 t = iblk m c 2 t := by dsimp only [dat]; try rfl
theorem after3 (c : Dev nD) (t : Fin cfg0.N) : (dat m c).after 3 t = iblk m c 3 t := by dsimp only [dat]; try rfl
theorem after4 (c : Dev nD) (t : Fin cfg0.N) : (dat m c).after 4 t = iblk m c 4 t := by dsimp only [dat]; try rfl
theorem after5 (c : Dev nD) (t : Fin cfg0.N) : (dat m c).after 5 t = iblk m c 5 t := by dsimp only [dat]; try rfl
theorem after6 (c : Dev nD) (t : Fin cfg0.N) : (dat m c).after 6 t = iblk m c 6 t := by dsimp only [dat]; try rfl
theorem after7 (c : Dev nD) (t : Fin cfg0.N) : (dat m c).after 7 t = iblk m c 7 t := by dsimp only [dat]; try rfl
theorem after8 (c : Dev nD) (t : Fin cfg0.N) : (dat m c).after 8 t = iblk m c 8 t := by dsimp only [dat]; try rfl

/-- Each input's current staging buffer holds its block at every point, fetched there or not. -/
theorem before0 (c : Dev nD) (t : Fin cfg0.N) (d) : (dat m c).before 0 t d = iblk m c 0 t :=
  ((dat m c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat m c).before 1 t d = iblk m c 1 t :=
  ((dat m c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat m c).before 2 t d = iblk m c 2 t :=
  ((dat m c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat m c).before 3 t d = iblk m c 3 t :=
  ((dat m c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dat m c).before 4 t d = iblk m c 4 t :=
  ((dat m c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dat m c).before 5 t d = iblk m c 5 t :=
  ((dat m c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dat m c).before 6 t d = iblk m c 6 t :=
  ((dat m c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dat m c).before 7 t d = iblk m c 7 t :=
  ((dat m c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dat m c).before 8 t d = iblk m c 8 t :=
  ((dat m c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)

/-! ## The body obligation -/

theorem row (t : Fin cfg0.N) : defs₀ (F := F) .tc cfg0.body (cfg0.bodyArgs t (cfg0.slots t)) = bodyAt0 t := by
  unfold defs₀; rw [Defs.onTc_tc]

def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d))
    ∗ (∃ d, owns (c : Thread nD τ) (st0_8 t) fullShare ((dat m c).before 8 t d))
    ∗ (∃ Y, ⌜((dat m c).toRRel marked (rel m c)).Finds 9 t Y⌝ ∗ owns (c : Thread nD τ) (st0_9 t) fullShare Y)
    ∗ (∃ Y, ⌜((dat m c).toRRel marked (rel m c)).Finds 10 t Y⌝ ∗ owns (c : Thread nD τ) (st0_10 t) fullShare Y))

def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ owns (c : Thread nD τ) (st0_7 t) fullShare ((dat m c).after 7 t)
    ∗ owns (c : Thread nD τ) (st0_8 t) fullShare ((dat m c).after 8 t)
    ∗ (∃ X, ⌜rel m c 9 t X⌝ ∗ owns (c : Thread nD τ) (st0_9 t) fullShare X)
    ∗ (∃ X, ⌜rel m c 10 t X⌝ ∗ owns (c : Thread nD τ) (st0_10 t) fullShare X))

theorem sound (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6, before7, before8]
  rw [after0, after1, after2, after3, after4, after5, after6, after7, after8, show (dat m c).owesAt () t.succ = (dat m c).owesAt () t.castSucc from rfl,
    show (dat m c).Φ t.castSucc = iprop((∃ a, ⌜Inv m c t.val a⌝ ∗ owns (c : Thread nD τ) accM fullShare a) ∗ (∃ r, prngReg c r)) from rfl,
    show (dat m c).Φ t.succ = iprop((∃ a, ⌜Inv m c (t.val + 1) a⌝ ∗ owns (c : Thread nD τ) accM fullShare a) ∗ (∃ r, prngReg c r)) from rfl]
  iintro ⟨⟨⟨%a, %hI, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%y, -, H9⟩, ⟨%z, -, H10⟩⟩
  iapply (run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) y z a _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, ⟨%y', %hy, H9⟩, ⟨%z', %hz, H10⟩, HS⟩
  isplitl [HS Hg]
  · isplitl [HS]
    · iexists (stepv m c t a); isplitr
      · ipureintro; exact inv_step m c t a hI
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists y'; isplitr
    · ipureintro
      show LeftX m c t y'
      unfold LeftX; rw [← acc_step m c t a hI]; exact hy
    iexact H9
  iexists z'; isplitr
  · ipureintro
    show LeftH m c t z'
    unfold LeftH; rw [← acc_step m c t a hI]; exact hz
  iexact H10

theorem body_obligation (c : Dev nD) : BodyObligationRel (dat (F := F) m c) (defs₀ (F := F)) Variants.none () Set.univ marked (rel m c) := fun t => by
  rw [bigSep_W0, bigSep_W0, row]
  exact triple_restated (sound m c t) rfl .rfl fun _ => .rfl

/-! ## The launch and the frame -/

abbrev rdat (c : Dev nD) : RDat τ (Elt F) Unit ℕ (UR sig nD τ) ℕ cfg0 c := (dat m c).toRRel marked (rel m c)

set_option backward.isDefEq.respectTransparency.types false in
theorem run_main : θ_run defs (onTc (τ := τ) (main (F := F))) (s₀ m ρ)
    (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dat m c).share_full fun _ => rfl)
    (howed := fun _ _ => rfl) (V := V m) (hmain := hmain m Variants.none) (hA := A_eq m)
    (hin := fun c => by
      show Pipeline.ΦA spec0 c ⊢ iprop((∃ a, ⌜Inv m c 0 a⌝ ∗ owns (c : Thread nD τ) accM fullShare a) ∗ (∃ r, prngReg c r))
      rw [rest_eq]
      iintro ⟨⟨%a, HS⟩, Hg⟩
      isplitl [HS]
      · iexists a; isplitr
        · ipureintro; intro k hk e; exact absurd e (Nat.succ_ne_zero k).symm
        iexact HS
      iexact Hg)
    (hout := fun c => by
      show iprop((∃ a, ⌜Inv m c cfg0.N a⌝ ∗ owns (c : Thread nD τ) accM fullShare a) ∗ (∃ r, prngReg c r)) ⊢ Pipeline.ΦA spec0 c
      rw [rest_eq]
      iintro ⟨⟨%a, -, HS⟩, Hg⟩
      isplitl [HS]; · iexists a; iexact HS
      iexact Hg)

/-- The frame: every argument ends at its launch contents, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
    ⟨(Pipeline.RDat.FramePost.arr_in h.1 c 0 rfl).trans (A_eq m c 0),
     (Pipeline.RDat.FramePost.arr_in h.1 c 1 rfl).trans (A_eq m c 1),
     (Pipeline.RDat.FramePost.arr_in h.1 c 2 rfl).trans (A_eq m c 2),
     (Pipeline.RDat.FramePost.arr_in h.1 c 3 rfl).trans (A_eq m c 3),
     (Pipeline.RDat.FramePost.arr_in h.1 c 4 rfl).trans (A_eq m c 4),
     (Pipeline.RDat.FramePost.arr_in h.1 c 5 rfl).trans (A_eq m c 5),
     (Pipeline.RDat.FramePost.arr_in h.1 c 6 rfl).trans (A_eq m c 6),
     (Pipeline.RDat.FramePost.arr_in h.1 c 7 rfl).trans (A_eq m c 7),
     (Pipeline.RDat.FramePost.arr_in h.1 c 8 rfl).trans (A_eq m c 8)⟩, h.2⟩) (run_main m ρ)

end Cert.FfnIdeal.Hand

end
-- ==== Proof.FfnBits.lean ====
/- The dense feed-forward as written, over bits: its text is that of the idealized program, and so is its frame. -/
module

public import proofs.«01_k».proof.Defs
public import proofs.«01_k».proof.Proof.FfnRun
public import proofs.«01_k».proof.Proof.Gen.Ffn
public import proofs.«01_k».proof.Proof.Gen.Ffn.Launch

@[expose] public section

set_option maxRecDepth 16384

noncomputable section

namespace Cert.FfnBits

open Cert.Ffn Cert.Ffn.Gen
open Idealize.ShloMosaic Idealize.ShloMosaic.TcCoe Idealize.SL.Sem

/-- The two programs' bodies, body tables and mains are the same. -/
theorem bodies_eq : Cert.Ffn.defs₀ (F := Bits) = Cert.FfnIdeal.defs₀ (F := Bits) := by
  unfold Cert.Ffn.defs₀ Cert.FfnIdeal.defs₀
  refine congrArg Defs.onTc ?_
  funext l args
  match l, args with
  | 0, (t, s) => rfl
  | ⟨n + 1, h⟩, _ => exact absurd h (by omega)

theorem defs_eq : Cert.Ffn.defs (F := Bits) = Cert.FfnIdeal.defs (F := Bits) := congrArg (Pipeline.defs Cert.Ffn.pcfgs) bodies_eq

set_option maxHeartbeats 2000000 in
theorem main_eq : Cert.Ffn.main (F := Bits) = Cert.FfnIdeal.main (F := Bits) := by
  funext c
  unfold Cert.Ffn.main Cert.FfnIdeal.main
  rfl

variable (m : (ℓ : Loc nD τ sig) → Buf (Elt Bits) ℓ) (ρ : Dev nD → PrngReg)

theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  have h := Cert.FfnIdeal.Hand.frame (F := Bits) m ρ
  rw [defs_eq, main_eq]
  exact h

end Cert.FfnBits

end
-- ==== Proof.FfnValue.lean ====
/- The dense feed-forward over the extended reals: what its kernel leaves at a place of each result, in closed form. -/
module

public import proofs.«01_k».proof.Proof.FfnRun
public import proofs.«01_k».proof.Proof.MoePre
public import Idealize.ShloMosaic.Lib.Pointwise

@[expose] public section

set_option maxRecDepth 16384

noncomputable section

namespace Cert.FfnValue

open Cert.FfnIdeal Cert.FfnIdeal.Gen Cert.FfnIdeal.Hand Cert.MoePre Idealize.ShloMosaic Idealize.ShloMosaic.TcCoe Idealize.SL.Sem

/-! ## The specification -/

/-- Hidden unit `k` on row `R`. -/
def act (x : FVec Ideal S8192x1024 .bf16) (wg wu : FVec Ideal S1024x2816 .bf16) (R : Fin 8192) (k : Fin 2816) : EReal :=
  (∑ j : Fin 1024, x (ix2 R j) * wg (ix2 j k)) * Ideal.logistic (∑ j : Fin 1024, x (ix2 R j) * wg (ix2 j k)) * ∑ j : Fin 1024, x (ix2 R j) * wu (ix2 j k)

/-- What hidden unit `k` gives to column `d` of the row's result. -/
def term (x : FVec Ideal S8192x1024 .bf16) (wg wu : FVec Ideal S1024x2816 .bf16) (wd : FVec Ideal S2816x1024 .bf16) (R : Fin 8192) (d : Fin 1024) (k : ℕ) : EReal :=
  if h : k < 2816 then act x wg wu R ⟨k, h⟩ * wd (ix2 ⟨k, h⟩ d) else 0

/-- The factor that a row is scaled by: one over the root of its mean square. -/
def scale (v : Fin 1024 → EReal) : EReal :=
  Ideal.rsqrt (Ideal.div (∑ j : Fin 1024, v j * v j) (FloatOps.ofBits (F := Ideal) .f32 0x44800000#32) + FloatOps.ofBits (F := Ideal) .f32 0x358637BD#32)

/-- The first result: the residual and the scaled row of the feed-forward, gated. -/
def xres (x f gate gain : Fin 1024 → EReal) (d : Fin 1024) : EReal := x d + gate d * (f d * scale f * gain d)

/-- The second result: the first one's row, scaled and modulated. -/
def hres (z gain mul add : Fin 1024 → EReal) (d : Fin 1024) : EReal :=
  z d * scale z * gain d * (FloatOps.ofBits (F := Ideal) .f32 0x3F800000#32 + mul d) + add d

section

variable (x : FVec Ideal S8192x1024 .bf16) (wg wu : FVec Ideal S1024x2816 .bf16) (wd : FVec Ideal S2816x1024 .bf16) (x4 : FVec Ideal S8192x1024 .f32)
  (x5 : FVec Ideal S32x6x1024 .f32) (x6 : FVec Ideal S4x1024 .f32) (x7 : FVec Ideal S32x6x1024 .f32) (x8 : FVec Ideal S4x1024 .f32) (R : Fin 8192)

/-- The tile of 256 rows that row `R` lies in. -/
def tile (R : Fin 8192) : Fin 32 := ⟨R.val / 256, by omega⟩

/-- The two results at row `R`, from the argument arrays. -/
def xval : Fin 1024 → EReal :=
  xres (fun j => x4 (ix2 R j)) (fun j => ∑ k ∈ Finset.range 2816, term x wg wu wd R j k) (fun j => x5 (ix3 (tile R) (5 : Fin 6) j)) (fun j => x6 (ix2 (3 : Fin 4) j))
def hval : Fin 1024 → EReal :=
  hres (xval x wg wu wd x4 x5 x6 R) (fun j => x8 (ix2 (0 : Fin 4) j)) (fun j => x7 (ix3 (tile R) (1 : Fin 6) j)) (fun j => x7 (ix3 (tile R) (0 : Fin 6) j))

end

/-! ## The payloads at a place -/

theorem step_at (i : grid0.Coords) (x0 : Vec Ideal S512x1024 .bf16) (x1 x2 : Vec Ideal S1024x1408 .bf16) (x3 : Vec Ideal S1408x1024 .bf16) (a : Vec Ideal S512x1024 .f32) (r : Fin 512) (d : Fin 1024) :
    k0_pay1 i x0 x1 x2 x3 a (ix2 r d) = (if (i 1).val = 0 then 0 else a (ix2 r d))
      + ∑ k : Fin 1408, ((∑ j : Fin 1024, x0 (ix2 r j) * x1 (ix2 j k)) * Ideal.logistic (∑ j : Fin 1024, x0 (ix2 r j) * x1 (ix2 j k))
        * ∑ j : Fin 1024, x0 (ix2 r j) * x2 (ix2 j k)) * x3 (ix2 k d) := by
  pointwise [k0_pay1]
  refine congrArg (· + _) ?_
  by_cases h : (i 1).val = 0
  · rw [if_pos h, h]; rfl
  · rw [if_neg h]
    have h2 : (i 1).val < 2 := (i 1).isLt
    have : Scalar.cmpi .eq (BitVec.ofNat 32 (i 1).val) 0#32 ≠ 1#1 := by
      intro e
      change BitVec.ofBool (BitVec.ofNat 32 (i 1).val == 0#32) = 1#1 at e
      rw [ofBool_one, beq_iff_eq] at e
      have := congrArg BitVec.toNat e
      rw [word_of _ (by omega)] at this
      exact h this
    exact if_neg this

/-- One step over blocks that hold the row and 1408 of the hidden units adds 1408 of the row's terms. -/
theorem point_of (x : FVec Ideal S8192x1024 .bf16) (wg wu : FVec Ideal S1024x2816 .bf16) (wd : FVec Ideal S2816x1024 .bf16) (R : Fin 8192) (i : grid0.Coords) (f : Fin 2)
    (hf : (i 1).val = f.val) (x0 : Vec Ideal S512x1024 .bf16) (x1 x2 : Vec Ideal S1024x1408 .bf16) (x3 : Vec Ideal S1408x1024 .bf16) (a : Vec Ideal S512x1024 .f32) (r : Fin 512) (d : Fin 1024)
    (h0 : ∀ j : Fin 1024, x0 (ix2 r j) = x (ix2 R j)) (h1 : ∀ (j : Fin 1024) (k : Fin 1408), x1 (ix2 j k) = wg (ix2 j (⟨1408 * f.val + k.val, by omega⟩ : Fin 2816)))
    (h2 : ∀ (j : Fin 1024) (k : Fin 1408), x2 (ix2 j k) = wu (ix2 j (⟨1408 * f.val + k.val, by omega⟩ : Fin 2816)))
    (h3 : ∀ (k : Fin 1408) (d : Fin 1024), x3 (ix2 k d) = wd (ix2 (⟨1408 * f.val + k.val, by omega⟩ : Fin 2816) d)) :
    k0_pay1 i x0 x1 x2 x3 a (ix2 r d) = (if f.val = 0 then 0 else a (ix2 r d)) + ∑ k ∈ Finset.range 1408, term x wg wu wd R d (1408 * f.val + k) := by
  rw [step_at, hf, Finset.sum_range]
  refine congrArg (_ + ·) (Finset.sum_congr rfl fun k _ => ?_)
  unfold term
  rw [dif_pos (by omega : 1408 * f.val + k.val < 2816), h3]
  unfold act
  simp only [h0, h1, h2]

theorem pay3_at (x : Vec Ideal S256x1024 .f32) (g : Vec Ideal S1x1x1024 .f32) (a : Vec Ideal S256x1024 .f32) (w : Vec Ideal S1x1024 .f32) (r : Fin 256) (d : Fin 1024) :
    k0_pay3 x g a w (ix2 r d) = xres (fun j => x (ix2 r j)) (fun j => a (ix2 r j)) (fun j => g (ix3 (0 : Fin 1) (0 : Fin 1) j)) (fun j => w (ix2 (0 : Fin 1) j)) d := by
  unfold xres scale
  pointwise [k0_pay3]

theorem pay7_at (x : Vec Ideal S256x1024 .f32) (g : Vec Ideal S1x1x1024 .f32) (a : Vec Ideal S256x1024 .f32) (w : Vec Ideal S1x1024 .f32) (r : Fin 256) (d : Fin 1024) :
    k0_pay7 x g a w (ix2 r d) = xres (fun j => x (ix2 r j)) (fun j => a (ix2 r j)) (fun j => g (ix3 (0 : Fin 1) (0 : Fin 1) j)) (fun j => w (ix2 (0 : Fin 1) j)) d := by
  unfold xres scale
  pointwise [k0_pay7]

theorem pay6_at (x : Vec Ideal S256x1024 .f32) (g : Vec Ideal S1x1x1024 .f32) (a : Vec Ideal S256x1024 .f32) (w w' : Vec Ideal S1x1024 .f32) (mu ad : Vec Ideal S1x1x1024 .f32) (r : Fin 256) (d : Fin 1024) :
    k0_pay6 (k0_pay4 x g a w w') (k0_pay5 mu) (Scalar.ofBits .f32 0x3F800000#32) ad (ix2 r d)
      = hres (fun j => k0_pay3 x g a w (ix2 r j)) (fun j => w' (ix2 (0 : Fin 1) j)) (fun j => mu (ix3 (0 : Fin 1) (0 : Fin 1) j)) (fun j => ad (ix3 (0 : Fin 1) (0 : Fin 1) j)) d := by
  unfold hres scale k0_pay4
  generalize k0_pay3 x g a w = z
  pointwise [k0_pay6, k0_pay5]

theorem pay2_at (x : Vec Ideal S256x1024 .f32) (g : Vec Ideal S1x1x1024 .f32) (a : Vec Ideal S256x1024 .f32) (w w' : Vec Ideal S1x1024 .f32) (mu ad : Vec Ideal S1x1x1024 .f32) (r : Fin 256) (d : Fin 1024) :
    k0_pay2 (k0_pay7 x g a w) w' (k0_pay8 x g a w) (Scalar.ofBits .f32 0x44800000#32) mu ad (ix2 r d)
      = hres (fun j => k0_pay7 x g a w (ix2 r j)) (fun j => w' (ix2 (0 : Fin 1) j)) (fun j => mu (ix3 (0 : Fin 1) (0 : Fin 1) j)) (fun j => ad (ix3 (0 : Fin 1) (0 : Fin 1) j)) d := by
  unfold hres scale k0_pay8
  generalize k0_pay7 x g a w = z
  pointwise [k0_pay2]

/-! ## The halves of a block, and the rows of the tables -/

theorem lo_at {e : EltTy} (X : Vec Ideal S512x1024 e) (r : Fin 256) (d : Fin 1024) : lo X (ix2 r d) = X (ix2 (⟨0 + r.val, by omega⟩ : Fin 512) d) :=
  congrArg X (funext fun a => Fin.ext (match a with
    | ⟨0, _⟩ => congrArg (0 + ·) (Nat.one_mul _)
    | ⟨1, _⟩ => (Nat.zero_add _).trans (Nat.one_mul _)))

theorem hi_at {e : EltTy} (X : Vec Ideal S512x1024 e) (r : Fin 256) (d : Fin 1024) : hi X (ix2 r d) = X (ix2 (⟨256 + r.val, by omega⟩ : Fin 512) d) :=
  congrArg X (funext fun a => Fin.ext (match a with
    | ⟨0, _⟩ => congrArg (256 + ·) (Nat.one_mul _)
    | ⟨1, _⟩ => (Nat.zero_add _).trans (Nat.one_mul _)))

theorem row3 (p : Fin 2) (q : Fin 6) (inb : ∀ a, (![p.val, q.val, 0] : Fin 3 → ℕ) a + S1x1x1024.size a ≤ S2x6x1024.size a) (j : Fin 1024) :
    (Rect.unit (s := S2x6x1024) ![p.val, q.val, 0] S1x1x1024.size inb).emb (ix3 (0 : Fin 1) (0 : Fin 1) j) = ix3 p q j := funext fun a => Fin.ext (match a with
  | ⟨0, _⟩ => by show p.val + 1 * 0 = p.val; omega
  | ⟨1, _⟩ => by show q.val + 1 * 0 = q.val; omega
  | ⟨2, _⟩ => by show 0 + 1 * j.val = j.val; omega)

theorem row2 (p : Fin 4) (inb : ∀ a, (![p.val, 0] : Fin 2 → ℕ) a + S1x1024.size a ≤ S4x1024.size a) (j : Fin 1024) :
    (Rect.unit (s := S4x1024) ![p.val, 0] S1x1024.size inb).emb (ix2 (0 : Fin 1) j) = ix2 p j := funext fun a => Fin.ext (match a with
  | ⟨0, _⟩ => by show p.val + 1 * 0 = p.val; omega
  | ⟨1, _⟩ => by show 0 + 1 * j.val = j.val; omega)

/-! ## The blocks a point works on -/

/-- Each window's block index at a grid point. -/
theorem idx : ∀ t : Fin cfg0.N, (win0_0.index t (0 : Fin 2) = (grid0.coords t 0).val ∧ win0_0.index t (1 : Fin 2) = 0)
    ∧ (win0_1.index t (0 : Fin 2) = 0 ∧ win0_1.index t (1 : Fin 2) = (grid0.coords t 1).val)
    ∧ (win0_2.index t (0 : Fin 2) = 0 ∧ win0_2.index t (1 : Fin 2) = (grid0.coords t 1).val)
    ∧ (win0_3.index t (0 : Fin 2) = (grid0.coords t 1).val ∧ win0_3.index t (1 : Fin 2) = 0)
    ∧ (win0_4.index t (0 : Fin 2) = (grid0.coords t 0).val ∧ win0_4.index t (1 : Fin 2) = 0)
    ∧ (win0_5.index t (0 : Fin 3) = (grid0.coords t 0).val ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 3) = (grid0.coords t 0).val ∧ win0_7.index t (1 : Fin 3) = 0 ∧ win0_7.index t (2 : Fin 3) = 0)
    ∧ (win0_8.index t (0 : Fin 2) = 0 ∧ win0_8.index t (1 : Fin 2) = 0)
    ∧ (win0_9.index t (0 : Fin 2) = (grid0.coords t 0).val ∧ win0_9.index t (1 : Fin 2) = 0)
    ∧ (win0_10.index t (0 : Fin 2) = (grid0.coords t 0).val ∧ win0_10.index t (1 : Fin 2) = 0) :=
  (by decide +kernel : ∀ t : Fin grid0.N, _)

variable (m : (ℓ : Loc nD τ sig) → Buf (Elt Ideal) ℓ) (c : Dev nD)

theorem blk0 (t : Fin cfg0.N) (i : Fin 16) (ht : (grid0.coords t 0).val = i.val) (r : Fin 512) (j : Fin 1024) : iblk m c 0 t (ix2 r j) = V m c main_arg0 (ix2 (⟨512 * i.val + r.val, by omega⟩ : Fin 8192) j) := by
  obtain ⟨e0, e1⟩ := (idx t).1
  refine congrArg (V m c main_arg0) (funext fun a => Fin.ext ?_)
  match a with
  | ⟨0, _⟩ => show win0_0.index t (0 : Fin 2) * 512 + 1 * r.val = 512 * i.val + r.val; omega
  | ⟨1, _⟩ => show win0_0.index t (1 : Fin 2) * 1024 + 1 * j.val = j.val; omega

theorem blk1 (t : Fin cfg0.N) (f : Fin 2) (hf : (grid0.coords t 1).val = f.val) (j : Fin 1024) (k : Fin 1408) : iblk m c 1 t (ix2 j k) = V m c main_arg1 (ix2 j (⟨1408 * f.val + k.val, by omega⟩ : Fin 2816)) := by
  obtain ⟨e0, e1⟩ := (idx t).2.1
  refine congrArg (V m c main_arg1) (funext fun a => Fin.ext ?_)
  match a with
  | ⟨0, _⟩ => show win0_1.index t (0 : Fin 2) * 1024 + 1 * j.val = j.val; omega
  | ⟨1, _⟩ => show win0_1.index t (1 : Fin 2) * 1408 + 1 * k.val = 1408 * f.val + k.val; omega

theorem blk2 (t : Fin cfg0.N) (f : Fin 2) (hf : (grid0.coords t 1).val = f.val) (j : Fin 1024) (k : Fin 1408) : iblk m c 2 t (ix2 j k) = V m c main_arg2 (ix2 j (⟨1408 * f.val + k.val, by omega⟩ : Fin 2816)) := by
  obtain ⟨e0, e1⟩ := (idx t).2.2.1
  refine congrArg (V m c main_arg2) (funext fun a => Fin.ext ?_)
  match a with
  | ⟨0, _⟩ => show win0_2.index t (0 : Fin 2) * 1024 + 1 * j.val = j.val; omega
  | ⟨1, _⟩ => show win0_2.index t (1 : Fin 2) * 1408 + 1 * k.val = 1408 * f.val + k.val; omega

theorem blk3 (t : Fin cfg0.N) (f : Fin 2) (hf : (grid0.coords t 1).val = f.val) (k : Fin 1408) (d : Fin 1024) : iblk m c 3 t (ix2 k d) = V m c main_arg3 (ix2 (⟨1408 * f.val + k.val, by omega⟩ : Fin 2816) d) := by
  obtain ⟨e0, e1⟩ := (idx t).2.2.2.1
  refine congrArg (V m c main_arg3) (funext fun a => Fin.ext ?_)
  match a with
  | ⟨0, _⟩ => show win0_3.index t (0 : Fin 2) * 1408 + 1 * k.val = 1408 * f.val + k.val; omega
  | ⟨1, _⟩ => show win0_3.index t (1 : Fin 2) * 1024 + 1 * d.val = d.val; omega

theorem blk4 (t : Fin cfg0.N) (i : Fin 16) (ht : (grid0.coords t 0).val = i.val) (r : Fin 512) (j : Fin 1024) : iblk m c 4 t (ix2 r j) = V m c main_arg4 (ix2 (⟨512 * i.val + r.val, by omega⟩ : Fin 8192) j) := by
  obtain ⟨e0, e1⟩ := (idx t).2.2.2.2.1
  refine congrArg (V m c main_arg4) (funext fun a => Fin.ext ?_)
  match a with
  | ⟨0, _⟩ => show win0_4.index t (0 : Fin 2) * 512 + 1 * r.val = 512 * i.val + r.val; omega
  | ⟨1, _⟩ => show win0_4.index t (1 : Fin 2) * 1024 + 1 * j.val = j.val; omega

theorem blk5 (t : Fin cfg0.N) (i : Fin 16) (ht : (grid0.coords t 0).val = i.val) (p : Fin 2) (q : Fin 6) (j : Fin 1024) : iblk m c 5 t (ix3 p q j) = V m c main_arg5 (ix3 (⟨2 * i.val + p.val, by omega⟩ : Fin 32) q j) := by
  obtain ⟨e0, e1, e2⟩ := (idx t).2.2.2.2.2.1
  refine congrArg (V m c main_arg5) (funext fun a => Fin.ext ?_)
  match a with
  | ⟨0, _⟩ => show win0_5.index t (0 : Fin 3) * 2 + 1 * p.val = 2 * i.val + p.val; omega
  | ⟨1, _⟩ => show win0_5.index t (1 : Fin 3) * 6 + 1 * q.val = q.val; omega
  | ⟨2, _⟩ => show win0_5.index t (2 : Fin 3) * 1024 + 1 * j.val = j.val; omega

theorem blk6 (t : Fin cfg0.N) (p : Fin 4) (j : Fin 1024) : iblk m c 6 t (ix2 p j) = V m c main_arg6 (ix2 p j) := by
  obtain ⟨e0, e1⟩ := (idx t).2.2.2.2.2.2.1
  refine congrArg (V m c main_arg6) (funext fun a => Fin.ext ?_)
  match a with
  | ⟨0, _⟩ => show win0_6.index t (0 : Fin 2) * 4 + 1 * p.val = p.val; omega
  | ⟨1, _⟩ => show win0_6.index t (1 : Fin 2) * 1024 + 1 * j.val = j.val; omega

theorem blk7 (t : Fin cfg0.N) (i : Fin 16) (ht : (grid0.coords t 0).val = i.val) (p : Fin 2) (q : Fin 6) (j : Fin 1024) : iblk m c 7 t (ix3 p q j) = V m c main_arg7 (ix3 (⟨2 * i.val + p.val, by omega⟩ : Fin 32) q j) := by
  obtain ⟨e0, e1, e2⟩ := (idx t).2.2.2.2.2.2.2.1
  refine congrArg (V m c main_arg7) (funext fun a => Fin.ext ?_)
  match a with
  | ⟨0, _⟩ => show win0_7.index t (0 : Fin 3) * 2 + 1 * p.val = 2 * i.val + p.val; omega
  | ⟨1, _⟩ => show win0_7.index t (1 : Fin 3) * 6 + 1 * q.val = q.val; omega
  | ⟨2, _⟩ => show win0_7.index t (2 : Fin 3) * 1024 + 1 * j.val = j.val; omega

theorem blk8 (t : Fin cfg0.N) (p : Fin 4) (j : Fin 1024) : iblk m c 8 t (ix2 p j) = V m c main_arg8 (ix2 p j) := by
  obtain ⟨e0, e1⟩ := (idx t).2.2.2.2.2.2.2.2.1
  refine congrArg (V m c main_arg8) (funext fun a => Fin.ext ?_)
  match a with
  | ⟨0, _⟩ => show win0_8.index t (0 : Fin 2) * 4 + 1 * p.val = p.val; omega
  | ⟨1, _⟩ => show win0_8.index t (1 : Fin 2) * 1024 + 1 * j.val = j.val; omega

/-! ## The accumulator, in closed form -/

/-- The row's terms, from the argument arrays at the region's entry. -/
abbrev termV (R : Fin 8192) (d : Fin 1024) : ℕ → EReal := term (V m c main_arg0) (V m c main_arg1) (V m c main_arg2) (V m c main_arg3) R d

theorem point_at (t : Fin cfg0.N) (i : Fin 16) (ht : (grid0.coords t 0).val = i.val) (f : Fin 2) (hf : (grid0.coords t 1).val = f.val) (a : Vec Ideal S512x1024 .f32) (r : Fin 512) (d : Fin 1024) :
    stepv m c t a (ix2 r d) = (if f.val = 0 then 0 else a (ix2 r d)) + ∑ k ∈ Finset.range 1408, termV m c (⟨512 * i.val + r.val, by omega⟩ : Fin 8192) d (1408 * f.val + k) :=
  point_of _ _ _ _ _ _ f hf _ _ _ _ a r d (blk0 m c t i ht r) (blk1 m c t f hf) (blk2 m c t f hf) (blk3 m c t f hf)

theorem acc_step_of : ∀ (n : ℕ) (hn : n < grid0.N), ∃ a, accN m c n hn = stepv m c ⟨n, hn⟩ a
  | 0, _ => ⟨_, rfl⟩
  | _ + 1, _ => ⟨_, rfl⟩

theorem acc_at (i : Fin 16) (hn : 2 * i.val + 1 < grid0.N) (r : Fin 512) (d : Fin 1024) :
    accN m c (2 * i.val + 1) hn (ix2 r d) = ∑ k ∈ Finset.range 2816, termV m c (⟨512 * i.val + r.val, by omega⟩ : Fin 8192) d k := by
  have hn0 : 2 * i.val < grid0.N := by omega
  have e0 : accN m c (2 * i.val) hn0 (ix2 r d) = ∑ k ∈ Finset.range 1408, termV m c (⟨512 * i.val + r.val, by omega⟩ : Fin 8192) d k := by
    have hq : (2 * i.val) / 2 = i.val := by omega
    have e : ∀ a, stepv m c ⟨2 * i.val, hn0⟩ a (ix2 r d) = _ := fun a => point_at m c ⟨2 * i.val, hn0⟩ i ((coord0 _).trans hq) 0 ((coord1 _).trans (by show (2 * i.val) % 2 = 0; omega)) a r d
    obtain ⟨a, e'⟩ := acc_step_of m c (2 * i.val) hn0
    rw [e', e a]
    refine (congrArg (· + _) (if_pos rfl)).trans ((zero_add _).trans (Finset.sum_congr rfl fun k _ => congrArg _ ?_))
    exact Nat.zero_add k
  have hq : (2 * i.val + 1) / 2 = i.val := by omega
  refine (point_at m c ⟨2 * i.val + 1, hn⟩ i ((coord0 _).trans hq) 1 ((coord1 _).trans (by show (2 * i.val + 1) % 2 = 1; omega)) (accN m c (2 * i.val) hn0) r d).trans ?_
  refine (congrArg (· + _) ((if_neg one_ne_zero).trans e0)).trans ?_
  exact (Finset.sum_range_add _ 1408 1408).symm

/-! ## The results' blocks, once a tile's last point has left them -/

/-- The two results at row `R`, from the argument arrays at the region's entry. -/
abbrev xvalV (R : Fin 8192) : Fin 1024 → EReal :=
  xval (V m c main_arg0) (V m c main_arg1) (V m c main_arg2) (V m c main_arg3) (V m c main_arg4) (V m c main_arg5) (V m c main_arg6) R
abbrev hvalV (R : Fin 8192) : Fin 1024 → EReal :=
  hval (V m c main_arg0) (V m c main_arg1) (V m c main_arg2) (V m c main_arg3) (V m c main_arg4) (V m c main_arg5) (V m c main_arg6) (V m c main_arg7) (V m c main_arg8) R

theorem last (t : Fin grid0.N) (h : (grid0.coords t 1).val = 1) : k0_cond1 (grid0.coords t) = 1#1 := by
  unfold k0_cond1; rw [h]; decide

theorem place (p : Fin 2) (o : ℕ) (ho : o = 256 * p.val) (i : Fin 16) (r : Fin 256) (R : Fin 8192) (hR : R.val = 512 * i.val + (o + r.val)) :
    (⟨2 * i.val + p.val, by omega⟩ : Fin 32) = tile R := Fin.ext (by show 2 * i.val + p.val = R.val / 256; omega)

theorem xLo_at (i : Fin 16) (hn : 2 * i.val + 1 < grid0.N) (r : Fin 256) (R : Fin 8192) (hR : R.val = 512 * i.val + (0 + r.val)) (d : Fin 1024) :
    xLo (iblk m c 4 ⟨2 * i.val + 1, hn⟩) (iblk m c 5 ⟨2 * i.val + 1, hn⟩) (iblk m c 6 ⟨2 * i.val + 1, hn⟩) (accN m c (2 * i.val + 1) hn) (ix2 r d) = xvalV m c R d := by
  have ht : (grid0.coords ⟨2 * i.val + 1, hn⟩ 0).val = i.val := (coord0 _).trans (by show (2 * i.val + 1) / 2 = i.val; omega)
  have eR : (⟨512 * i.val + (0 + r.val), by omega⟩ : Fin 8192) = R := Fin.ext hR.symm
  refine (pay3_at _ _ _ _ r d).trans ?_
  unfold xvalV xval
  congr 1 <;> funext j
  · exact (lo_at _ r j).trans ((blk4 m c _ i ht _ j).trans (congrArg (fun q => V m c main_arg4 (ix2 q j)) eR))
  · exact (lo_at _ r j).trans ((acc_at m c i hn _ j).trans (Finset.sum_congr rfl fun k _ => congrArg (fun q => termV m c q j k) eR))
  · refine (congrArg (iblk m c 5 _) (row3 0 5 _ j)).trans ((blk5 m c _ i ht 0 5 j).trans (congrArg (fun q => V m c main_arg5 (ix3 q (5 : Fin 6) j)) (place 0 0 rfl i r R hR)))
  · exact (congrArg (iblk m c 6 _) (row2 3 _ j)).trans (blk6 m c _ 3 j)

theorem xHi_at (i : Fin 16) (hn : 2 * i.val + 1 < grid0.N) (r : Fin 256) (R : Fin 8192) (hR : R.val = 512 * i.val + (256 + r.val)) (d : Fin 1024) :
    xHi (iblk m c 4 ⟨2 * i.val + 1, hn⟩) (iblk m c 5 ⟨2 * i.val + 1, hn⟩) (iblk m c 6 ⟨2 * i.val + 1, hn⟩) (accN m c (2 * i.val + 1) hn) (ix2 r d) = xvalV m c R d := by
  have ht : (grid0.coords ⟨2 * i.val + 1, hn⟩ 0).val = i.val := (coord0 _).trans (by show (2 * i.val + 1) / 2 = i.val; omega)
  have eR : (⟨512 * i.val + (256 + r.val), by omega⟩ : Fin 8192) = R := Fin.ext hR.symm
  refine (pay7_at _ _ _ _ r d).trans ?_
  unfold xvalV xval
  congr 1 <;> funext j
  · exact (hi_at _ r j).trans ((blk4 m c _ i ht _ j).trans (congrArg (fun q => V m c main_arg4 (ix2 q j)) eR))
  · exact (hi_at _ r j).trans ((acc_at m c i hn _ j).trans (Finset.sum_congr rfl fun k _ => congrArg (fun q => termV m c q j k) eR))
  · refine (congrArg (iblk m c 5 _) (row3 1 5 _ j)).trans ((blk5 m c _ i ht 1 5 j).trans (congrArg (fun q => V m c main_arg5 (ix3 q (5 : Fin 6) j)) (place 1 256 rfl i r R hR)))
  · exact (congrArg (iblk m c 6 _) (row2 3 _ j)).trans (blk6 m c _ 3 j)

theorem hLo_at (i : Fin 16) (hn : 2 * i.val + 1 < grid0.N) (r : Fin 256) (R : Fin 8192) (hR : R.val = 512 * i.val + (0 + r.val)) (d : Fin 1024) :
    hLo (iblk m c 4 ⟨2 * i.val + 1, hn⟩) (iblk m c 5 ⟨2 * i.val + 1, hn⟩) (iblk m c 6 ⟨2 * i.val + 1, hn⟩) (iblk m c 7 ⟨2 * i.val + 1, hn⟩) (iblk m c 8 ⟨2 * i.val + 1, hn⟩)
      (accN m c (2 * i.val + 1) hn) (ix2 r d) = hvalV m c R d := by
  have ht : (grid0.coords ⟨2 * i.val + 1, hn⟩ 0).val = i.val := (coord0 _).trans (by show (2 * i.val + 1) / 2 = i.val; omega)
  refine (pay6_at _ _ _ _ _ _ _ r d).trans ?_
  unfold hvalV hval
  congr 1 <;> funext j
  · exact xLo_at m c i hn r R hR j
  · exact (congrArg (iblk m c 8 _) (row2 0 _ j)).trans (blk8 m c _ 0 j)
  · refine (congrArg (iblk m c 7 _) (row3 0 1 _ j)).trans ((blk7 m c _ i ht 0 1 j).trans (congrArg (fun q => V m c main_arg7 (ix3 q (1 : Fin 6) j)) (place 0 0 rfl i r R hR)))
  · refine (congrArg (iblk m c 7 _) (row3 0 0 _ j)).trans ((blk7 m c _ i ht 0 0 j).trans (congrArg (fun q => V m c main_arg7 (ix3 q (0 : Fin 6) j)) (place 0 0 rfl i r R hR)))

theorem hHi_at (i : Fin 16) (hn : 2 * i.val + 1 < grid0.N) (r : Fin 256) (R : Fin 8192) (hR : R.val = 512 * i.val + (256 + r.val)) (d : Fin 1024) :
    hHi (iblk m c 4 ⟨2 * i.val + 1, hn⟩) (iblk m c 5 ⟨2 * i.val + 1, hn⟩) (iblk m c 6 ⟨2 * i.val + 1, hn⟩) (iblk m c 7 ⟨2 * i.val + 1, hn⟩) (iblk m c 8 ⟨2 * i.val + 1, hn⟩)
      (accN m c (2 * i.val + 1) hn) (ix2 r d) = hvalV m c R d := by
  have ht : (grid0.coords ⟨2 * i.val + 1, hn⟩ 0).val = i.val := (coord0 _).trans (by show (2 * i.val + 1) / 2 = i.val; omega)
  refine (pay2_at _ _ _ _ _ _ _ r d).trans ?_
  unfold hvalV hval
  congr 1 <;> funext j
  · exact xHi_at m c i hn r R hR j
  · exact (congrArg (iblk m c 8 _) (row2 0 _ j)).trans (blk8 m c _ 0 j)
  · refine (congrArg (iblk m c 7 _) (row3 1 1 _ j)).trans ((blk7 m c _ i ht 1 1 j).trans (congrArg (fun q => V m c main_arg7 (ix3 q (1 : Fin 6) j)) (place 1 256 rfl i r R hR)))
  · refine (congrArg (iblk m c 7 _) (row3 1 0 _ j)).trans ((blk7 m c _ i ht 1 0 j).trans (congrArg (fun q => V m c main_arg7 (ix3 q (0 : Fin 6) j)) (place 1 256 rfl i r R hR)))

theorem leftX_at (i : Fin 16) (hn : 2 * i.val + 1 < grid0.N) (X : Vec Ideal S512x1024 .f32) (hX : LeftX m c ⟨2 * i.val + 1, hn⟩ X) (r : Fin 512) (R : Fin 8192) (hR : R.val = 512 * i.val + r.val) (d : Fin 1024) :
    X (ix2 r d) = xvalV m c R d := by
  obtain ⟨h0, h1⟩ := hX (last _ ((coord1 _).trans (by show (2 * i.val + 1) % 2 = 1; omega)))
  by_cases hr : r.val < 256
  · have e : (⟨0 + (⟨r.val, hr⟩ : Fin 256).val, by omega⟩ : Fin 512) = r := Fin.ext (Nat.zero_add _)
    exact (congrArg (fun q => X (ix2 q d)) e).symm.trans ((lo_at X ⟨r.val, hr⟩ d).symm.trans ((congrFun h0 _).trans (xLo_at m c i hn ⟨r.val, hr⟩ R (by show R.val = 512 * i.val + (0 + r.val); omega) d)))
  · have e : (⟨256 + (⟨r.val - 256, by omega⟩ : Fin 256).val, by omega⟩ : Fin 512) = r := Fin.ext (by show 256 + (r.val - 256) = r.val; omega)
    exact (congrArg (fun q => X (ix2 q d)) e).symm.trans ((hi_at X ⟨r.val - 256, by omega⟩ d).symm.trans ((congrFun h1 _).trans (xHi_at m c i hn ⟨r.val - 256, by omega⟩ R (by show R.val = 512 * i.val + (256 + (r.val - 256)); omega) d)))

theorem leftH_at (i : Fin 16) (hn : 2 * i.val + 1 < grid0.N) (X : Vec Ideal S512x1024 .bf16) (hX : LeftH m c ⟨2 * i.val + 1, hn⟩ X) (r : Fin 512) (R : Fin 8192) (hR : R.val = 512 * i.val + r.val) (d : Fin 1024) :
    X (ix2 r d) = hvalV m c R d := by
  obtain ⟨h0, h1⟩ := hX (last _ ((coord1 _).trans (by show (2 * i.val + 1) % 2 = 1; omega)))
  by_cases hr : r.val < 256
  · have e : (⟨0 + (⟨r.val, hr⟩ : Fin 256).val, by omega⟩ : Fin 512) = r := Fin.ext (Nat.zero_add _)
    exact (congrArg (fun q => X (ix2 q d)) e).symm.trans ((lo_at X ⟨r.val, hr⟩ d).symm.trans ((congrFun h0 _).trans (hLo_at m c i hn ⟨r.val, hr⟩ R (by show R.val = 512 * i.val + (0 + r.val); omega) d)))
  · have e : (⟨256 + (⟨r.val - 256, by omega⟩ : Fin 256).val, by omega⟩ : Fin 512) = r := Fin.ext (by show 256 + (r.val - 256) = r.val; omega)
    exact (congrArg (fun q => X (ix2 q d)) e).symm.trans ((hi_at X ⟨r.val - 256, by omega⟩ d).symm.trans ((congrFun h1 _).trans (hHi_at m c i hn ⟨r.val - 256, by omega⟩ R (by show R.val = 512 * i.val + (256 + (r.val - 256)); omega) d)))

end Cert.FfnValue

end
-- ==== Proof.FfnRef.lean ====
/- The dense feed-forward's reference over the extended reals: both its results are the specification's, at every place. -/
module

public import proofs.«01_k».proof.Proof.FfnValue
public import proofs.«01_k».proof.Proof.Gen.FfnRefIdeal.Run
public import proofs.«01_k».proof.Proof.Gen.FfnRefIdeal.Read

@[expose] public section

set_option maxRecDepth 16384

noncomputable section

namespace Cert.FfnRef

open Cert.FfnRefIdeal Cert.FfnRefIdeal.Read Cert.FfnValue Idealize.ShloMosaic

variable (x : FVec Ideal S8192x1024 .bf16) (wg wu : FVec Ideal S1024x2816 .bf16) (wd : FVec Ideal S2816x1024 .bf16) (x4 : FVec Ideal S8192x1024 .f32)
  (x5 : FVec Ideal S32x6x1024 .f32) (x6 : FVec Ideal S4x1024 .f32) (x7 : FVec Ideal S32x6x1024 .f32) (x8 : FVec Ideal S4x1024 .f32) (R : Fin 8192) (d : Fin 1024)

theorem ffn_at : val_main_v8 (F := Ideal) x wg wu wd (ix2 R d) = ∑ k ∈ Finset.range 2816, term x wg wu wd R d k := by
  rw [val_main_v8_apply, Finset.sum_range]
  refine Finset.sum_congr rfl fun k _ => ?_
  unfold term
  rw [dif_pos k.isLt]
  have el : lidx_main_v8 (ix2 R d) k = ix2 R k := funext fun a => Fin.ext (match a with | ⟨0, _⟩ => rfl | ⟨1, _⟩ => rfl)
  have er : ridx_main_v8 (ix2 R d) k = ix2 k d := funext fun a => Fin.ext (match a with | ⟨0, _⟩ => rfl | ⟨1, _⟩ => rfl)
  rw [el, er]
  refine congrArg (· * _) ?_
  have g : val_main_v4 (F := Ideal) x wg (ix2 R k) = ∑ j : Fin 1024, x (ix2 R j) * wg (ix2 j k) := by
    rw [val_main_v4_apply]
    refine Finset.sum_congr rfl fun j _ => congr (congrArg HMul.hMul (congrArg x ?_)) (congrArg wg ?_)
    · exact funext fun a => Fin.ext (match a with | ⟨0, _⟩ => rfl | ⟨1, _⟩ => rfl)
    · exact funext fun a => Fin.ext (match a with | ⟨0, _⟩ => rfl | ⟨1, _⟩ => rfl)
  have u : val_main_v6 (F := Ideal) x wu (ix2 R k) = ∑ j : Fin 1024, x (ix2 R j) * wu (ix2 j k) := by
    rw [val_main_v6_apply]
    refine Finset.sum_congr rfl fun j _ => congr (congrArg HMul.hMul (congrArg x ?_)) (congrArg wu ?_)
    · exact funext fun a => Fin.ext (match a with | ⟨0, _⟩ => rfl | ⟨1, _⟩ => rfl)
    · exact funext fun a => Fin.ext (match a with | ⟨0, _⟩ => rfl | ⟨1, _⟩ => rfl)
  unfold act
  rw [val_main_v7_apply, val_main_v5_apply, val_main_call0_v5_apply, val_main_call0_v3_apply, val_main_call0_v4_apply, val_main_call0_v2_apply,
    val_main_call0_v1_apply, val_main_call0_v0_apply, val_main_call0_cst_apply, val_main_call0_cst_0_apply, g, u]
  generalize (∑ j : Fin 1024, x (ix2 R j) * wg (ix2 j k) : EReal) = a
  have one : (FloatOps.ofBits (F := Ideal) .f32 0x3F800000#32 : EReal) = 1 := Ideal.ofBits_one_f32
  show (a * Ideal.div (FloatOps.ofBits (F := Ideal) .f32 0x3F800000#32) (FloatOps.ofBits (F := Ideal) .f32 0x3F800000#32 + Ideal.exp (-a)) * _ : EReal) = _
  rw [one]
  rfl

/-- A modulation, broadcast over the rows of its tile. -/
theorem gate_at : val_main_v13 (F := Ideal) x5 (ix2 R d) = x5 (ix3 (tile R) (5 : Fin 6) d) := by
  rw [val_main_v13_apply, val_main_v12_apply, val_main_v11_apply, val_main_v10_apply, val_main_v9_apply]
  have hd := d.isLt
  refine congrArg x5 (funext fun a => Fin.ext ?_)
  match a with
  | ⟨0, _⟩ => show ((R.val * 1024 + d.val) / 262144 * 1024 + (R.val * 1024 + d.val) % 1024) / 1024 = R.val / 256; omega
  | ⟨1, _⟩ => rfl
  | ⟨2, _⟩ => show ((R.val * 1024 + d.val) / 262144 * 1024 + (R.val * 1024 + d.val) % 1024) % 1024 = d.val; omega

theorem mul_at : val_main_v50 (F := Ideal) x7 (ix2 R d) = x7 (ix3 (tile R) (1 : Fin 6) d) := by
  rw [val_main_v50_apply, val_main_v49_apply, val_main_v48_apply, val_main_v47_apply, val_main_v46_apply]
  have hd := d.isLt
  refine congrArg x7 (funext fun a => Fin.ext ?_)
  match a with
  | ⟨0, _⟩ => show ((R.val * 1024 + d.val) / 262144 * 1024 + (R.val * 1024 + d.val) % 1024) / 1024 = R.val / 256; omega
  | ⟨1, _⟩ => rfl
  | ⟨2, _⟩ => show ((R.val * 1024 + d.val) / 262144 * 1024 + (R.val * 1024 + d.val) % 1024) % 1024 = d.val; omega

theorem add_at : val_main_v58 (F := Ideal) x7 (ix2 R d) = x7 (ix3 (tile R) (0 : Fin 6) d) := by
  rw [val_main_v58_apply, val_main_v57_apply, val_main_v56_apply, val_main_v55_apply, val_main_v54_apply]
  have hd := d.isLt
  refine congrArg x7 (funext fun a => Fin.ext ?_)
  match a with
  | ⟨0, _⟩ => show ((R.val * 1024 + d.val) / 262144 * 1024 + (R.val * 1024 + d.val) % 1024) / 1024 = R.val / 256; omega
  | ⟨1, _⟩ => rfl
  | ⟨2, _⟩ => show ((R.val * 1024 + d.val) / 262144 * 1024 + (R.val * 1024 + d.val) % 1024) % 1024 = d.val; omega

theorem gain3_at : val_main_v27 (F := Ideal) x6 (ix2 R d) = x6 (ix2 (3 : Fin 4) d) := by
  rw [val_main_v27_apply, val_main_v26_apply, val_main_v15_apply, val_main_v14_apply]
  refine congrArg x6 (funext fun a => Fin.ext ?_)
  match a with
  | ⟨0, _⟩ => rfl
  | ⟨1, _⟩ => exact Nat.mod_eq_of_lt d.isLt

theorem gain0_at : val_main_v44 (F := Ideal) x8 (ix2 R d) = x8 (ix2 (0 : Fin 4) d) := by
  rw [val_main_v44_apply, val_main_v43_apply, val_main_v32_apply, val_main_v31_apply]
  refine congrArg x8 (funext fun a => Fin.ext ?_)
  match a with
  | ⟨0, _⟩ => rfl
  | ⟨1, _⟩ => exact Nat.mod_eq_of_lt d.isLt

theorem scale_f : val_main_v24 (F := Ideal) x wg wu wd (ix2 R d) = scale fun j => ∑ k ∈ Finset.range 2816, term x wg wu wd R j k := by
  have z : (val_main_cst (F := Ideal)) (Shape.Idx.first Cert.FfnRefIdeal.Gen.facts.h_S_) = (0 : EReal) := Ideal.ofBits_zero .f32
  have s : val_main_v17 (F := Ideal) x wg wu wd (ix1 R) = ∑ j : Fin 1024, (∑ k ∈ Finset.range 2816, term x wg wu wd R j k) * (∑ k ∈ Finset.range 2816, term x wg wu wd R j k) := by
    rw [val_main_v17_apply]
    refine (congr (congrArg HAdd.hAdd z) (Finset.sum_congr rfl fun j _ => ?_)).trans (zero_add _)
    have e : idx_main_v17 (ix1 R) j = ix2 R j := funext fun a => Fin.ext (match a with | ⟨0, _⟩ => rfl | ⟨1, _⟩ => rfl)
    rw [e, val_main_v16_apply, ffn_at]
    rfl
  rw [val_main_v24_apply, val_main_v23_apply, val_main_v22_apply, val_main_v20_apply, val_main_v21_apply, val_main_v19_apply, val_main_v18_apply, val_main_cst_0_apply, val_main_cst_1_apply]
  have e : idx_main_v18 (idx_main_v24 (ix2 R d)) = ix1 R := funext fun a => Fin.ext (match a with | ⟨0, _⟩ => rfl)
  rw [e, s]
  rfl

theorem x_at : val_main_v30 (F := Ideal) x wg wu wd x4 x5 x6 (ix2 R d) = xval x wg wu wd x4 x5 x6 R d := by
  rw [val_main_v30_apply, val_main_v29_apply, val_main_v28_apply, val_main_v25_apply, gate_at, gain3_at, scale_f, ffn_at]
  rfl

theorem scale_x : val_main_v41 (F := Ideal) x wg wu wd x4 x5 x6 (ix2 R d) = scale (xval x wg wu wd x4 x5 x6 R) := by
  have z : (val_main_cst_2 (F := Ideal)) (Shape.Idx.first Cert.FfnRefIdeal.Gen.facts.h_S_) = (0 : EReal) := Ideal.ofBits_zero .f32
  have s : val_main_v34 (F := Ideal) x wg wu wd x4 x5 x6 (ix1 R) = ∑ j : Fin 1024, xval x wg wu wd x4 x5 x6 R j * xval x wg wu wd x4 x5 x6 R j := by
    rw [val_main_v34_apply]
    refine (congr (congrArg HAdd.hAdd z) (Finset.sum_congr rfl fun j _ => ?_)).trans (zero_add _)
    have e : idx_main_v34 (ix1 R) j = ix2 R j := funext fun a => Fin.ext (match a with | ⟨0, _⟩ => rfl | ⟨1, _⟩ => rfl)
    rw [e, val_main_v33_apply, x_at]
    rfl
  rw [val_main_v41_apply, val_main_v40_apply, val_main_v39_apply, val_main_v37_apply, val_main_v38_apply, val_main_v36_apply, val_main_v35_apply, val_main_cst_3_apply, val_main_cst_4_apply]
  have e : idx_main_v35 (idx_main_v41 (ix2 R d)) = ix1 R := funext fun a => Fin.ext (match a with | ⟨0, _⟩ => rfl)
  rw [e, s]
  rfl

theorem h_at : val_main_v60 (F := Ideal) x wg wu wd x4 x5 x6 x7 x8 (ix2 R d) = hval x wg wu wd x4 x5 x6 x7 x8 R d := by
  rw [val_main_v60_apply, val_main_v59_apply, val_main_v53_apply, val_main_v45_apply, val_main_v42_apply, val_main_v52_apply, val_main_v51_apply, val_main_cst_5_apply,
    add_at, mul_at, gain0_at, scale_x, x_at]
  rfl

end Cert.FfnRef

end
-- ==== Proof.FfnClaim.lean ====
/- The dense feed-forward: both the kernel's results are the reference's. -/
module

public import proofs.«01_k».proof.Defs
public import proofs.«01_k».proof.Proof.FfnRef
public import Idealize.ShloMosaic.Lib.Pipeline.Kit
public import Idealize.ShloMosaic.Lib.Pipeline.ArrRel

@[expose] public section

set_option maxRecDepth 16384

noncomputable section

namespace Cert.FfnClaim

open Cert.FfnIdeal Cert.FfnIdeal.Gen Cert.FfnIdeal.Hand Cert.FfnValue Idealize.ShloMosaic Idealize.ShloMosaic.TcCoe Idealize.SL.Sem
open Idealize.ShloMosaic.Pipeline (Dat RDat)

variable (m : (ℓ : Loc nD τ sig) → Buf (Elt Ideal) ℓ) (c : Dev nD)

/-! ## The result arrays after the run -/

theorem apart9 : ∀ t t' : Fin cfg0.N, (cfg0.win 9).flush t = true → (cfg0.win 9).flush t' = true → t ≠ t' →
    Disjoint ((cfg0.win 9).blk t).view.set ((cfg0.win 9).blk t').view.set :=
  Pipeline.Window.hdisj_of_index_inj _ fun t t' h h' e => by
    have e0 : win0_9.index t (0 : Fin 2) = win0_9.index t' (0 : Fin 2) := congrFun e (0 : Fin 2)
    rw [(idx t).2.2.2.2.2.2.2.2.2.1.1, (idx t').2.2.2.2.2.2.2.2.2.1.1, coord0, coord0] at e0
    rw [flush0_9] at h h'
    exact Fin.ext (by omega)

theorem apart10 : ∀ t t' : Fin cfg0.N, (cfg0.win 10).flush t = true → (cfg0.win 10).flush t' = true → t ≠ t' →
    Disjoint ((cfg0.win 10).blk t).view.set ((cfg0.win 10).blk t').view.set :=
  Pipeline.Window.hdisj_of_index_inj _ fun t t' h h' e => by
    have e0 : win0_10.index t (0 : Fin 2) = win0_10.index t' (0 : Fin 2) := congrFun e (0 : Fin 2)
    rw [(idx t).2.2.2.2.2.2.2.2.2.2.1, (idx t').2.2.2.2.2.2.2.2.2.2.1, coord0, coord0] at e0
    rw [flush0_10] at h h'
    exact Fin.ext (by omega)

theorem emb9 (i : Fin 16) (hn : 2 * i.val + 1 < grid0.N) (r : Fin 512) (d : Fin 1024) (R : Fin 8192) (hR : R.val = 512 * i.val + r.val) :
    ((cfg0.win 9).blk ⟨2 * i.val + 1, hn⟩).view.emb (ix2 r d) = ix2 R d := by
  obtain ⟨e0, e1⟩ := (idx ⟨2 * i.val + 1, hn⟩).2.2.2.2.2.2.2.2.2.1
  rw [coord0] at e0
  funext a
  apply Fin.ext
  match a with
  | ⟨0, _⟩ => show win0_9.index ⟨2 * i.val + 1, hn⟩ (0 : Fin 2) * 512 + 1 * r.val = R.val
              rw [e0]; show (2 * i.val + 1) / 2 * 512 + 1 * r.val = R.val; omega
  | ⟨1, _⟩ => show win0_9.index ⟨2 * i.val + 1, hn⟩ (1 : Fin 2) * 1024 + 1 * d.val = d.val; omega

theorem emb10 (i : Fin 16) (hn : 2 * i.val + 1 < grid0.N) (r : Fin 512) (d : Fin 1024) (R : Fin 8192) (hR : R.val = 512 * i.val + r.val) :
    ((cfg0.win 10).blk ⟨2 * i.val + 1, hn⟩).view.emb (ix2 r d) = ix2 R d := by
  obtain ⟨e0, e1⟩ := (idx ⟨2 * i.val + 1, hn⟩).2.2.2.2.2.2.2.2.2.2
  rw [coord0] at e0
  funext a
  apply Fin.ext
  match a with
  | ⟨0, _⟩ => show win0_10.index ⟨2 * i.val + 1, hn⟩ (0 : Fin 2) * 512 + 1 * r.val = R.val
              rw [e0]; show (2 * i.val + 1) / 2 * 512 + 1 * r.val = R.val; omega
  | ⟨1, _⟩ => show win0_10.index ⟨2 * i.val + 1, hn⟩ (1 : Fin 2) * 1024 + 1 * d.val = d.val; omega

variable (s : PUnit × MemSt nD τ sig (Elt Ideal)) (hs : RDat.FramePost cfg0 (rdat m) (V m) s)

include hs in
theorem x_at (R : Fin 8192) (d : Fin 1024) : s.2.mem ((c.tc : Thread nD τ).loc main_v0_0) (ix2 R d) = xvalV m c R d := by
  obtain ⟨after, hL, hA⟩ := hs.exists_exact c
  obtain ⟨i, r, hR⟩ : ∃ (i : Fin 16) (r : Fin 512), R.val = 512 * i.val + r.val := ⟨⟨R.val / 512, by omega⟩, ⟨R.val % 512, by omega⟩, by show R.val = 512 * (R.val / 512) + R.val % 512; omega⟩
  have hn : 2 * i.val + 1 < grid0.N := by have := i.isLt; show 2 * i.val + 1 < 32; omega
  have hf : (cfg0.win 9).flush ⟨2 * i.val + 1, hn⟩ = true := (flush0_9 _).2 (by show (2 * i.val + 1) % 2 = 1; omega)
  have hX : LeftX m c ⟨2 * i.val + 1, hn⟩ (after 9 ⟨2 * i.val + 1, hn⟩) := (dat m c).toRRel_leaves (fgt := marked) (Rl := rel m c) rfl (hL 9 _ hf)
  refine Eq.trans ?_ (leftX_at m c i hn _ hX r R hR d)
  refine (congrFun (hA 9) (ix2 R d)).trans ?_
  rw [← emb9 i hn r d R hR]
  exact Dat.arrAt_emb_eq_flushed _ 9 apart9 _ hf (ix2 r d)

include hs in
theorem h_at (R : Fin 8192) (d : Fin 1024) : s.2.mem ((c.tc : Thread nD τ).loc main_v0_1) (ix2 R d) = hvalV m c R d := by
  obtain ⟨after, hL, hA⟩ := hs.exists_exact c
  obtain ⟨i, r, hR⟩ : ∃ (i : Fin 16) (r : Fin 512), R.val = 512 * i.val + r.val := ⟨⟨R.val / 512, by omega⟩, ⟨R.val % 512, by omega⟩, by show R.val = 512 * (R.val / 512) + R.val % 512; omega⟩
  have hn : 2 * i.val + 1 < grid0.N := by have := i.isLt; show 2 * i.val + 1 < 32; omega
  have hf : (cfg0.win 10).flush ⟨2 * i.val + 1, hn⟩ = true := (flush0_10 _).2 (by show (2 * i.val + 1) % 2 = 1; omega)
  have hX : LeftH m c ⟨2 * i.val + 1, hn⟩ (after 10 ⟨2 * i.val + 1, hn⟩) := (dat m c).toRRel_leaves (fgt := marked) (Rl := rel m c) rfl (hL 10 _ hf)
  refine Eq.trans ?_ (leftH_at m c i hn _ hX r R hR d)
  refine (congrFun (hA 10) (ix2 R d)).trans ?_
  rw [← emb10 i hn r d R hR]
  exact Dat.arrAt_emb_eq_flushed _ 10 apart10 _ hf (ix2 r d)

/-! ## The claim -/

theorem algebraic [hk : Cert.FfnIdeal.Facts] [hr : Cert.FfnRefIdeal.Facts] : Cert.algebraic_FfnIdeal_FfnRefIdeal := by
  intro m g m' g' hpre hargs
  refine ⟨fun c => Cert.FfnRefIdeal.Read.val_main_v30 (F := Ideal) (V m c main_arg0) (V m c main_arg1) (V m c main_arg2) (V m c main_arg3) (V m c main_arg4) (V m c main_arg5) (V m c main_arg6),
    fun c => Cert.FfnRefIdeal.Read.val_main_v60 (F := Ideal) (V m c main_arg0) (V m c main_arg1) (V m c main_arg2) (V m c main_arg3) (V m c main_arg4) (V m c main_arg5) (V m c main_arg6) (V m c main_arg7) (V m c main_arg8), ?_, ?_⟩
  · refine (θ_run _ _ _).mono (fun s hs c => ⟨funext fun y => ?_, funext fun y => ?_,
      (RDat.FramePost.arr_in hs.1 c 0 rfl).trans (A_eq m c 0),
      (RDat.FramePost.arr_in hs.1 c 1 rfl).trans (A_eq m c 1),
      (RDat.FramePost.arr_in hs.1 c 2 rfl).trans (A_eq m c 2),
      (RDat.FramePost.arr_in hs.1 c 3 rfl).trans (A_eq m c 3),
      (RDat.FramePost.arr_in hs.1 c 4 rfl).trans (A_eq m c 4),
      (RDat.FramePost.arr_in hs.1 c 5 rfl).trans (A_eq m c 5),
      (RDat.FramePost.arr_in hs.1 c 6 rfl).trans (A_eq m c 6),
      (RDat.FramePost.arr_in hs.1 c 7 rfl).trans (A_eq m c 7),
      (RDat.FramePost.arr_in hs.1 c 8 rfl).trans (A_eq m c 8)⟩) (run_main m g)
    · obtain ⟨R, d, rfl⟩ : ∃ (R : Fin 8192) (d : Fin 1024), y = ix2 R d := ⟨y 0, y 1, (ix2_eta y).symm⟩
      exact (x_at m c s hs.1 R d).trans (Cert.FfnRef.x_at _ _ _ _ _ _ _ R d).symm
    · obtain ⟨R, d, rfl⟩ : ∃ (R : Fin 8192) (d : Fin 1024), y = ix2 R d := ⟨y 0, y 1, (ix2_eta y).symm⟩
      exact (h_at m c s hs.1 R d).trans (Cert.FfnRef.h_at _ _ _ _ _ _ _ _ _ R d).symm
  · refine (θ_run _ _ _).mono (fun s hs c => ⟨(hs c).1.trans ?_, (hs c).2.1.trans ?_, (hs c).2.2⟩) (Cert.FfnRefIdeal.Value.run m' g')
    all_goals obtain ⟨e0, e1, e2, e3, e4, e5, e6, e7, e8⟩ := hargs c
    · rw [Cert.FfnRefIdeal.Read.val_main_v30_eq, e0, e1, e2, e3, e4, e5, e6]
    · rw [Cert.FfnRefIdeal.Read.val_main_v60_eq, e0, e1, e2, e3, e4, e5, e6, e7, e8]

end Cert.FfnClaim

end
-- ==== Proof.MixValue.lean ====
/- The mixing of the two attention branches over the extended reals: what its kernel leaves at a place of each result. -/
module

public import proofs.«01_k».proof.Proof.FfnValue
public import proofs.«01_k».proof.Proof.Gen.MixIdeal.Value
public import Idealize.ShloMosaic.Lib.Pointwise
public import Idealize.ShloMosaic.Lib.Pipeline.ValueKit.Tiles

@[expose] public section

set_option maxRecDepth 16384

noncomputable section

namespace Cert.MixValue

open Cert.MixIdeal Cert.MixIdeal.Gen Cert.MixIdeal.Value Idealize.ShloMosaic Idealize.ShloMosaic.TcCoe Idealize.SL.Sem
open Cert.FfnValue (scale xres hres tile)

/-! ## The specification -/

/-- Row `R` of the context rows followed by the latent rows. -/
def both {f : FTy} (a b : FVec Ideal S4096x1024 f) (R : Fin 8192) (j : Fin 1024) : EReal :=
  if h : R.val < 4096 then a (ix2 (⟨R.val, h⟩ : Fin 4096) j) else b (ix2 (⟨R.val - 4096, by omega⟩ : Fin 4096) j)

/-- A branch: the row's attention output, multiplied by the branch's weights. -/
def branch (u : Fin 1024 → EReal) (w : FVec Ideal S1024x1024 .bf16) (d : Fin 1024) : EReal := ∑ j : Fin 1024, u j * w (ix2 j d)

/-- The two branches, gated and added, multiplied by the output weights. -/
def merge (ga gb p q : Fin 1024 → EReal) (wo : FVec Ideal S1024x1024 .bf16) (d : Fin 1024) : EReal :=
  ∑ k : Fin 1024, (Ideal.logistic (ga k) * p k + Ideal.logistic (gb k) * q k) * wo (ix2 k d)

section

variable (x0 x1 x2 x3 : FVec Ideal S4096x1024 .bf16) (x4 : FVec Ideal S8192x7168 .bf16) (x5 x6 : FVec Ideal S4096x1024 .f32)
  (x7 : FVec Ideal S32x6x1024 .f32) (x8 : FVec Ideal S4x1024 .f32) (x9 x10 x11 : FVec Ideal S1024x1024 .bf16) (R : Fin 8192)

/-- The attention's output on row `R`. -/
def yval : Fin 1024 → EReal :=
  merge (fun k => x4 (ix2 R (⟨1024 + k.val, by omega⟩ : Fin 7168))) (fun k => x4 (ix2 R (⟨2048 + k.val, by omega⟩ : Fin 7168)))
    (branch (both x0 x1 R) x9) (branch (both x2 x3 R) x10) x11

/-- The first result on row `R`. -/
def xval : Fin 1024 → EReal :=
  xres (both x5 x6 R) (yval x0 x1 x2 x3 x4 x9 x10 x11 R) (fun d => x7 (ix3 (tile R) (2 : Fin 6) d)) (fun d => x8 (ix2 (1 : Fin 4) d))

/-- The second result on row `R`. -/
def hval : Fin 1024 → EReal :=
  hres (xval x0 x1 x2 x3 x4 x5 x6 x7 x8 x9 x10 x11 R) (fun d => x8 (ix2 (2 : Fin 4) d)) (fun d => x7 (ix3 (tile R) (4 : Fin 6) d)) (fun d => x7 (ix3 (tile R) (3 : Fin 6) d))

end

/-! ## The payloads at a place -/

theorem cond_at (n : Fin 32) : Scalar.cmpi .slt (BitVec.ofNat 32 n.val) 16#32 = if n.val < 16 then 1#1 else 0#1 := by
  revert n; decide

theorem cond_of (i : grid0.Coords) : Scalar.cmpi .slt (BitVec.ofNat 32 (i 0).val) 16#32 = if (i 0).val < 16 then 1#1 else 0#1 :=
  cond_at ⟨(i 0).val, (i 0).isLt⟩

/-- The block of a tile: the context's for the first sixteen tiles, the latent's for the others. -/
def pick {α : Type} (n : ℕ) (a b : α) : α := if n < 16 then a else b

theorem select_of {α : Type} (i : grid0.Coords) (a b : α) : Scalar.select (Scalar.cmpi .slt (BitVec.ofNat 32 (i 0).val) 16#32) a b = pick (i 0).val a b := by
  rw [cond_of]; unfold pick
  by_cases h : (i 0).val < 16
  · rw [if_pos h, if_pos h]; rfl
  · rw [if_neg h, if_neg h]; rfl

theorem pay1_eq (i : grid0.Coords) (a b : Vec Ideal S256x1024 .f32) : k0_pay1 i a b = pick (i 0).val a b := select_of i a b

theorem pay2_at (i : grid0.Coords) (v1 v2 v4 v5 : Vec Ideal S256x1024 .bf16) (v10 v12 : Vec Ideal S1024x1024 .bf16) (v14 v18 : Vec Ideal S256x1024 .bf16) (v24 : Vec Ideal S1024x1024 .bf16)
    (r : Fin 256) (d : Fin 1024) :
    k0_pay2 i v1 v2 v4 v5 v10 v12 v14 v18 v24 (ix2 r d) = merge (fun k => v14 (ix2 r k)) (fun k => v18 (ix2 r k))
      (branch (fun j => pick (i 0).val v1 v2 (ix2 r j)) v10) (branch (fun j => pick (i 0).val v4 v5 (ix2 r j)) v12) v24 d := by
  unfold merge branch
  unfold k0_pay2
  rw [select_of, select_of]
  generalize pick (i 0).val v1 v2 = a
  generalize pick (i 0).val v4 v5 = b
  pointwise []

theorem pay4_at (x y : Vec Ideal S256x1024 .f32) (g : Vec Ideal S1x1x1024 .f32) (w : Vec Ideal S1x1024 .f32) (r : Fin 256) (d : Fin 1024) :
    k0_pay4 x y (k0_pay3 g) w (ix2 r d) = xres (fun j => x (ix2 r j)) (fun j => y (ix2 r j)) (fun j => g (ix3 (0 : Fin 1) (0 : Fin 1) j)) (fun j => w (ix2 (0 : Fin 1) j)) d := by
  unfold xres scale
  pointwise [k0_pay4, k0_pay3]

theorem pay5_at (x y : Vec Ideal S256x1024 .f32) (g : Vec Ideal S1x1024 .f32) (w w' : Vec Ideal S1x1024 .f32) (mu ad : Vec Ideal S1x1x1024 .f32) (r : Fin 256) (d : Fin 1024) :
    k0_pay5 x y g w w' mu ad (ix2 r d)
      = hres (fun j => k0_pay4 x y g w (ix2 r j)) (fun j => w' (ix2 (0 : Fin 1) j)) (fun j => mu (ix3 (0 : Fin 1) (0 : Fin 1) j)) (fun j => ad (ix3 (0 : Fin 1) (0 : Fin 1) j)) d := by
  unfold hres scale k0_pay5
  generalize k0_pay4 x y g w = z
  pointwise []

/-! ## The rows of the tables -/

theorem row3 (q : Fin 6) (inb : ∀ a, (![0, q.val, 0] : Fin 3 → ℕ) a + S1x1x1024.size a ≤ S1x6x1024.size a) (j : Fin 1024) :
    (Rect.unit (s := S1x6x1024) ![0, q.val, 0] S1x1x1024.size inb).emb (ix3 (0 : Fin 1) (0 : Fin 1) j) = ix3 (0 : Fin 1) q j := funext fun a => Fin.ext (match a with
  | ⟨0, _⟩ => rfl
  | ⟨1, _⟩ => by show q.val + 1 * 0 = q.val; omega
  | ⟨2, _⟩ => by show 0 + 1 * j.val = j.val; omega)

theorem row2 (p : Fin 4) (inb : ∀ a, (![p.val, 0] : Fin 2 → ℕ) a + S1x1024.size a ≤ S4x1024.size a) (j : Fin 1024) :
    (Rect.unit (s := S4x1024) ![p.val, 0] S1x1024.size inb).emb (ix2 (0 : Fin 1) j) = ix2 p j := funext fun a => Fin.ext (match a with
  | ⟨0, _⟩ => by show p.val + 1 * 0 = p.val; omega
  | ⟨1, _⟩ => by show 0 + 1 * j.val = j.val; omega)

theorem zero2 : (![0, 0] : Fin 2 → Nat) = fun _ => 0 := funext fun a => by fin_cases a <;> rfl

theorem xres_congr {x f g g' w w' : Fin 1024 → EReal} (hg : ∀ j, g j = g' j) (hw : ∀ j, w j = w' j) (d : Fin 1024) : xres x f g w d = xres x f g' w' d := by
  rw [funext hg, funext hw]

theorem hres_congr {z w w' p p' a a' : Fin 1024 → EReal} (hw : ∀ j, w j = w' j) (hp : ∀ j, p j = p' j) (ha : ∀ j, a j = a' j) (d : Fin 1024) : hres z w p a d = hres z w' p' a' d := by
  rw [funext hw, funext hp, funext ha]

/-! ## What a point stores, at a place of its blocks -/

section

variable (i : grid0.Coords) (x0 x1 x2 x3 x4 x5 : Vec Ideal S256x1024 .bf16) (x6 x7 : Vec Ideal S256x1024 .f32) (x8 : Vec Ideal S1x6x1024 .f32) (x9 : Vec Ideal S4x1024 .f32)
  (x10 x11 x12 : Vec Ideal S1024x1024 .bf16) (r : Fin 256) (d : Fin 1024)

/-- The first result at row `r` of the blocks. -/
def xblk (r : Fin 256) : Fin 1024 → EReal :=
  xres (fun j => pick (i 0).val x6 x7 (ix2 r j))
    (merge (fun k => x4 (ix2 r k)) (fun k => x5 (ix2 r k)) (branch (fun j => pick (i 0).val x0 x1 (ix2 r j)) x10) (branch (fun j => pick (i 0).val x2 x3 (ix2 r j)) x11) x12)
    (fun j => x8 (ix3 (0 : Fin 1) (2 : Fin 6) j)) (fun j => x9 (ix2 (1 : Fin 4) j))

theorem x_pay : k0_pay4 (k0_pay6 i x0 x1 x2 x3 x4 x5 x6 x7 x8 x9 x10 x11 x12) (k0_pay7 i x0 x1 x2 x3 x4 x5 x6 x7 x8 x9 x10 x11 x12)
    (k0_pay8 i x0 x1 x2 x3 x4 x5 x6 x7 x8 x9 x10 x11 x12) (View.ld x9 r0_3) (ix2 r d) = xblk i x0 x1 x2 x3 x4 x5 x6 x7 x8 x9 x10 x11 x12 r d := by
  unfold k0_pay8
  refine (pay4_at _ _ _ _ r d).trans ?_
  unfold k0_pay6 k0_pay7 xblk
  simp only [View.ld_unit_zero (S := S256x1024) zero2, View.ld_unit_zero (S := S1024x1024) zero2, pay1_eq, pay2_at]
  refine xres_congr (fun j => ?_) (fun j => ?_) d
  · exact congrArg x8 (row3 2 inb_S1x6x1024_S1x1x1024_0_2_0 j)
  · exact congrArg x9 (row2 1 inb_S4x1024_S1x1024_1_0 j)

theorem out13_at : out0_13 (F := Ideal) i x0 x1 x2 x3 x4 x5 x6 x7 x8 x9 x10 x11 x12 (ix2 r d) = xblk i x0 x1 x2 x3 x4 x5 x6 x7 x8 x9 x10 x11 x12 r d := by
  unfold out0_13
  refine (congrFun (View.canon_cons_unit_lit _ _ _ (fun a => match a with | ⟨0, _⟩ => rfl | ⟨1, _⟩ => rfl)) _).trans ?_
  exact x_pay i x0 x1 x2 x3 x4 x5 x6 x7 x8 x9 x10 x11 x12 r d

theorem out14_at : out0_14 (F := Ideal) i x0 x1 x2 x3 x4 x5 x6 x7 x8 x9 x10 x11 x12 (ix2 r d)
    = hres (xblk i x0 x1 x2 x3 x4 x5 x6 x7 x8 x9 x10 x11 x12 r) (fun j => x9 (ix2 (2 : Fin 4) j)) (fun j => x8 (ix3 (0 : Fin 1) (4 : Fin 6) j)) (fun j => x8 (ix3 (0 : Fin 1) (3 : Fin 6) j)) d := by
  unfold out0_14
  refine (congrFun (View.canon_cons_unit_lit _ _ _ (fun a => match a with | ⟨0, _⟩ => rfl | ⟨1, _⟩ => rfl)) _).trans ?_
  refine (pay5_at _ _ _ _ _ _ _ r d).trans ?_
  simp only [x_pay]
  refine hres_congr (fun j => ?_) (fun j => ?_) (fun j => ?_) d
  · exact congrArg x9 (row2 2 inb_S4x1024_S1x1024_2_0 j)
  · exact congrArg x8 (row3 4 inb_S1x6x1024_S1x1x1024_0_4_0 j)
  · exact congrArg x8 (row3 3 inb_S1x6x1024_S1x1x1024_0_3_0 j)

end

/-! ## The blocks a point works on -/

/-- Each window's block index at a grid point. -/
theorem idx : ∀ t : Fin cfg0.N, (win0_0.index t (0 : Fin 2) = min (grid0.coords t 0).val 15 ∧ win0_0.index t (1 : Fin 2) = 0)
    ∧ (win0_1.index t (0 : Fin 2) = (grid0.coords t 0).val - 16 ∧ win0_1.index t (1 : Fin 2) = 0)
    ∧ (win0_2.index t (0 : Fin 2) = min (grid0.coords t 0).val 15 ∧ win0_2.index t (1 : Fin 2) = 0)
    ∧ (win0_3.index t (0 : Fin 2) = (grid0.coords t 0).val - 16 ∧ win0_3.index t (1 : Fin 2) = 0)
    ∧ (win0_4.index t (0 : Fin 2) = (grid0.coords t 0).val ∧ win0_4.index t (1 : Fin 2) = 1)
    ∧ (win0_5.index t (0 : Fin 2) = (grid0.coords t 0).val ∧ win0_5.index t (1 : Fin 2) = 2)
    ∧ (win0_6.index t (0 : Fin 2) = min (grid0.coords t 0).val 15 ∧ win0_6.index t (1 : Fin 2) = 0)
    ∧ (win0_7.index t (0 : Fin 2) = (grid0.coords t 0).val - 16 ∧ win0_7.index t (1 : Fin 2) = 0)
    ∧ (win0_8.index t (0 : Fin 3) = (grid0.coords t 0).val ∧ win0_8.index t (1 : Fin 3) = 0 ∧ win0_8.index t (2 : Fin 3) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = (grid0.coords t 0).val ∧ win0_13.index t (1 : Fin 2) = 0)
    ∧ (win0_14.index t (0 : Fin 2) = (grid0.coords t 0).val ∧ win0_14.index t (1 : Fin 2) = 0) :=
  (by decide +kernel : ∀ t : Fin grid0.N, _)

variable (m : (ℓ : Loc nD τ sig) → Buf (Elt Ideal) ℓ) (c : Dev nD)

theorem blkA (t : Fin cfg0.N) (r : Fin 256) (R : Fin 8192) (hR : R.val = 256 * (grid0.coords t 0).val + r.val) (j : Fin 1024) :
    pick (grid0.coords t 0).val (iblk m c 0 t) (iblk m c 1 t) (ix2 r j) = both (f := .bf16) (V m c main_arg0) (V m c main_arg1) R j := by
  obtain ⟨e0, e1⟩ := (idx t).1
  obtain ⟨f0, f1⟩ := (idx t).2.1
  unfold both
  by_cases h : (grid0.coords t 0).val < 16
  · rw [dif_pos (by omega : R.val < 4096)]
    refine (congrFun (if_pos h) (ix2 r j)).trans (congrArg (V m c main_arg0) (funext fun a => Fin.ext ?_))
    match a with
    | ⟨0, _⟩ => show win0_0.index t (0 : Fin 2) * 256 + 1 * r.val = R.val; omega
    | ⟨1, _⟩ => show win0_0.index t (1 : Fin 2) * 1024 + 1 * j.val = j.val; omega
  · rw [dif_neg (by omega : ¬ R.val < 4096)]
    refine (congrFun (if_neg h) (ix2 r j)).trans (congrArg (V m c main_arg1) (funext fun a => Fin.ext ?_))
    match a with
    | ⟨0, _⟩ => show win0_1.index t (0 : Fin 2) * 256 + 1 * r.val = R.val - 4096; omega
    | ⟨1, _⟩ => show win0_1.index t (1 : Fin 2) * 1024 + 1 * j.val = j.val; omega

theorem blkB (t : Fin cfg0.N) (r : Fin 256) (R : Fin 8192) (hR : R.val = 256 * (grid0.coords t 0).val + r.val) (j : Fin 1024) :
    pick (grid0.coords t 0).val (iblk m c 2 t) (iblk m c 3 t) (ix2 r j) = both (f := .bf16) (V m c main_arg2) (V m c main_arg3) R j := by
  obtain ⟨e0, e1⟩ := (idx t).2.2.1
  obtain ⟨f0, f1⟩ := (idx t).2.2.2.1
  unfold both
  by_cases h : (grid0.coords t 0).val < 16
  · rw [dif_pos (by omega : R.val < 4096)]
    refine (congrFun (if_pos h) (ix2 r j)).trans (congrArg (V m c main_arg2) (funext fun a => Fin.ext ?_))
    match a with
    | ⟨0, _⟩ => show win0_2.index t (0 : Fin 2) * 256 + 1 * r.val = R.val; omega
    | ⟨1, _⟩ => show win0_2.index t (1 : Fin 2) * 1024 + 1 * j.val = j.val; omega
  · rw [dif_neg (by omega : ¬ R.val < 4096)]
    refine (congrFun (if_neg h) (ix2 r j)).trans (congrArg (V m c main_arg3) (funext fun a => Fin.ext ?_))
    match a with
    | ⟨0, _⟩ => show win0_3.index t (0 : Fin 2) * 256 + 1 * r.val = R.val - 4096; omega
    | ⟨1, _⟩ => show win0_3.index t (1 : Fin 2) * 1024 + 1 * j.val = j.val; omega

theorem blkX (t : Fin cfg0.N) (r : Fin 256) (R : Fin 8192) (hR : R.val = 256 * (grid0.coords t 0).val + r.val) (j : Fin 1024) :
    pick (grid0.coords t 0).val (iblk m c 6 t) (iblk m c 7 t) (ix2 r j) = both (f := .f32) (V m c main_arg5) (V m c main_arg6) R j := by
  obtain ⟨e0, e1⟩ := (idx t).2.2.2.2.2.2.1
  obtain ⟨f0, f1⟩ := (idx t).2.2.2.2.2.2.2.1
  unfold both
  by_cases h : (grid0.coords t 0).val < 16
  · rw [dif_pos (by omega : R.val < 4096)]
    refine (congrFun (if_pos h) (ix2 r j)).trans (congrArg (V m c main_arg5) (funext fun a => Fin.ext ?_))
    match a with
    | ⟨0, _⟩ => show win0_6.index t (0 : Fin 2) * 256 + 1 * r.val = R.val; omega
    | ⟨1, _⟩ => show win0_6.index t (1 : Fin 2) * 1024 + 1 * j.val = j.val; omega
  · rw [dif_neg (by omega : ¬ R.val < 4096)]
    refine (congrFun (if_neg h) (ix2 r j)).trans (congrArg (V m c main_arg6) (funext fun a => Fin.ext ?_))
    match a with
    | ⟨0, _⟩ => show win0_7.index t (0 : Fin 2) * 256 + 1 * r.val = R.val - 4096; omega
    | ⟨1, _⟩ => show win0_7.index t (1 : Fin 2) * 1024 + 1 * j.val = j.val; omega

theorem blkGA (t : Fin cfg0.N) (r : Fin 256) (R : Fin 8192) (hR : R.val = 256 * (grid0.coords t 0).val + r.val) (j : Fin 1024) :
    iblk m c 4 t (ix2 r j) = V m c main_arg4 (ix2 R (⟨1024 + j.val, by omega⟩ : Fin 7168)) := by
  obtain ⟨e0, e1⟩ := (idx t).2.2.2.2.1
  refine congrArg (V m c main_arg4) (funext fun a => Fin.ext ?_)
  match a with
  | ⟨0, _⟩ => show win0_4.index t (0 : Fin 2) * 256 + 1 * r.val = R.val; omega
  | ⟨1, _⟩ => show win0_4.index t (1 : Fin 2) * 1024 + 1 * j.val = 1024 + j.val; omega

theorem blkGB (t : Fin cfg0.N) (r : Fin 256) (R : Fin 8192) (hR : R.val = 256 * (grid0.coords t 0).val + r.val) (j : Fin 1024) :
    iblk m c 5 t (ix2 r j) = V m c main_arg4 (ix2 R (⟨2048 + j.val, by omega⟩ : Fin 7168)) := by
  obtain ⟨e0, e1⟩ := (idx t).2.2.2.2.2.1
  refine congrArg (V m c main_arg4) (funext fun a => Fin.ext ?_)
  match a with
  | ⟨0, _⟩ => show win0_5.index t (0 : Fin 2) * 256 + 1 * r.val = R.val; omega
  | ⟨1, _⟩ => show win0_5.index t (1 : Fin 2) * 1024 + 1 * j.val = 2048 + j.val; omega

theorem blkM (t : Fin cfg0.N) (r : Fin 256) (R : Fin 8192) (hR : R.val = 256 * (grid0.coords t 0).val + r.val) (q : Fin 6) (j : Fin 1024) :
    iblk m c 8 t (ix3 (0 : Fin 1) q j) = V m c main_arg7 (ix3 (tile R) q j) := by
  obtain ⟨e0, e1, e2⟩ := (idx t).2.2.2.2.2.2.2.2.1
  refine congrArg (V m c main_arg7) (funext fun a => Fin.ext ?_)
  match a with
  | ⟨0, _⟩ => show win0_8.index t (0 : Fin 3) * 1 + 1 * 0 = R.val / 256; omega
  | ⟨1, _⟩ => show win0_8.index t (1 : Fin 3) * 6 + 1 * q.val = q.val; omega
  | ⟨2, _⟩ => show win0_8.index t (2 : Fin 3) * 1024 + 1 * j.val = j.val; omega

theorem blkN (t : Fin cfg0.N) (q : Fin 4) (j : Fin 1024) : iblk m c 9 t (ix2 q j) = V m c main_arg8 (ix2 q j) := by
  obtain ⟨e0, e1⟩ := (idx t).2.2.2.2.2.2.2.2.2.1
  refine congrArg (V m c main_arg8) (funext fun a => Fin.ext ?_)
  match a with
  | ⟨0, _⟩ => show win0_9.index t (0 : Fin 2) * 4 + 1 * q.val = q.val; omega
  | ⟨1, _⟩ => show win0_9.index t (1 : Fin 2) * 1024 + 1 * j.val = j.val; omega

theorem blk10 (t : Fin cfg0.N) : iblk m c 10 t = V m c main_arg9 := by
  obtain ⟨e0, e1⟩ := (idx t).2.2.2.2.2.2.2.2.2.2.1
  refine funext fun y => congrArg (V m c main_arg9) (funext fun a => Fin.ext ?_)
  match a with
  | ⟨0, _⟩ => show win0_10.index t (0 : Fin 2) * 1024 + 1 * (y 0).val = (y 0).val; omega
  | ⟨1, _⟩ => show win0_10.index t (1 : Fin 2) * 1024 + 1 * (y 1).val = (y 1).val; omega

theorem blk11 (t : Fin cfg0.N) : iblk m c 11 t = V m c main_arg10 := by
  obtain ⟨e0, e1⟩ := (idx t).2.2.2.2.2.2.2.2.2.2.2.1
  refine funext fun y => congrArg (V m c main_arg10) (funext fun a => Fin.ext ?_)
  match a with
  | ⟨0, _⟩ => show win0_11.index t (0 : Fin 2) * 1024 + 1 * (y 0).val = (y 0).val; omega
  | ⟨1, _⟩ => show win0_11.index t (1 : Fin 2) * 1024 + 1 * (y 1).val = (y 1).val; omega

theorem blk12 (t : Fin cfg0.N) : iblk m c 12 t = V m c main_arg11 := by
  obtain ⟨e0, e1⟩ := (idx t).2.2.2.2.2.2.2.2.2.2.2.2.1
  refine funext fun y => congrArg (V m c main_arg11) (funext fun a => Fin.ext ?_)
  match a with
  | ⟨0, _⟩ => show win0_12.index t (0 : Fin 2) * 1024 + 1 * (y 0).val = (y 0).val; omega
  | ⟨1, _⟩ => show win0_12.index t (1 : Fin 2) * 1024 + 1 * (y 1).val = (y 1).val; omega

/-! ## The results after the run -/

/-- The two results at row `R`, from the argument arrays at the region's entry. -/
abbrev xvalV (R : Fin 8192) : Fin 1024 → EReal :=
  xval (V m c main_arg0) (V m c main_arg1) (V m c main_arg2) (V m c main_arg3) (V m c main_arg4) (V m c main_arg5) (V m c main_arg6) (V m c main_arg7) (V m c main_arg8)
    (V m c main_arg9) (V m c main_arg10) (V m c main_arg11) R
abbrev hvalV (R : Fin 8192) : Fin 1024 → EReal :=
  hval (V m c main_arg0) (V m c main_arg1) (V m c main_arg2) (V m c main_arg3) (V m c main_arg4) (V m c main_arg5) (V m c main_arg6) (V m c main_arg7) (V m c main_arg8)
    (V m c main_arg9) (V m c main_arg10) (V m c main_arg11) R

theorem xblk_at (t : Fin cfg0.N) (r : Fin 256) (R : Fin 8192) (hR : R.val = 256 * (grid0.coords t 0).val + r.val) :
    xblk (grid0.coords t) (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) r = xvalV m c R := by
  unfold xblk xvalV xval yval
  rw [funext (blkA m c t r R hR), funext (blkB m c t r R hR), funext (blkX m c t r R hR), funext (blkGA m c t r R hR), funext (blkGB m c t r R hR), blk10, blk11, blk12,
    funext (blkM m c t r R hR 2), funext (blkN m c t 1)]

theorem emb13 (t : Fin cfg0.N) (r : Fin 256) (R : Fin 8192) (hR : R.val = 256 * (grid0.coords t 0).val + r.val) (d : Fin 1024) : ((cfg0.win 13).blk t).view.emb (ix2 r d) = ix2 R d := by
  obtain ⟨e0, e1⟩ := (idx t).2.2.2.2.2.2.2.2.2.2.2.2.2.1
  funext a
  apply Fin.ext
  match a with
  | ⟨0, _⟩ => show win0_13.index t (0 : Fin 2) * 256 + 1 * r.val = R.val; omega
  | ⟨1, _⟩ => show win0_13.index t (1 : Fin 2) * 1024 + 1 * d.val = d.val; omega

theorem emb14 (t : Fin cfg0.N) (r : Fin 256) (R : Fin 8192) (hR : R.val = 256 * (grid0.coords t 0).val + r.val) (d : Fin 1024) : ((cfg0.win 14).blk t).view.emb (ix2 r d) = ix2 R d := by
  obtain ⟨e0, e1⟩ := (idx t).2.2.2.2.2.2.2.2.2.2.2.2.2.2
  funext a
  apply Fin.ext
  match a with
  | ⟨0, _⟩ => show win0_14.index t (0 : Fin 2) * 256 + 1 * r.val = R.val; omega
  | ⟨1, _⟩ => show win0_14.index t (1 : Fin 2) * 1024 + 1 * d.val = d.val; omega

theorem at_point : ∀ i : Fin 32, ∃ t : Fin cfg0.N, (grid0.coords t 0).val = i.val :=
  (by decide +kernel : ∀ i : Fin 32, ∃ t : Fin grid0.N, _)

theorem x_final (R : Fin 8192) (d : Fin 1024) : (dats m 0 c).arrAt 13 cfg0.N (ix2 R d) = xvalV m c R d := by
  obtain ⟨t, ht⟩ := at_point ⟨R.val / 256, by omega⟩
  have hR : R.val = 256 * (grid0.coords t 0).val + (⟨R.val % 256, by omega⟩ : Fin 256).val := by rw [ht]; show R.val = 256 * (R.val / 256) + R.val % 256; omega
  rw [← emb13 t _ R hR d]
  refine (congrFun (blocks13 m c t (flush0_13 _)) (ix2 _ d)).trans ?_
  rw [flushed13]
  refine (out13_at _ _ _ _ _ _ _ _ _ _ _ _ _ _ _ d).trans ?_
  rw [xblk_at m c t _ R hR]

theorem h_final (R : Fin 8192) (d : Fin 1024) : (dats m 0 c).arrAt 14 cfg0.N (ix2 R d) = hvalV m c R d := by
  obtain ⟨t, ht⟩ := at_point ⟨R.val / 256, by omega⟩
  have hR : R.val = 256 * (grid0.coords t 0).val + (⟨R.val % 256, by omega⟩ : Fin 256).val := by rw [ht]; show R.val = 256 * (R.val / 256) + R.val % 256; omega
  rw [← emb14 t _ R hR d]
  refine (congrFun (blocks14 m c t (flush0_14 _)) (ix2 _ d)).trans ?_
  rw [flushed14]
  refine (out14_at _ _ _ _ _ _ _ _ _ _ _ _ _ _ _ d).trans ?_
  rw [xblk_at m c t _ R hR, funext (blkM m c t _ R hR 3), funext (blkM m c t _ R hR 4), funext (blkN m c t 2)]
  rfl

end Cert.MixValue

end
-- ==== Proof.MixRef.lean ====
/- The mixing's reference over the extended reals: both its results are the specification's, at every place. -/
module

public import proofs.«01_k».proof.Proof.MixValue
public import proofs.«01_k».proof.Proof.Gen.MixRefIdeal.Run
public import proofs.«01_k».proof.Proof.Gen.MixRefIdeal.Read

@[expose] public section

set_option maxRecDepth 16384

noncomputable section

namespace Cert.MixRef

open Cert.MixRefIdeal Cert.MixRefIdeal.Read Idealize.ShloMosaic Cert.MixValue
open Cert.FfnValue (scale tile)

variable (x0 x1 x2 x3 : FVec Ideal S4096x1024 .bf16) (x4 : FVec Ideal S8192x7168 .bf16) (x5 x6 : FVec Ideal S4096x1024 .f32)
  (x7 : FVec Ideal S32x6x1024 .f32) (x8 : FVec Ideal S4x1024 .f32) (x9 x10 x11 : FVec Ideal S1024x1024 .bf16) (R : Fin 8192) (d : Fin 1024)

/-- The two arrays one after the other, at a place. -/
theorem both_at {f : FTy} (a b : FVec Ideal S4096x1024 f) (h : Shape.Concatenates [S4096x1024, S4096x1024] S8192x1024 0) :
    concatenate (α := EReal) S8192x1024 0 [⟨S4096x1024, a⟩, ⟨S4096x1024, b⟩] h (ix2 R d) = both a b R d := by
  unfold both
  by_cases hR : R.val < 4096
  · rw [dif_pos hR]
    exact concatenate_pair_apply_left (t := S8192x1024) 0 a b h (ix2 R d) rfl (ix2 (⟨R.val, hR⟩ : Fin 4096) d) fun a => match a with
      | ⟨0, _⟩ => rfl | ⟨1, _⟩ => rfl
  · rw [dif_neg hR]
    exact concatenate_pair_apply_right (t := S8192x1024) 0 a b h (ix2 R d) rfl rfl (ix2 (⟨R.val - 4096, by omega⟩ : Fin 4096) d)
      (fun a => match a with
        | ⟨0, _⟩ => fun ne => absurd rfl ne
        | ⟨1, _⟩ => fun _ => rfl)
      (Nat.sub_add_cancel (Nat.le_of_not_lt hR))

theorem a_at : val_main_v7 (F := Ideal) x0 x1 x9 (ix2 R d) = branch (both x0 x1 R) x9 d := by
  rw [val_main_v7_apply]
  refine Finset.sum_congr rfl fun k _ => ?_
  have el : lidx_main_v7 (ix2 R d) k = ix2 R k := funext fun a => Fin.ext (match a with | ⟨0, _⟩ => rfl | ⟨1, _⟩ => rfl)
  have er : ridx_main_v7 (ix2 R d) k = ix2 k d := funext fun a => Fin.ext (match a with | ⟨0, _⟩ => rfl | ⟨1, _⟩ => rfl)
  rw [el, er]
  exact congrArg (· * x9 (ix2 k d)) (both_at R k x0 x1 Cert.MixRefIdeal.Gen.facts.concatenates_S4096x1024_S4096x1024_S8192x1024_d0)

theorem b_at : val_main_v11 (F := Ideal) x2 x3 x10 (ix2 R d) = branch (both x2 x3 R) x10 d := by
  rw [val_main_v11_apply]
  refine Finset.sum_congr rfl fun k _ => ?_
  have el : lidx_main_v11 (ix2 R d) k = ix2 R k := funext fun a => Fin.ext (match a with | ⟨0, _⟩ => rfl | ⟨1, _⟩ => rfl)
  have er : ridx_main_v11 (ix2 R d) k = ix2 k d := funext fun a => Fin.ext (match a with | ⟨0, _⟩ => rfl | ⟨1, _⟩ => rfl)
  rw [el, er]
  exact congrArg (· * x10 (ix2 k d)) (both_at R k x2 x3 Cert.MixRefIdeal.Gen.facts.concatenates_S4096x1024_S4096x1024_S8192x1024_d0)

theorem logistic_of (a : EReal) :
    Ideal.div (FloatOps.ofBits (F := Ideal) .f32 0x3F800000#32) (FloatOps.ofBits (F := Ideal) .f32 0x3F800000#32 + Ideal.exp (-a)) = Ideal.logistic a := by
  have one : (FloatOps.ofBits (F := Ideal) .f32 0x3F800000#32 : EReal) = 1 := Ideal.ofBits_one_f32
  rw [one]
  rfl

theorem ga_at : val_main_v17 (F := Ideal) x4 (ix2 R d) = Ideal.logistic (x4 (ix2 R (⟨1024 + d.val, by omega⟩ : Fin 7168))) := by
  have e : val_main_v1 (F := Ideal) x4 (ix2 R d) = x4 (ix2 R (⟨1024 + d.val, by omega⟩ : Fin 7168)) := by
    rw [val_main_v1_apply, val_main_v0_apply]
    refine congrArg x4 (funext fun a => Fin.ext ?_)
    match a with
    | ⟨0, _⟩ => rfl
    | ⟨1, _⟩ => rfl
  rw [val_main_v17_apply, val_main_v16_apply, val_main_v15_apply, val_main_v14_apply, val_main_v13_apply, val_main_v12_apply, val_main_cst_apply, val_main_cst_0_apply, e]
  exact logistic_of _

theorem gb_at : val_main_v24 (F := Ideal) x4 (ix2 R d) = Ideal.logistic (x4 (ix2 R (⟨2048 + d.val, by omega⟩ : Fin 7168))) := by
  have e : val_main_v3 (F := Ideal) x4 (ix2 R d) = x4 (ix2 R (⟨2048 + d.val, by omega⟩ : Fin 7168)) := by
    rw [val_main_v3_apply, val_main_v2_apply]
    refine congrArg x4 (funext fun a => Fin.ext ?_)
    match a with
    | ⟨0, _⟩ => rfl
    | ⟨1, _⟩ => rfl
  rw [val_main_v24_apply, val_main_v23_apply, val_main_v22_apply, val_main_v21_apply, val_main_v20_apply, val_main_v19_apply, val_main_cst_1_apply, val_main_cst_2_apply, e]
  exact logistic_of _

theorem y_at : val_main_v28 (F := Ideal) x0 x1 x2 x3 x4 x9 x10 x11 (ix2 R d) = yval x0 x1 x2 x3 x4 x9 x10 x11 R d := by
  unfold yval merge
  rw [val_main_v28_apply]
  refine Finset.sum_congr rfl fun k _ => ?_
  have el : lidx_main_v28 (ix2 R d) k = ix2 R k := funext fun a => Fin.ext (match a with | ⟨0, _⟩ => rfl | ⟨1, _⟩ => rfl)
  have er : ridx_main_v28 (ix2 R d) k = ix2 k d := funext fun a => Fin.ext (match a with | ⟨0, _⟩ => rfl | ⟨1, _⟩ => rfl)
  rw [el, er, val_main_v26_apply, val_main_v18_apply, val_main_v25_apply, ga_at, gb_at, a_at, b_at]
  rfl

theorem gate_at : val_main_v34 (F := Ideal) x7 (ix2 R d) = x7 (ix3 (tile R) (2 : Fin 6) d) := by
  rw [val_main_v34_apply, val_main_v33_apply, val_main_v32_apply, val_main_v31_apply, val_main_v30_apply]
  have hd := d.isLt
  refine congrArg x7 (funext fun a => Fin.ext ?_)
  match a with
  | ⟨0, _⟩ => show ((R.val * 1024 + d.val) / 262144 * 1024 + (R.val * 1024 + d.val) % 1024) / 1024 = R.val / 256; omega
  | ⟨1, _⟩ => rfl
  | ⟨2, _⟩ => show ((R.val * 1024 + d.val) / 262144 * 1024 + (R.val * 1024 + d.val) % 1024) % 1024 = d.val; omega

theorem mul_at : val_main_v71 (F := Ideal) x7 (ix2 R d) = x7 (ix3 (tile R) (4 : Fin 6) d) := by
  rw [val_main_v71_apply, val_main_v70_apply, val_main_v69_apply, val_main_v68_apply, val_main_v67_apply]
  have hd := d.isLt
  refine congrArg x7 (funext fun a => Fin.ext ?_)
  match a with
  | ⟨0, _⟩ => show ((R.val * 1024 + d.val) / 262144 * 1024 + (R.val * 1024 + d.val) % 1024) / 1024 = R.val / 256; omega
  | ⟨1, _⟩ => rfl
  | ⟨2, _⟩ => show ((R.val * 1024 + d.val) / 262144 * 1024 + (R.val * 1024 + d.val) % 1024) % 1024 = d.val; omega

theorem add_at : val_main_v79 (F := Ideal) x7 (ix2 R d) = x7 (ix3 (tile R) (3 : Fin 6) d) := by
  rw [val_main_v79_apply, val_main_v78_apply, val_main_v77_apply, val_main_v76_apply, val_main_v75_apply]
  have hd := d.isLt
  refine congrArg x7 (funext fun a => Fin.ext ?_)
  match a with
  | ⟨0, _⟩ => show ((R.val * 1024 + d.val) / 262144 * 1024 + (R.val * 1024 + d.val) % 1024) / 1024 = R.val / 256; omega
  | ⟨1, _⟩ => rfl
  | ⟨2, _⟩ => show ((R.val * 1024 + d.val) / 262144 * 1024 + (R.val * 1024 + d.val) % 1024) % 1024 = d.val; omega

theorem gain1_at : val_main_v48 (F := Ideal) x8 (ix2 R d) = x8 (ix2 (1 : Fin 4) d) := by
  rw [val_main_v48_apply, val_main_v47_apply, val_main_v36_apply, val_main_v35_apply]
  refine congrArg x8 (funext fun a => Fin.ext ?_)
  match a with
  | ⟨0, _⟩ => rfl
  | ⟨1, _⟩ => exact Nat.mod_eq_of_lt d.isLt

theorem gain2_at : val_main_v65 (F := Ideal) x8 (ix2 R d) = x8 (ix2 (2 : Fin 4) d) := by
  rw [val_main_v65_apply, val_main_v64_apply, val_main_v53_apply, val_main_v52_apply]
  refine congrArg x8 (funext fun a => Fin.ext ?_)
  match a with
  | ⟨0, _⟩ => rfl
  | ⟨1, _⟩ => exact Nat.mod_eq_of_lt d.isLt

theorem scale_y : val_main_v45 (F := Ideal) x0 x1 x2 x3 x4 x9 x10 x11 (ix2 R d) = scale (yval x0 x1 x2 x3 x4 x9 x10 x11 R) := by
  have z : (val_main_cst_3 (F := Ideal)) (Shape.Idx.first Cert.MixRefIdeal.Gen.facts.h_S_) = (0 : EReal) := Ideal.ofBits_zero .f32
  have s : val_main_v38 (F := Ideal) x0 x1 x2 x3 x4 x9 x10 x11 (ix1 R) = ∑ j : Fin 1024, yval x0 x1 x2 x3 x4 x9 x10 x11 R j * yval x0 x1 x2 x3 x4 x9 x10 x11 R j := by
    rw [val_main_v38_apply]
    refine (congr (congrArg HAdd.hAdd z) (Finset.sum_congr rfl fun j _ => ?_)).trans (zero_add _)
    have e : idx_main_v38 (ix1 R) j = ix2 R j := funext fun a => Fin.ext (match a with | ⟨0, _⟩ => rfl | ⟨1, _⟩ => rfl)
    rw [e, val_main_v37_apply, y_at]
    rfl
  rw [val_main_v45_apply, val_main_v44_apply, val_main_v43_apply, val_main_v41_apply, val_main_v42_apply, val_main_v40_apply, val_main_v39_apply, val_main_cst_4_apply, val_main_cst_5_apply]
  have e : idx_main_v39 (idx_main_v45 (ix2 R d)) = ix1 R := funext fun a => Fin.ext (match a with | ⟨0, _⟩ => rfl)
  rw [e, s]
  rfl

theorem x_at : val_main_v51 (F := Ideal) x0 x1 x2 x3 x4 x5 x6 x7 x8 x9 x10 x11 (ix2 R d) = xval x0 x1 x2 x3 x4 x5 x6 x7 x8 x9 x10 x11 R d := by
  have e : val_main_v29 (F := Ideal) x5 x6 (ix2 R d) = both x5 x6 R d := both_at R d x5 x6 Cert.MixRefIdeal.Gen.facts.concatenates_S4096x1024_S4096x1024_S8192x1024_d0
  rw [val_main_v51_apply, val_main_v50_apply, val_main_v49_apply, val_main_v46_apply, gate_at, gain1_at, scale_y, y_at, e]
  rfl

theorem scale_x : val_main_v62 (F := Ideal) x0 x1 x2 x3 x4 x5 x6 x7 x8 x9 x10 x11 (ix2 R d) = scale (xval x0 x1 x2 x3 x4 x5 x6 x7 x8 x9 x10 x11 R) := by
  have z : (val_main_cst_6 (F := Ideal)) (Shape.Idx.first Cert.MixRefIdeal.Gen.facts.h_S_) = (0 : EReal) := Ideal.ofBits_zero .f32
  have s : val_main_v55 (F := Ideal) x0 x1 x2 x3 x4 x5 x6 x7 x8 x9 x10 x11 (ix1 R) = ∑ j : Fin 1024, xval x0 x1 x2 x3 x4 x5 x6 x7 x8 x9 x10 x11 R j * xval x0 x1 x2 x3 x4 x5 x6 x7 x8 x9 x10 x11 R j := by
    rw [val_main_v55_apply]
    refine (congr (congrArg HAdd.hAdd z) (Finset.sum_congr rfl fun j _ => ?_)).trans (zero_add _)
    have e : idx_main_v55 (ix1 R) j = ix2 R j := funext fun a => Fin.ext (match a with | ⟨0, _⟩ => rfl | ⟨1, _⟩ => rfl)
    rw [e, val_main_v54_apply, x_at]
    rfl
  rw [val_main_v62_apply, val_main_v61_apply, val_main_v60_apply, val_main_v58_apply, val_main_v59_apply, val_main_v57_apply, val_main_v56_apply, val_main_cst_7_apply, val_main_cst_8_apply]
  have e : idx_main_v56 (idx_main_v62 (ix2 R d)) = ix1 R := funext fun a => Fin.ext (match a with | ⟨0, _⟩ => rfl)
  rw [e, s]
  rfl

theorem h_at : val_main_v81 (F := Ideal) x0 x1 x2 x3 x4 x5 x6 x7 x8 x9 x10 x11 (ix2 R d) = hval x0 x1 x2 x3 x4 x5 x6 x7 x8 x9 x10 x11 R d := by
  rw [val_main_v81_apply, val_main_v80_apply, val_main_v74_apply, val_main_v66_apply, val_main_v63_apply, val_main_v73_apply, val_main_v72_apply, val_main_cst_9_apply,
    add_at, mul_at, gain2_at, scale_x, x_at]
  rfl

end Cert.MixRef

end
-- ==== Proof.MixClaim.lean ====
/- The mixing of the two attention branches: both the kernel's results are the reference's. -/
module

public import proofs.«01_k».proof.Defs
public import proofs.«01_k».proof.Proof.MixRef

@[expose] public section

set_option maxRecDepth 16384

noncomputable section

namespace Cert.MixClaim

open Cert.MixIdeal Cert.MixIdeal.Gen Cert.MixIdeal.Value Cert.MixValue Idealize.ShloMosaic Idealize.ShloMosaic.TcCoe Idealize.SL.Sem

theorem algebraic [hk : Cert.MixIdeal.Facts] [hr : Cert.MixRefIdeal.Facts] : Cert.algebraic_MixIdeal_MixRefIdeal := by
  intro m g m' g' hpre hargs
  refine ⟨fun c => Cert.MixRefIdeal.Read.val_main_v51 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11),
    fun c => Cert.MixRefIdeal.Read.val_main_v81 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11), ?_, ?_⟩
  · refine (θ_run _ _ _).mono (fun s hs c => ⟨(hs c).1.trans (funext fun y => ?_), (hs c).2.1.trans (funext fun y => ?_), (hs c).2.2⟩) (Cert.MixIdeal.Value.run_blocks m g)
    · obtain ⟨R, d, rfl⟩ : ∃ (R : Fin 8192) (d : Fin 1024), y = ix2 R d := ⟨y 0, y 1, (ix2_eta y).symm⟩
      exact (x_final m c R d).trans (Cert.MixRef.x_at _ _ _ _ _ _ _ _ _ _ _ _ R d).symm
    · obtain ⟨R, d, rfl⟩ : ∃ (R : Fin 8192) (d : Fin 1024), y = ix2 R d := ⟨y 0, y 1, (ix2_eta y).symm⟩
      exact (h_final m c R d).trans (Cert.MixRef.h_at _ _ _ _ _ _ _ _ _ _ _ _ R d).symm
  · refine (θ_run _ _ _).mono (fun s hs c => ⟨(hs c).1.trans ?_, (hs c).2.1.trans ?_, (hs c).2.2⟩) (Cert.MixRefIdeal.Value.run m' g')
    all_goals obtain ⟨e0, e1, e2, e3, e4, e5, e6, e7, e8, e9, e10, e11⟩ := hargs c
    · rw [Cert.MixRefIdeal.Read.val_main_v51_eq, e0, e1, e2, e3, e4, e5, e6, e7, e8, e9, e10, e11]
    · rw [Cert.MixRefIdeal.Read.val_main_v81_eq, e0, e1, e2, e3, e4, e5, e6, e7, e8, e9, e10, e11]

end Cert.MixClaim

end
-- ==== Proof.RouteValue.lean ====
/- The mixing with the router over the extended reals: what its kernel leaves at a place of the residual rows and of the
   normalised rows. The routing table, stored beside them, is not described. -/
module

public import proofs.«01_k».proof.Proof.MixValue
public import proofs.«01_k».proof.Proof.Gen.MixRouteIdeal.Value
public import Idealize.ShloMosaic.Lib.Pointwise
public import Idealize.ShloMosaic.Lib.Pipeline.ValueKit.Tiles

@[expose] public section

set_option maxRecDepth 16384

noncomputable section

namespace Cert.RouteValue

open Cert.MixRouteIdeal Cert.MixRouteIdeal.Gen Cert.MixRouteIdeal.Value Idealize.ShloMosaic Idealize.ShloMosaic.TcCoe Idealize.SL.Sem
open Cert.FfnValue (scale xres hres tile)
open Cert.MixValue (both branch merge pick xres_congr hres_congr zero2)

/-! ## The specification -/

section

variable (x0 x1 x2 x3 : FVec Ideal S4096x1024 .bf16) (x4 : FVec Ideal S8192x7168 .bf16) (x5 : FVec Ideal S8192x1024 .f32)
  (x6 : FVec Ideal S32x6x1024 .f32) (x7 : FVec Ideal S4x1024 .f32) (x8 x9 x10 : FVec Ideal S1024x1024 .bf16) (R : Fin 8192)

/-- The attention's output on row `R`. -/
def yval : Fin 1024 → EReal :=
  merge (fun k => x4 (ix2 R (⟨1024 + k.val, by omega⟩ : Fin 7168))) (fun k => x4 (ix2 R (⟨2048 + k.val, by omega⟩ : Fin 7168)))
    (branch (both x0 x1 R) x8) (branch (both x2 x3 R) x9) x10

/-- The first result on row `R`. -/
def xval : Fin 1024 → EReal :=
  xres (fun j => x5 (ix2 R j)) (yval x0 x1 x2 x3 x4 x8 x9 x10 R) (fun d => x6 (ix3 (tile R) (2 : Fin 6) d)) (fun d => x7 (ix2 (1 : Fin 4) d))

/-- The second result on row `R`. -/
def hval : Fin 1024 → EReal :=
  hres (xval x0 x1 x2 x3 x4 x5 x6 x7 x8 x9 x10 R) (fun d => x7 (ix2 (2 : Fin 4) d)) (fun d => x6 (ix3 (tile R) (4 : Fin 6) d)) (fun d => x6 (ix3 (tile R) (3 : Fin 6) d))

end

/-! ## The payloads at a place -/

theorem select_of {α : Type} (i : grid0.Coords) (a b : α) : Scalar.select (Scalar.cmpi .slt (BitVec.ofNat 32 (i 0).val) 16#32) a b = pick (i 0).val a b := by
  rw [Cert.MixValue.cond_at ⟨(i 0).val, (i 0).isLt⟩]; unfold pick
  by_cases h : (i 0).val < 16
  · rw [if_pos h, if_pos h]; rfl
  · rw [if_neg h, if_neg h]; rfl

theorem pay2_eq (i : grid0.Coords) (a b : Vec Ideal S256x1024 .f32) : k0_pay2 i a b = pick (i 0).val a b := select_of i a b

theorem pay3_at (i : grid0.Coords) (v1 v2 v4 v5 : Vec Ideal S256x1024 .bf16) (v10 v12 : Vec Ideal S1024x1024 .bf16) (v14 v18 : Vec Ideal S256x1024 .bf16) (v24 : Vec Ideal S1024x1024 .bf16)
    (r : Fin 256) (d : Fin 1024) :
    k0_pay3 i v1 v2 v4 v5 v10 v12 v14 v18 v24 (ix2 r d) = merge (fun k => v14 (ix2 r k)) (fun k => v18 (ix2 r k))
      (branch (fun j => pick (i 0).val v1 v2 (ix2 r j)) v10) (branch (fun j => pick (i 0).val v4 v5 (ix2 r j)) v12) v24 d := by
  unfold merge branch
  unfold k0_pay3
  rw [select_of, select_of]
  generalize pick (i 0).val v1 v2 = a
  generalize pick (i 0).val v4 v5 = b
  pointwise []

theorem pay5_at (x y : Vec Ideal S256x1024 .f32) (g : Vec Ideal S1x1x1024 .f32) (w : Vec Ideal S1x1024 .f32) (r : Fin 256) (d : Fin 1024) :
    k0_pay5 x y (k0_pay4 g) w (ix2 r d) = xres (fun j => x (ix2 r j)) (fun j => y (ix2 r j)) (fun j => g (ix3 (0 : Fin 1) (0 : Fin 1) j)) (fun j => w (ix2 (0 : Fin 1) j)) d := by
  unfold xres scale
  pointwise [k0_pay5, k0_pay4]

theorem pay6_at (x y : Vec Ideal S256x1024 .f32) (g : Vec Ideal S1x1024 .f32) (w w' : Vec Ideal S1x1024 .f32) (mu ad : Vec Ideal S1x1x1024 .f32) (r : Fin 256) (d : Fin 1024) :
    k0_pay6 x y g w w' mu ad (ix2 r d)
      = hres (fun j => k0_pay5 x y g w (ix2 r j)) (fun j => w' (ix2 (0 : Fin 1) j)) (fun j => mu (ix3 (0 : Fin 1) (0 : Fin 1) j)) (fun j => ad (ix3 (0 : Fin 1) (0 : Fin 1) j)) d := by
  unfold hres scale k0_pay6
  generalize k0_pay5 x y g w = z
  pointwise []

/-! ## The rows of the tables -/

theorem row3 (q : Fin 6) (inb : ∀ a, (![0, q.val, 0] : Fin 3 → ℕ) a + S1x1x1024.size a ≤ S1x6x1024.size a) (j : Fin 1024) :
    (Rect.unit (s := S1x6x1024) ![0, q.val, 0] S1x1x1024.size inb).emb (ix3 (0 : Fin 1) (0 : Fin 1) j) = ix3 (0 : Fin 1) q j := funext fun a => Fin.ext (match a with
  | ⟨0, _⟩ => rfl
  | ⟨1, _⟩ => by show q.val + 1 * 0 = q.val; omega
  | ⟨2, _⟩ => by show 0 + 1 * j.val = j.val; omega)

theorem row2 (p : Fin 4) (inb : ∀ a, (![p.val, 0] : Fin 2 → ℕ) a + S1x1024.size a ≤ S4x1024.size a) (j : Fin 1024) :
    (Rect.unit (s := S4x1024) ![p.val, 0] S1x1024.size inb).emb (ix2 (0 : Fin 1) j) = ix2 p j := funext fun a => Fin.ext (match a with
  | ⟨0, _⟩ => by show p.val + 1 * 0 = p.val; omega
  | ⟨1, _⟩ => by show 0 + 1 * j.val = j.val; omega)

/-! ## What a point stores, at a place of its blocks -/

section

variable (i : grid0.Coords) (x0 x1 x2 x3 x4 x5 : Vec Ideal S256x1024 .bf16) (x6 x7 : Vec Ideal S256x1024 .f32) (x8 : Vec Ideal S1x6x1024 .f32) (x9 : Vec Ideal S4x1024 .f32)
  (x10 x11 x12 : Vec Ideal S1024x1024 .bf16) (x13 : Vec Ideal S1024x128 .f32) (r : Fin 256) (d : Fin 1024)

/-- The first result at row `r` of the blocks. -/
def xblk (r : Fin 256) : Fin 1024 → EReal :=
  xres (fun j => pick (i 0).val x6 x7 (ix2 r j))
    (merge (fun k => x4 (ix2 r k)) (fun k => x5 (ix2 r k)) (branch (fun j => pick (i 0).val x0 x1 (ix2 r j)) x10) (branch (fun j => pick (i 0).val x2 x3 (ix2 r j)) x11) x12)
    (fun j => x8 (ix3 (0 : Fin 1) (2 : Fin 6) j)) (fun j => x9 (ix2 (1 : Fin 4) j))

theorem x_pay : k0_pay5 (k0_pay16 i x0 x1 x2 x3 x4 x5 x6 x7 x8 x9 x10 x11 x12 x13) (k0_pay17 i x0 x1 x2 x3 x4 x5 x6 x7 x8 x9 x10 x11 x12 x13)
    (k0_pay18 i x0 x1 x2 x3 x4 x5 x6 x7 x8 x9 x10 x11 x12 x13) (View.ld x9 r0_3) (ix2 r d) = xblk i x0 x1 x2 x3 x4 x5 x6 x7 x8 x9 x10 x11 x12 r d := by
  unfold k0_pay18
  refine (pay5_at _ _ _ _ r d).trans ?_
  unfold k0_pay16 k0_pay17 xblk
  simp only [View.ld_unit_zero (S := S256x1024) zero2, View.ld_unit_zero (S := S1024x1024) zero2, pay2_eq, pay3_at]
  refine xres_congr (fun j => ?_) (fun j => ?_) d
  · exact congrArg x8 (row3 2 inb_S1x6x1024_S1x1x1024_0_2_0 j)
  · exact congrArg x9 (row2 1 inb_S4x1024_S1x1024_1_0 j)

theorem out14_at : out0_14 (F := Ideal) i x0 x1 x2 x3 x4 x5 x6 x7 x8 x9 x10 x11 x12 x13 (ix2 r d) = xblk i x0 x1 x2 x3 x4 x5 x6 x7 x8 x9 x10 x11 x12 r d := by
  unfold out0_14
  refine (congrFun (View.canon_cons_unit_lit _ _ _ (fun a => match a with | ⟨0, _⟩ => rfl | ⟨1, _⟩ => rfl)) _).trans ?_
  exact x_pay i x0 x1 x2 x3 x4 x5 x6 x7 x8 x9 x10 x11 x12 x13 r d

theorem out15_at : out0_15 (F := Ideal) i x0 x1 x2 x3 x4 x5 x6 x7 x8 x9 x10 x11 x12 x13 (ix2 r d)
    = hres (xblk i x0 x1 x2 x3 x4 x5 x6 x7 x8 x9 x10 x11 x12 r) (fun j => x9 (ix2 (2 : Fin 4) j)) (fun j => x8 (ix3 (0 : Fin 1) (4 : Fin 6) j)) (fun j => x8 (ix3 (0 : Fin 1) (3 : Fin 6) j)) d := by
  unfold out0_15 k0_pay19
  refine (congrFun (View.canon_cons_unit_lit _ _ _ (fun a => match a with | ⟨0, _⟩ => rfl | ⟨1, _⟩ => rfl)) _).trans ?_
  refine (pay6_at _ _ _ _ _ _ _ r d).trans ?_
  simp only [x_pay]
  refine hres_congr (fun j => ?_) (fun j => ?_) (fun j => ?_) d
  · exact congrArg x9 (row2 2 inb_S4x1024_S1x1024_2_0 j)
  · exact congrArg x8 (row3 4 inb_S1x6x1024_S1x1x1024_0_4_0 j)
  · exact congrArg x8 (row3 3 inb_S1x6x1024_S1x1x1024_0_3_0 j)

end

/-! ## The blocks a point works on -/

/-- Each window's block index at a grid point. -/
theorem idx : ∀ t : Fin cfg0.N, (win0_0.index t (0 : Fin 2) = min (grid0.coords t 0).val 15 ∧ win0_0.index t (1 : Fin 2) = 0)
    ∧ (win0_1.index t (0 : Fin 2) = (grid0.coords t 0).val - 16 ∧ win0_1.index t (1 : Fin 2) = 0)
    ∧ (win0_2.index t (0 : Fin 2) = min (grid0.coords t 0).val 15 ∧ win0_2.index t (1 : Fin 2) = 0)
    ∧ (win0_3.index t (0 : Fin 2) = (grid0.coords t 0).val - 16 ∧ win0_3.index t (1 : Fin 2) = 0)
    ∧ (win0_4.index t (0 : Fin 2) = (grid0.coords t 0).val ∧ win0_4.index t (1 : Fin 2) = 1)
    ∧ (win0_5.index t (0 : Fin 2) = (grid0.coords t 0).val ∧ win0_5.index t (1 : Fin 2) = 2)
    ∧ (win0_6.index t (0 : Fin 2) = min (grid0.coords t 0).val 15 ∧ win0_6.index t (1 : Fin 2) = 0)
    ∧ (win0_7.index t (0 : Fin 2) = 16 + ((grid0.coords t 0).val - 16) ∧ win0_7.index t (1 : Fin 2) = 0)
    ∧ (win0_8.index t (0 : Fin 3) = (grid0.coords t 0).val ∧ win0_8.index t (1 : Fin 3) = 0 ∧ win0_8.index t (2 : Fin 3) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_14.index t (0 : Fin 2) = (grid0.coords t 0).val ∧ win0_14.index t (1 : Fin 2) = 0)
    ∧ (win0_15.index t (0 : Fin 2) = (grid0.coords t 0).val ∧ win0_15.index t (1 : Fin 2) = 0) :=
  (by decide +kernel : ∀ t : Fin grid0.N, _)

variable (m : (ℓ : Loc nD τ sig) → Buf (Elt Ideal) ℓ) (c : Dev nD)

theorem blkA (t : Fin cfg0.N) (r : Fin 256) (R : Fin 8192) (hR : R.val = 256 * (grid0.coords t 0).val + r.val) (j : Fin 1024) :
    pick (grid0.coords t 0).val (iblk m c 0 t) (iblk m c 1 t) (ix2 r j) = both (f := .bf16) (V m c main_arg0) (V m c main_arg1) R j := by
  obtain ⟨e0, e1⟩ := (idx t).1
  obtain ⟨f0, f1⟩ := (idx t).2.1
  unfold both
  by_cases h : (grid0.coords t 0).val < 16
  · rw [dif_pos (by omega : R.val < 4096)]
    refine (congrFun (if_pos h) (ix2 r j)).trans (congrArg (V m c main_arg0) (funext fun a => Fin.ext ?_))
    match a with
    | ⟨0, _⟩ => show win0_0.index t (0 : Fin 2) * 256 + 1 * r.val = R.val; omega
    | ⟨1, _⟩ => show win0_0.index t (1 : Fin 2) * 1024 + 1 * j.val = j.val; omega
  · rw [dif_neg (by omega : ¬ R.val < 4096)]
    refine (congrFun (if_neg h) (ix2 r j)).trans (congrArg (V m c main_arg1) (funext fun a => Fin.ext ?_))
    match a with
    | ⟨0, _⟩ => show win0_1.index t (0 : Fin 2) * 256 + 1 * r.val = R.val - 4096; omega
    | ⟨1, _⟩ => show win0_1.index t (1 : Fin 2) * 1024 + 1 * j.val = j.val; omega

theorem blkB (t : Fin cfg0.N) (r : Fin 256) (R : Fin 8192) (hR : R.val = 256 * (grid0.coords t 0).val + r.val) (j : Fin 1024) :
    pick (grid0.coords t 0).val (iblk m c 2 t) (iblk m c 3 t) (ix2 r j) = both (f := .bf16) (V m c main_arg2) (V m c main_arg3) R j := by
  obtain ⟨e0, e1⟩ := (idx t).2.2.1
  obtain ⟨f0, f1⟩ := (idx t).2.2.2.1
  unfold both
  by_cases h : (grid0.coords t 0).val < 16
  · rw [dif_pos (by omega : R.val < 4096)]
    refine (congrFun (if_pos h) (ix2 r j)).trans (congrArg (V m c main_arg2) (funext fun a => Fin.ext ?_))
    match a with
    | ⟨0, _⟩ => show win0_2.index t (0 : Fin 2) * 256 + 1 * r.val = R.val; omega
    | ⟨1, _⟩ => show win0_2.index t (1 : Fin 2) * 1024 + 1 * j.val = j.val; omega
  · rw [dif_neg (by omega : ¬ R.val < 4096)]
    refine (congrFun (if_neg h) (ix2 r j)).trans (congrArg (V m c main_arg3) (funext fun a => Fin.ext ?_))
    match a with
    | ⟨0, _⟩ => show win0_3.index t (0 : Fin 2) * 256 + 1 * r.val = R.val - 4096; omega
    | ⟨1, _⟩ => show win0_3.index t (1 : Fin 2) * 1024 + 1 * j.val = j.val; omega

theorem blkX (t : Fin cfg0.N) (r : Fin 256) (R : Fin 8192) (hR : R.val = 256 * (grid0.coords t 0).val + r.val) (j : Fin 1024) :
    pick (grid0.coords t 0).val (iblk m c 6 t) (iblk m c 7 t) (ix2 r j) = V m c main_arg5 (ix2 R j) := by
  obtain ⟨e0, e1⟩ := (idx t).2.2.2.2.2.2.1
  obtain ⟨f0, f1⟩ := (idx t).2.2.2.2.2.2.2.1
  by_cases h : (grid0.coords t 0).val < 16
  · refine (congrFun (if_pos h) (ix2 r j)).trans (congrArg (V m c main_arg5) (funext fun a => Fin.ext ?_))
    match a with
    | ⟨0, _⟩ => show win0_6.index t (0 : Fin 2) * 256 + 1 * r.val = R.val; omega
    | ⟨1, _⟩ => show win0_6.index t (1 : Fin 2) * 1024 + 1 * j.val = j.val; omega
  · refine (congrFun (if_neg h) (ix2 r j)).trans (congrArg (V m c main_arg5) (funext fun a => Fin.ext ?_))
    match a with
    | ⟨0, _⟩ => show win0_7.index t (0 : Fin 2) * 256 + 1 * r.val = R.val; omega
    | ⟨1, _⟩ => show win0_7.index t (1 : Fin 2) * 1024 + 1 * j.val = j.val; omega

theorem blkGA (t : Fin cfg0.N) (r : Fin 256) (R : Fin 8192) (hR : R.val = 256 * (grid0.coords t 0).val + r.val) (j : Fin 1024) :
    iblk m c 4 t (ix2 r j) = V m c main_arg4 (ix2 R (⟨1024 + j.val, by omega⟩ : Fin 7168)) := by
  obtain ⟨e0, e1⟩ := (idx t).2.2.2.2.1
  refine congrArg (V m c main_arg4) (funext fun a => Fin.ext ?_)
  match a with
  | ⟨0, _⟩ => show win0_4.index t (0 : Fin 2) * 256 + 1 * r.val = R.val; omega
  | ⟨1, _⟩ => show win0_4.index t (1 : Fin 2) * 1024 + 1 * j.val = 1024 + j.val; omega

theorem blkGB (t : Fin cfg0.N) (r : Fin 256) (R : Fin 8192) (hR : R.val = 256 * (grid0.coords t 0).val + r.val) (j : Fin 1024) :
    iblk m c 5 t (ix2 r j) = V m c main_arg4 (ix2 R (⟨2048 + j.val, by omega⟩ : Fin 7168)) := by
  obtain ⟨e0, e1⟩ := (idx t).2.2.2.2.2.1
  refine congrArg (V m c main_arg4) (funext fun a => Fin.ext ?_)
  match a with
  | ⟨0, _⟩ => show win0_5.index t (0 : Fin 2) * 256 + 1 * r.val = R.val; omega
  | ⟨1, _⟩ => show win0_5.index t (1 : Fin 2) * 1024 + 1 * j.val = 2048 + j.val; omega

theorem blkM (t : Fin cfg0.N) (r : Fin 256) (R : Fin 8192) (hR : R.val = 256 * (grid0.coords t 0).val + r.val) (q : Fin 6) (j : Fin 1024) :
    iblk m c 8 t (ix3 (0 : Fin 1) q j) = V m c main_arg6 (ix3 (tile R) q j) := by
  obtain ⟨e0, e1, e2⟩ := (idx t).2.2.2.2.2.2.2.2.1
  refine congrArg (V m c main_arg6) (funext fun a => Fin.ext ?_)
  match a with
  | ⟨0, _⟩ => show win0_8.index t (0 : Fin 3) * 1 + 1 * 0 = R.val / 256; omega
  | ⟨1, _⟩ => show win0_8.index t (1 : Fin 3) * 6 + 1 * q.val = q.val; omega
  | ⟨2, _⟩ => show win0_8.index t (2 : Fin 3) * 1024 + 1 * j.val = j.val; omega

theorem blkN (t : Fin cfg0.N) (q : Fin 4) (j : Fin 1024) : iblk m c 9 t (ix2 q j) = V m c main_arg7 (ix2 q j) := by
  obtain ⟨e0, e1⟩ := (idx t).2.2.2.2.2.2.2.2.2.1
  refine congrArg (V m c main_arg7) (funext fun a => Fin.ext ?_)
  match a with
  | ⟨0, _⟩ => show win0_9.index t (0 : Fin 2) * 4 + 1 * q.val = q.val; omega
  | ⟨1, _⟩ => show win0_9.index t (1 : Fin 2) * 1024 + 1 * j.val = j.val; omega

theorem blk10 (t : Fin cfg0.N) : iblk m c 10 t = V m c main_arg8 := by
  obtain ⟨e0, e1⟩ := (idx t).2.2.2.2.2.2.2.2.2.2.1
  refine funext fun y => congrArg (V m c main_arg8) (funext fun a => Fin.ext ?_)
  match a with
  | ⟨0, _⟩ => show win0_10.index t (0 : Fin 2) * 1024 + 1 * (y 0).val = (y 0).val; omega
  | ⟨1, _⟩ => show win0_10.index t (1 : Fin 2) * 1024 + 1 * (y 1).val = (y 1).val; omega

theorem blk11 (t : Fin cfg0.N) : iblk m c 11 t = V m c main_arg9 := by
  obtain ⟨e0, e1⟩ := (idx t).2.2.2.2.2.2.2.2.2.2.2.1
  refine funext fun y => congrArg (V m c main_arg9) (funext fun a => Fin.ext ?_)
  match a with
  | ⟨0, _⟩ => show win0_11.index t (0 : Fin 2) * 1024 + 1 * (y 0).val = (y 0).val; omega
  | ⟨1, _⟩ => show win0_11.index t (1 : Fin 2) * 1024 + 1 * (y 1).val = (y 1).val; omega

theorem blk12 (t : Fin cfg0.N) : iblk m c 12 t = V m c main_arg10 := by
  obtain ⟨e0, e1⟩ := (idx t).2.2.2.2.2.2.2.2.2.2.2.2.1
  refine funext fun y => congrArg (V m c main_arg10) (funext fun a => Fin.ext ?_)
  match a with
  | ⟨0, _⟩ => show win0_12.index t (0 : Fin 2) * 1024 + 1 * (y 0).val = (y 0).val; omega
  | ⟨1, _⟩ => show win0_12.index t (1 : Fin 2) * 1024 + 1 * (y 1).val = (y 1).val; omega

/-! ## The results after the run -/

/-- The two results at row `R`, from the argument arrays at the region's entry. -/
abbrev xvalV (R : Fin 8192) : Fin 1024 → EReal :=
  xval (V m c main_arg0) (V m c main_arg1) (V m c main_arg2) (V m c main_arg3) (V m c main_arg4) (V m c main_arg5) (V m c main_arg6) (V m c main_arg7)
    (V m c main_arg8) (V m c main_arg9) (V m c main_arg10) R
abbrev hvalV (R : Fin 8192) : Fin 1024 → EReal :=
  hval (V m c main_arg0) (V m c main_arg1) (V m c main_arg2) (V m c main_arg3) (V m c main_arg4) (V m c main_arg5) (V m c main_arg6) (V m c main_arg7)
    (V m c main_arg8) (V m c main_arg9) (V m c main_arg10) R

theorem xblk_at (t : Fin cfg0.N) (r : Fin 256) (R : Fin 8192) (hR : R.val = 256 * (grid0.coords t 0).val + r.val) :
    xblk (grid0.coords t) (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) r = xvalV m c R := by
  unfold xblk xvalV xval yval
  rw [funext (blkA m c t r R hR), funext (blkB m c t r R hR), funext (blkX m c t r R hR), funext (blkGA m c t r R hR), funext (blkGB m c t r R hR), blk10, blk11, blk12,
    funext (blkM m c t r R hR 2), funext (blkN m c t 1)]

theorem emb14 (t : Fin cfg0.N) (r : Fin 256) (R : Fin 8192) (hR : R.val = 256 * (grid0.coords t 0).val + r.val) (d : Fin 1024) : ((cfg0.win 14).blk t).view.emb (ix2 r d) = ix2 R d := by
  obtain ⟨e0, e1⟩ := (idx t).2.2.2.2.2.2.2.2.2.2.2.2.2.1
  funext a
  apply Fin.ext
  match a with
  | ⟨0, _⟩ => show win0_14.index t (0 : Fin 2) * 256 + 1 * r.val = R.val; omega
  | ⟨1, _⟩ => show win0_14.index t (1 : Fin 2) * 1024 + 1 * d.val = d.val; omega

theorem emb15 (t : Fin cfg0.N) (r : Fin 256) (R : Fin 8192) (hR : R.val = 256 * (grid0.coords t 0).val + r.val) (d : Fin 1024) : ((cfg0.win 15).blk t).view.emb (ix2 r d) = ix2 R d := by
  obtain ⟨e0, e1⟩ := (idx t).2.2.2.2.2.2.2.2.2.2.2.2.2.2
  funext a
  apply Fin.ext
  match a with
  | ⟨0, _⟩ => show win0_15.index t (0 : Fin 2) * 256 + 1 * r.val = R.val; omega
  | ⟨1, _⟩ => show win0_15.index t (1 : Fin 2) * 1024 + 1 * d.val = d.val; omega

theorem at_point : ∀ i : Fin 32, ∃ t : Fin cfg0.N, (grid0.coords t 0).val = i.val :=
  (by decide +kernel : ∀ i : Fin 32, ∃ t : Fin grid0.N, _)

theorem x_final (R : Fin 8192) (d : Fin 1024) : (dats m 0 c).arrAt 14 cfg0.N (ix2 R d) = xvalV m c R d := by
  obtain ⟨t, ht⟩ := at_point ⟨R.val / 256, by omega⟩
  have hR : R.val = 256 * (grid0.coords t 0).val + (⟨R.val % 256, by omega⟩ : Fin 256).val := by rw [ht]; show R.val = 256 * (R.val / 256) + R.val % 256; omega
  rw [← emb14 t _ R hR d]
  refine (congrFun (blocks14 m c t (flush0_14 _)) (ix2 _ d)).trans ?_
  rw [flushed14]
  refine (out14_at _ _ _ _ _ _ _ _ _ _ _ _ _ _ _ _ d).trans ?_
  rw [xblk_at m c t _ R hR]

theorem h_final (R : Fin 8192) (d : Fin 1024) : (dats m 0 c).arrAt 15 cfg0.N (ix2 R d) = hvalV m c R d := by
  obtain ⟨t, ht⟩ := at_point ⟨R.val / 256, by omega⟩
  have hR : R.val = 256 * (grid0.coords t 0).val + (⟨R.val % 256, by omega⟩ : Fin 256).val := by rw [ht]; show R.val = 256 * (R.val / 256) + R.val % 256; omega
  rw [← emb15 t _ R hR d]
  refine (congrFun (blocks15 m c t (flush0_15 _)) (ix2 _ d)).trans ?_
  rw [flushed15]
  refine (out15_at _ _ _ _ _ _ _ _ _ _ _ _ _ _ _ _ d).trans ?_
  rw [xblk_at m c t _ R hR, funext (blkM m c t _ R hR 3), funext (blkM m c t _ R hR 4), funext (blkN m c t 2)]
  rfl

end Cert.RouteValue

end
-- ==== Proof.RouteRef.lean ====
/- The routed mixing's reference over the extended reals: both its results are the specification's, at every place. -/
module

public import proofs.«01_k».proof.Proof.RouteValue
public import proofs.«01_k».proof.Proof.MixRef
public import proofs.«01_k».proof.Proof.Gen.MixRouteRefIdeal.Run
public import proofs.«01_k».proof.Proof.Gen.MixRouteRefIdeal.Read

@[expose] public section

set_option maxRecDepth 16384

noncomputable section

namespace Cert.RouteRef

open Cert.MixRouteRefIdeal Cert.MixRouteRefIdeal.Read Idealize.ShloMosaic Cert.RouteValue
open Cert.MixValue (both branch merge)
open Cert.FfnValue (scale tile)

variable (x0 x1 x2 x3 : FVec Ideal S4096x1024 .bf16) (x4 : FVec Ideal S8192x7168 .bf16) (x5 : FVec Ideal S8192x1024 .f32)
  (x6 : FVec Ideal S32x6x1024 .f32) (x7 : FVec Ideal S4x1024 .f32) (x8 x9 x10 : FVec Ideal S1024x1024 .bf16) (R : Fin 8192) (d : Fin 1024)

theorem a_at : val_main_v7 (F := Ideal) x0 x1 x8 (ix2 R d) = branch (both x0 x1 R) x8 d := by
  rw [val_main_v7_apply]
  refine Finset.sum_congr rfl fun k _ => ?_
  have el : lidx_main_v7 (ix2 R d) k = ix2 R k := funext fun a => Fin.ext (match a with | ⟨0, _⟩ => rfl | ⟨1, _⟩ => rfl)
  have er : ridx_main_v7 (ix2 R d) k = ix2 k d := funext fun a => Fin.ext (match a with | ⟨0, _⟩ => rfl | ⟨1, _⟩ => rfl)
  rw [el, er]
  exact congrArg (· * x8 (ix2 k d)) (Cert.MixRef.both_at R k x0 x1 Cert.MixRouteRefIdeal.Gen.facts.concatenates_S4096x1024_S4096x1024_S8192x1024_d0)

theorem b_at : val_main_v11 (F := Ideal) x2 x3 x9 (ix2 R d) = branch (both x2 x3 R) x9 d := by
  rw [val_main_v11_apply]
  refine Finset.sum_congr rfl fun k _ => ?_
  have el : lidx_main_v11 (ix2 R d) k = ix2 R k := funext fun a => Fin.ext (match a with | ⟨0, _⟩ => rfl | ⟨1, _⟩ => rfl)
  have er : ridx_main_v11 (ix2 R d) k = ix2 k d := funext fun a => Fin.ext (match a with | ⟨0, _⟩ => rfl | ⟨1, _⟩ => rfl)
  rw [el, er]
  exact congrArg (· * x9 (ix2 k d)) (Cert.MixRef.both_at R k x2 x3 Cert.MixRouteRefIdeal.Gen.facts.concatenates_S4096x1024_S4096x1024_S8192x1024_d0)

theorem ga_at : val_main_v17 (F := Ideal) x4 (ix2 R d) = Ideal.logistic (x4 (ix2 R (⟨1024 + d.val, by omega⟩ : Fin 7168))) := by
  have e : val_main_v1 (F := Ideal) x4 (ix2 R d) = x4 (ix2 R (⟨1024 + d.val, by omega⟩ : Fin 7168)) := by
    rw [val_main_v1_apply, val_main_v0_apply]
    refine congrArg x4 (funext fun a => Fin.ext ?_)
    match a with
    | ⟨0, _⟩ => rfl
    | ⟨1, _⟩ => rfl
  rw [val_main_v17_apply, val_main_v16_apply, val_main_v15_apply, val_main_v14_apply, val_main_v13_apply, val_main_v12_apply, val_main_cst_apply, val_main_cst_0_apply, e]
  exact Cert.MixRef.logistic_of _

theorem gb_at : val_main_v24 (F := Ideal) x4 (ix2 R d) = Ideal.logistic (x4 (ix2 R (⟨2048 + d.val, by omega⟩ : Fin 7168))) := by
  have e : val_main_v3 (F := Ideal) x4 (ix2 R d) = x4 (ix2 R (⟨2048 + d.val, by omega⟩ : Fin 7168)) := by
    rw [val_main_v3_apply, val_main_v2_apply]
    refine congrArg x4 (funext fun a => Fin.ext ?_)
    match a with
    | ⟨0, _⟩ => rfl
    | ⟨1, _⟩ => rfl
  rw [val_main_v24_apply, val_main_v23_apply, val_main_v22_apply, val_main_v21_apply, val_main_v20_apply, val_main_v19_apply, val_main_cst_1_apply, val_main_cst_2_apply, e]
  exact Cert.MixRef.logistic_of _

theorem y_at : val_main_v28 (F := Ideal) x0 x1 x2 x3 x4 x8 x9 x10 (ix2 R d) = yval x0 x1 x2 x3 x4 x8 x9 x10 R d := by
  unfold yval merge
  rw [val_main_v28_apply]
  refine Finset.sum_congr rfl fun k _ => ?_
  have el : lidx_main_v28 (ix2 R d) k = ix2 R k := funext fun a => Fin.ext (match a with | ⟨0, _⟩ => rfl | ⟨1, _⟩ => rfl)
  have er : ridx_main_v28 (ix2 R d) k = ix2 k d := funext fun a => Fin.ext (match a with | ⟨0, _⟩ => rfl | ⟨1, _⟩ => rfl)
  rw [el, er, val_main_v26_apply, val_main_v18_apply, val_main_v25_apply, ga_at, gb_at, a_at, b_at]
  rfl

theorem gate_at : val_main_v33 (F := Ideal) x6 (ix2 R d) = x6 (ix3 (tile R) (2 : Fin 6) d) := by
  rw [val_main_v33_apply, val_main_v32_apply, val_main_v31_apply, val_main_v30_apply, val_main_v29_apply]
  have hd := d.isLt
  refine congrArg x6 (funext fun a => Fin.ext ?_)
  match a with
  | ⟨0, _⟩ => show ((R.val * 1024 + d.val) / 262144 * 1024 + (R.val * 1024 + d.val) % 1024) / 1024 = R.val / 256; omega
  | ⟨1, _⟩ => rfl
  | ⟨2, _⟩ => show ((R.val * 1024 + d.val) / 262144 * 1024 + (R.val * 1024 + d.val) % 1024) % 1024 = d.val; omega

theorem mul_at : val_main_v70 (F := Ideal) x6 (ix2 R d) = x6 (ix3 (tile R) (4 : Fin 6) d) := by
  rw [val_main_v70_apply, val_main_v69_apply, val_main_v68_apply, val_main_v67_apply, val_main_v66_apply]
  have hd := d.isLt
  refine congrArg x6 (funext fun a => Fin.ext ?_)
  match a with
  | ⟨0, _⟩ => show ((R.val * 1024 + d.val) / 262144 * 1024 + (R.val * 1024 + d.val) % 1024) / 1024 = R.val / 256; omega
  | ⟨1, _⟩ => rfl
  | ⟨2, _⟩ => show ((R.val * 1024 + d.val) / 262144 * 1024 + (R.val * 1024 + d.val) % 1024) % 1024 = d.val; omega

theorem add_at : val_main_v78 (F := Ideal) x6 (ix2 R d) = x6 (ix3 (tile R) (3 : Fin 6) d) := by
  rw [val_main_v78_apply, val_main_v77_apply, val_main_v76_apply, val_main_v75_apply, val_main_v74_apply]
  have hd := d.isLt
  refine congrArg x6 (funext fun a => Fin.ext ?_)
  match a with
  | ⟨0, _⟩ => show ((R.val * 1024 + d.val) / 262144 * 1024 + (R.val * 1024 + d.val) % 1024) / 1024 = R.val / 256; omega
  | ⟨1, _⟩ => rfl
  | ⟨2, _⟩ => show ((R.val * 1024 + d.val) / 262144 * 1024 + (R.val * 1024 + d.val) % 1024) % 1024 = d.val; omega

theorem gain1_at : val_main_v47 (F := Ideal) x7 (ix2 R d) = x7 (ix2 (1 : Fin 4) d) := by
  rw [val_main_v47_apply, val_main_v46_apply, val_main_v35_apply, val_main_v34_apply]
  refine congrArg x7 (funext fun a => Fin.ext ?_)
  match a with
  | ⟨0, _⟩ => rfl
  | ⟨1, _⟩ => exact Nat.mod_eq_of_lt d.isLt

theorem gain2_at : val_main_v64 (F := Ideal) x7 (ix2 R d) = x7 (ix2 (2 : Fin 4) d) := by
  rw [val_main_v64_apply, val_main_v63_apply, val_main_v52_apply, val_main_v51_apply]
  refine congrArg x7 (funext fun a => Fin.ext ?_)
  match a with
  | ⟨0, _⟩ => rfl
  | ⟨1, _⟩ => exact Nat.mod_eq_of_lt d.isLt

theorem scale_y : val_main_v44 (F := Ideal) x0 x1 x2 x3 x4 x8 x9 x10 (ix2 R d) = scale (yval x0 x1 x2 x3 x4 x8 x9 x10 R) := by
  have z : (val_main_cst_3 (F := Ideal)) (Shape.Idx.first Cert.MixRouteRefIdeal.Gen.facts.h_S_) = (0 : EReal) := Ideal.ofBits_zero .f32
  have s : val_main_v37 (F := Ideal) x0 x1 x2 x3 x4 x8 x9 x10 (ix1 R) = ∑ j : Fin 1024, yval x0 x1 x2 x3 x4 x8 x9 x10 R j * yval x0 x1 x2 x3 x4 x8 x9 x10 R j := by
    rw [val_main_v37_apply]
    refine (congr (congrArg HAdd.hAdd z) (Finset.sum_congr rfl fun j _ => ?_)).trans (zero_add _)
    have e : idx_main_v37 (ix1 R) j = ix2 R j := funext fun a => Fin.ext (match a with | ⟨0, _⟩ => rfl | ⟨1, _⟩ => rfl)
    rw [e, val_main_v36_apply, y_at]
    rfl
  rw [val_main_v44_apply, val_main_v43_apply, val_main_v42_apply, val_main_v40_apply, val_main_v41_apply, val_main_v39_apply, val_main_v38_apply, val_main_cst_4_apply, val_main_cst_5_apply]
  have e : idx_main_v38 (idx_main_v44 (ix2 R d)) = ix1 R := funext fun a => Fin.ext (match a with | ⟨0, _⟩ => rfl)
  rw [e, s]
  rfl

theorem x_at : val_main_v50 (F := Ideal) x0 x1 x2 x3 x4 x5 x6 x7 x8 x9 x10 (ix2 R d) = xval x0 x1 x2 x3 x4 x5 x6 x7 x8 x9 x10 R d := by
  rw [val_main_v50_apply, val_main_v49_apply, val_main_v48_apply, val_main_v45_apply, gate_at, gain1_at, scale_y, y_at]
  rfl

theorem scale_x : val_main_v61 (F := Ideal) x0 x1 x2 x3 x4 x5 x6 x7 x8 x9 x10 (ix2 R d) = scale (xval x0 x1 x2 x3 x4 x5 x6 x7 x8 x9 x10 R) := by
  have z : (val_main_cst_6 (F := Ideal)) (Shape.Idx.first Cert.MixRouteRefIdeal.Gen.facts.h_S_) = (0 : EReal) := Ideal.ofBits_zero .f32
  have s : val_main_v54 (F := Ideal) x0 x1 x2 x3 x4 x5 x6 x7 x8 x9 x10 (ix1 R) = ∑ j : Fin 1024, xval x0 x1 x2 x3 x4 x5 x6 x7 x8 x9 x10 R j * xval x0 x1 x2 x3 x4 x5 x6 x7 x8 x9 x10 R j := by
    rw [val_main_v54_apply]
    refine (congr (congrArg HAdd.hAdd z) (Finset.sum_congr rfl fun j _ => ?_)).trans (zero_add _)
    have e : idx_main_v54 (ix1 R) j = ix2 R j := funext fun a => Fin.ext (match a with | ⟨0, _⟩ => rfl | ⟨1, _⟩ => rfl)
    rw [e, val_main_v53_apply, x_at]
    rfl
  rw [val_main_v61_apply, val_main_v60_apply, val_main_v59_apply, val_main_v57_apply, val_main_v58_apply, val_main_v56_apply, val_main_v55_apply, val_main_cst_7_apply, val_main_cst_8_apply]
  have e : idx_main_v55 (idx_main_v61 (ix2 R d)) = ix1 R := funext fun a => Fin.ext (match a with | ⟨0, _⟩ => rfl)
  rw [e, s]
  rfl

theorem h_at : val_main_v79 (F := Ideal) x0 x1 x2 x3 x4 x5 x6 x7 x8 x9 x10 (ix2 R d) = hval x0 x1 x2 x3 x4 x5 x6 x7 x8 x9 x10 R d := by
  rw [val_main_v79_apply, val_main_v73_apply, val_main_v65_apply, val_main_v62_apply, val_main_v72_apply, val_main_v71_apply, val_main_cst_9_apply,
    add_at, mul_at, gain2_at, scale_x, x_at]
  rfl

end Cert.RouteRef

end
-- ==== Proof.RouteClaim.lean ====
/- The mixing with the router: the residual rows and the normalised rows it stores are the reference's. -/
module

public import proofs.«01_k».proof.Defs
public import proofs.«01_k».proof.Proof.RouteRef

@[expose] public section

set_option maxRecDepth 16384

noncomputable section

namespace Cert.RouteClaim

open Cert.MixRouteIdeal Cert.MixRouteIdeal.Gen Cert.MixRouteIdeal.Value Cert.RouteValue Idealize.ShloMosaic Idealize.ShloMosaic.TcCoe Idealize.SL.Sem

theorem algebraic [hk : Cert.MixRouteIdeal.Facts] [hr : Cert.MixRouteRefIdeal.Facts] : Cert.algebraic_MixRouteIdeal_MixRouteRefIdeal := by
  intro m g m' g' hpre hargs
  refine ⟨fun c => Cert.MixRouteRefIdeal.Read.val_main_v50 (F := Ideal) (V m c main_arg0) (V m c main_arg1) (V m c main_arg2) (V m c main_arg3) (V m c main_arg4) (V m c main_arg5) (V m c main_arg6) (V m c main_arg7) (V m c main_arg8) (V m c main_arg9) (V m c main_arg10),
    fun c => Cert.MixRouteRefIdeal.Read.val_main_v79 (F := Ideal) (V m c main_arg0) (V m c main_arg1) (V m c main_arg2) (V m c main_arg3) (V m c main_arg4) (V m c main_arg5) (V m c main_arg6) (V m c main_arg7) (V m c main_arg8) (V m c main_arg9) (V m c main_arg10), ?_, ?_⟩
  · refine (θ_run _ _ _).mono (fun s hs c => ⟨(hs c).1.trans (funext fun y => ?_), (hs c).2.1.trans (funext fun y => ?_), (hs c).2.2.2⟩) (Cert.MixRouteIdeal.Value.run_blocks m g)
    · obtain ⟨R, d, rfl⟩ : ∃ (R : Fin 8192) (d : Fin 1024), y = ix2 R d := ⟨y 0, y 1, (ix2_eta y).symm⟩
      exact (x_final m c R d).trans (Cert.RouteRef.x_at _ _ _ _ _ _ _ _ _ _ _ R d).symm
    · obtain ⟨R, d, rfl⟩ : ∃ (R : Fin 8192) (d : Fin 1024), y = ix2 R d := ⟨y 0, y 1, (ix2_eta y).symm⟩
      exact (h_final m c R d).trans (Cert.RouteRef.h_at _ _ _ _ _ _ _ _ _ _ _ R d).symm
  · refine (θ_run _ _ _).mono (fun s hs c => ⟨(hs c).1.trans ?_, (hs c).2.1.trans ?_, (hs c).2.2⟩) (Cert.MixRouteRefIdeal.Value.run m' g')
    all_goals obtain ⟨e0, e1, e2, e3, e4, e5, e6, e7, e8, e9, e10, e11⟩ := hargs c
    · rw [Cert.MixRouteRefIdeal.Read.val_main_v50_eq, e0, e1, e2, e3, e4, e5, e6, e7, e8, e9, e10]
    · rw [Cert.MixRouteRefIdeal.Read.val_main_v79_eq, e0, e1, e2, e3, e4, e5, e6, e7, e8, e9, e10]

end Cert.RouteClaim

end
-- ==== Proof.SideBody.lean ====
/-
  The side projection's kernel body, run once for both outcomes of its condition. It is stated on any staging memrefs:
  the projection's block is stored at every point, the blocks of keys and values only on a context tile, and elsewhere
  those two are left as they were found.
-/
module

public import proofs.«01_k».proof.Proof.Gen.SideIdeal.Launch
public import proofs.«01_k».proof.Proof.Gen.SideIdeal.Skeleton
public import Idealize.ShloMosaic.Lib.Pipeline.FrameBody
public import Idealize.ShloMosaic.Lib.Pipeline.Value
public import Idealize.ShloMosaic.Lib.Tactic
public import Idealize.ShloMosaic.Lib.WritesUnit

@[expose] public section

set_option maxRecDepth 16384

noncomputable section

namespace Cert.SideIdeal.Hand

open Cert.SideIdeal Cert.SideIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MT nD τ sig Unit (Elt F) ℕ (UR sig nD τ) ℕ

/-- What the body leaves in a block that it stores only on a context tile: `w` there, what it found elsewhere. -/
def Post (i : grid0.Coords) (w y y' : Vec F S4x256x2x128 .f32) : Prop :=
  (k0_cond1 i = 1#1 → y' = w) ∧ (¬ k0_cond1 i = 1#1 → y' = y)

theorem zero2 : (![0, 0] : Fin 2 → ℕ) = fun _ => 0 := by decide
theorem zero4 : (![0, 0, 0, 0] : Fin 4 → ℕ) = fun _ => 0 := by decide

/-- A load of a whole buffer reads the block it holds. -/
theorem readAt_all {S : Shape} {e : EltTy} (M : Memref sig .tc .vmem S e) (hM : M.IsWhole) (X : Vec F S e) {off : Fin S.rank → ℕ} (h : off = fun _ => 0)
    (inb : ∀ a, off a + S.size a ≤ S.size a) :
    View.readAt (Elt F) M.view (Rect.unit off S.size inb).toLoadRect (hM.unread X) = X := by
  rw [View.readAt_eq_ld, hM.read_unread]; exact View.ld_unit_zero h inb X

/-- A buffer holds what a store over all of it put there. -/
theorem read_all {κ : Kind} {sp : Space} {S : Shape} {e : EltTy} (v : View sig κ sp S e) (f : v.ty.Contents (Elt F)) {off : Fin S.rank → ℕ} (h : off = fun _ => 0)
    (inb : ∀ a, off a + S.size a ≤ S.size a) (w : Vec F S e) :
    v.read (Elt F) (v.writes (Elt F) f [⟨Rect.unit off S.size inb, w⟩]) = w :=
  funext fun y => View.read_writes_cons_unit_of_mem v f inb w [] y y h fun a => (Nat.zero_add _).symm

set_option maxHeartbeats 4000000 in
theorem run (c : Dev nD) (i : grid0.Coords) (arg1 : Memref sig .tc .vmem S1024x1024 .bf16) (harg1 : arg1.IsWhole) (arg2 : Memref sig .tc .vmem S1024x1024 .bf16) (harg2 : arg2.IsWhole)
    (arg3 : Memref sig .tc .vmem S1024x1024 .f32) (harg3 : arg3.IsWhole) (arg4 : Memref sig .tc .vmem S4x256x2x128 .f32) (harg4 : arg4.IsWhole) (arg5 : Memref sig .tc .vmem S4x256x2x128 .f32) (harg5 : arg5.IsWhole)
    (x0 x1 : Vec F S1024x1024 .bf16) (x : Vec F S1024x1024 .f32) (y z : Vec F S4x256x2x128 .f32)
    (K : PUnit → sProp 𝕄) :
    iprop(owns (c : Thread nD τ) arg1 fullShare x0 ∗ owns (c : Thread nD τ) arg2 fullShare x1
        ∗ owns (c : Thread nD τ) arg3 fullShare x ∗ owns (c : Thread nD τ) arg4 fullShare y ∗ owns (c : Thread nD τ) arg5 fullShare z
        ∗ (iprop(owns (c : Thread nD τ) arg1 fullShare x0 ∗ owns (c : Thread nD τ) arg2 fullShare x1
            ∗ owns (c : Thread nD τ) arg3 fullShare (k0_pay1 x0 x1)
            ∗ (∃ y', ⌜Post i (k0_pay2 x0 x1) y y'⌝ ∗ owns (c : Thread nD τ) arg4 fullShare y') ∗ (∃ z', ⌜Post i (k0_pay3 x0 x1) z z'⌝ ∗ owns (c : Thread nD τ) arg5 fullShare z')) -∗ K ⟨⟩))
      ⊢ wp frame (wpE (defs₀ (F := F)) Variants.none c none) Set.univ (cc0_side_proj i arg1 harg1 arg2 harg2 arg3 harg3 arg4 harg4 arg5 harg5) K := by
  simp only [cc0_side_proj_eq_skeleton]; unfold cc0_side_proj_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2; obtain rfl := harg4.eq_unread hf3
  obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    unfold run.sl.H2_1
    rw [readAt_all arg1 harg1 x0 zero2, readAt_all arg2 harg2 x1 zero2]
    exact read_all _ _ zero2 _ _
  isplitl [H3]
  · iexists _; isplitr; swap
    · iexists _; isplitr; swap; · iexact H3
      ipureintro; rfl
    ipureintro
    refine ⟨fun h1 => ?_, fun h1 => ?_⟩
    · rw [dif_pos h1, readAt_all arg1 harg1 x0 zero2, readAt_all arg2 harg2 x1 zero2]
      exact read_all _ _ zero4 _ _
    · rw [dif_neg h1]
      exact harg4.read_unread _
  iexists _; isplitr; swap
  · iexists _; isplitr; swap; · iexact H4
    ipureintro; rfl
  ipureintro
  refine ⟨fun h1 => ?_, fun h1 => ?_⟩
  · rw [dif_pos h1, readAt_all arg1 harg1 x0 zero2, readAt_all arg2 harg2 x1 zero2]
    exact read_all _ _ zero4 _ _
  · rw [dif_neg h1]
    exact harg5.read_unread _

end Cert.SideIdeal.Hand

end
-- ==== Proof.SideRun.lean ====
/-
  The side projection, run: the pipeline's proof data (the inputs exact, the three results' blocks held to predicates),
  the body obligation, the launch, and the frame. Past the context tiles the blocks of keys and values stay what the last
  context tile left, and are written back once more at the grid's end.
-/
module

public import proofs.«01_k».proof.Proof.SideBody
public import proofs.«01_k».proof.Proof.Gen.SideIdeal.Points
public import Idealize.ShloMosaic.Lib.Pipeline.DatRel
public import Idealize.ShloMosaic.Lib.Pipeline.ArrRel
public import Idealize.ShloMosaic.Lib.Pipeline.Frame
public import Idealize.ShloMosaic.Lib.Claim

@[expose] public section

set_option maxRecDepth 16384

noncomputable section

namespace Cert.SideIdeal.Hand

open Cert.SideIdeal Cert.SideIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array at the region's entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the points leave -/

/-- The last context tile up to point `t`. -/
def cap (t : Fin grid0.N) : Fin grid0.N := ⟨min t.val 3, lt_of_le_of_lt (min_le_left _ _) t.isLt⟩

theorem cap_of_lt (t : Fin grid0.N) (h : t.val < 4) : cap t = t := Fin.ext (min_eq_left (by omega))
theorem cap_pred (t : Fin grid0.N) (h : ¬ t.val < 4) : cap ⟨t.val - 1, lt_of_le_of_lt (Nat.sub_le _ _) t.isLt⟩ = cap t :=
  Fin.ext ((min_eq_right (by show 3 ≤ t.val - 1; omega)).trans (min_eq_right (by omega)).symm)

/-- What the three results' blocks hold after point `t`. -/
def LeftR (c : Dev nD) (t : Fin grid0.N) (X : Vec F S1024x1024 .f32) : Prop := X = k0_pay1 (iblk m c 0 t) (iblk m c 1 t)
def LeftK (c : Dev nD) (t : Fin grid0.N) (X : Vec F S4x256x2x128 .f32) : Prop := X = k0_pay2 (iblk m c 0 (cap t)) (iblk m c 1 (cap t))
def LeftV (c : Dev nD) (t : Fin grid0.N) (X : Vec F S4x256x2x128 .f32) : Prop := X = k0_pay3 (iblk m c 0 (cap t)) (iblk m c 1 (cap t))

/-- A point is on a context tile when it is one of the first four. -/
theorem cond_iff : ∀ t : Fin grid0.N, k0_cond1 (grid0.coords t) = 1#1 ↔ t.val < 4 := by decide +kernel

/-- The blocks of keys and values are written back at the first three points and the last. -/
theorem flush0_3 : ∀ t : Fin cfg0.N, (cfg0.win 3).flush t = true ↔ t.val < 3 ∨ t.val = 7 :=
  (by decide +kernel : ∀ t : Fin grid0.N, win0_3.flush t = true ↔ t.val < 3 ∨ t.val = 7)
theorem flush0_4 : ∀ t : Fin cfg0.N, (cfg0.win 4).flush t = true ↔ t.val < 3 ∨ t.val = 7 :=
  (by decide +kernel : ∀ t : Fin grid0.N, win0_4.flush t = true ↔ t.val < 3 ∨ t.val = 7)

/-! ## The proof data -/

/-- The results' windows are held to `LeftR`, `LeftK` and `LeftV`; the inputs' are exact. -/
def marked : Fin 5 → Bool := fun w => match w with | ⟨0, _⟩ => false | ⟨1, _⟩ => false | ⟨2, _⟩ => true | ⟨3, _⟩ => true | ⟨4, _⟩ => true

def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ _ := Pipeline.ΦA spec0 c
  q _ := fullShare
  owed _ := 0

def rel (c : Dev nD) : (w : Fin cfg0.W) → Fin cfg0.N → ((cfg0.win w).block.Idx → Elt F (cfg0.win w).elt) → Prop := fun w t X => match w with
  | ⟨0, _⟩ => True
  | ⟨1, _⟩ => True
  | ⟨2, _⟩ => LeftR m c t X
  | ⟨3, _⟩ => LeftK m c t X
  | ⟨4, _⟩ => LeftV m c t X

abbrev rdat (c : Dev nD) : RDat τ (Elt F) Unit ℕ (UR sig nD τ) ℕ cfg0 c := (dat m c).toRRel marked (rel m c)

theorem A_eq (c : Dev nD) (w : Fin cfg0.W) : (dat m c).A w = V m c (Pipeline.arrRef spec0 w) := by
  dsimp only [dat]

theorem after0 (c : Dev nD) (t : Fin cfg0.N) : (dat m c).after 0 t = iblk m c 0 t := by dsimp only [dat]; try rfl
theorem after1 (c : Dev nD) (t : Fin cfg0.N) : (dat m c).after 1 t = iblk m c 1 t := by dsimp only [dat]; try rfl

/-- Each input's current staging buffer holds its block at every point, fetched there or not. -/
theorem before0 (c : Dev nD) (t : Fin cfg0.N) (d) : (dat m c).before 0 t d = iblk m c 0 t :=
  ((dat m c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat m c).before 1 t d = iblk m c 1 t :=
  ((dat m c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The blocks of keys and values, point by point -/

theorem left_k (c : Dev nD) (t : Fin cfg0.N) (y y' : Vec F S4x256x2x128 .f32) (hY : (rdat m c).Finds 3 t y)
    (hP : Post (grid0.coords t) (k0_pay2 (iblk m c 0 t) (iblk m c 1 t)) y y') : LeftK m c t y' := by
  by_cases h : t.val < 4
  · unfold LeftK; rw [cap_of_lt t h]; exact hP.1 ((cond_iff t).2 h)
  · rw [hP.2 fun e => h ((cond_iff t).1 e)]
    rw [(rdat m c).finds_of_pos rfl (by omega)] at hY
    have hl := (dat m c).toRRel_leaves (fgt := marked) (Rl := rel m c) rfl
      (hY.resolve_left fun e => by have := (flush0_3 _).1 e; have h8 : t.val < 8 := t.isLt; dsimp only at this; omega)
    have hl : LeftK m c _ y := hl
    unfold LeftK at hl ⊢; rwa [cap_pred t h] at hl

theorem left_v (c : Dev nD) (t : Fin cfg0.N) (y y' : Vec F S4x256x2x128 .f32) (hY : (rdat m c).Finds 4 t y)
    (hP : Post (grid0.coords t) (k0_pay3 (iblk m c 0 t) (iblk m c 1 t)) y y') : LeftV m c t y' := by
  by_cases h : t.val < 4
  · unfold LeftV; rw [cap_of_lt t h]; exact hP.1 ((cond_iff t).2 h)
  · rw [hP.2 fun e => h ((cond_iff t).1 e)]
    rw [(rdat m c).finds_of_pos rfl (by omega)] at hY
    have hl := (dat m c).toRRel_leaves (fgt := marked) (Rl := rel m c) rfl
      (hY.resolve_left fun e => by have := (flush0_4 _).1 e; have h8 : t.val < 8 := t.isLt; dsimp only at this; omega)
    have hl : LeftV m c _ y := hl
    unfold LeftV at hl ⊢; rwa [cap_pred t h] at hl

/-! ## The body obligation -/

theorem row (t : Fin cfg0.N) : defs₀ (F := F) .tc cfg0.body (cfg0.bodyArgs t (cfg0.slots t)) = bodyAt0 t := by
  unfold defs₀; rw [Defs.onTc_tc]

def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ Y, ⌜(rdat m c).Finds 2 t Y⌝ ∗ owns (c : Thread nD τ) (st0_2 t) fullShare Y)
    ∗ (∃ Y, ⌜(rdat m c).Finds 3 t Y⌝ ∗ owns (c : Thread nD τ) (st0_3 t) fullShare Y)
    ∗ (∃ Y, ⌜(rdat m c).Finds 4 t Y⌝ ∗ owns (c : Thread nD τ) (st0_4 t) fullShare Y))

def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ (∃ X, ⌜rel m c 2 t X⌝ ∗ owns (c : Thread nD τ) (st0_2 t) fullShare X)
    ∗ (∃ X, ⌜rel m c 3 t X⌝ ∗ owns (c : Thread nD τ) (st0_3 t) fullShare X)
    ∗ (∃ X, ⌜rel m c 4 t X⌝ ∗ owns (c : Thread nD τ) (st0_4 t) fullShare X))

theorem sound (c : Dev nD) (t : Fin cfg0.N) :
    bodyPre m c t ⊢ wp frame (wpE (defs₀ (F := F)) Variants.none c none) Set.univ (bodyAt0 t) (fun _ => bodyPost m c t) := by
  unfold bodyPre bodyPost
  simp only [before0, before1]
  rw [after0, after1, show (dat m c).owesAt () t.succ = (dat m c).owesAt () t.castSucc from rfl,
    show (dat m c).Φ t.succ = (dat m c).Φ t.castSucc from rfl]
  iintro ⟨HP, Ho, ⟨%d0, H0⟩, ⟨%d1, H1⟩, ⟨%x, -, H2⟩, ⟨%y, %hy, H3⟩, ⟨%z, %hz, H4⟩⟩
  iapply (run c (grid0.coords t) _ _ _ _ _ _ _ _ _ _ (iblk m c 0 t) (iblk m c 1 t) x y z _)
  isplitl [H0]; · iexact H0
  isplitl [H1]; · iexact H1
  isplitl [H2]; · iexact H2
  isplitl [H3]; · iexact H3
  isplitl [H4]; · iexact H4
  iintro ⟨H0, H1, H2, ⟨%y', %hy', H3⟩, ⟨%z', %hz', H4⟩⟩
  isplitl [HP]; · iexact HP
  isplitl [Ho]; · iexact Ho
  isplitl [H0]; · iexact H0
  isplitl [H1]; · iexact H1
  isplitl [H2]
  · iexists _; isplitr; swap; · iexact H2
    ipureintro
    show LeftR m c t _
    exact rfl
  isplitl [H3]
  · iexists y'; isplitr
    · ipureintro
      show LeftK m c t y'
      exact left_k m c t y y' hy hy'
    iexact H3
  iexists z'; isplitr
  · ipureintro
    show LeftV m c t z'
    exact left_v m c t z z' hz hz'
  iexact H4

theorem body_obligation (c : Dev nD) : BodyObligationRel (dat (F := F) m c) (defs₀ (F := F)) Variants.none () Set.univ marked (rel m c) := fun t => by
  rw [bigSep_W0, bigSep_W0, row]
  exact triple_restated (sound m c t) rfl .rfl fun _ => .rfl

/-! ## The launch and the frame -/

set_option backward.isDefEq.respectTransparency.types false in
theorem run_main : θ_run defs (onTc (τ := τ) (main (F := F))) (s₀ m ρ)
    (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dat m c).share_full fun _ => rfl)
    (howed := fun _ _ => rfl) (V := V m) (hmain := hmain m Variants.none) (hA := A_eq m)
    (hin := fun c => .rfl) (hout := fun c => .rfl)

/-- The frame: every argument ends at its launch contents, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(Pipeline.RDat.FramePost.arr_in h.1 c 0 rfl).trans (A_eq m c 0),
     (Pipeline.RDat.FramePost.arr_in h.1 c 1 rfl).trans (A_eq m c 1)⟩, h.2⟩) (run_main m ρ)

end Cert.SideIdeal.Hand

end
-- ==== Proof.SideBits.lean ====
/- The side projection as written, over bits: its text is that of the idealized program, and so is its frame. -/
module

public import proofs.«01_k».proof.Defs
public import proofs.«01_k».proof.Proof.SideRun
public import proofs.«01_k».proof.Proof.Gen.Side
public import proofs.«01_k».proof.Proof.Gen.Side.Launch

@[expose] public section

set_option maxRecDepth 16384

noncomputable section

namespace Cert.SideBits

open Cert.Side Cert.Side.Gen
open Idealize.ShloMosaic Idealize.ShloMosaic.TcCoe Idealize.SL.Sem

/-- The two programs' bodies, body tables and mains are the same. -/
theorem bodies_eq : Cert.Side.defs₀ (F := Bits) = Cert.SideIdeal.defs₀ (F := Bits) := by
  unfold Cert.Side.defs₀ Cert.SideIdeal.defs₀
  refine congrArg Defs.onTc ?_
  funext l args
  match l, args with
  | 0, (t, s) => rfl
  | ⟨n + 1, h⟩, _ => exact absurd h (by omega)

theorem defs_eq : Cert.Side.defs (F := Bits) = Cert.SideIdeal.defs (F := Bits) := congrArg (Pipeline.defs Cert.Side.pcfgs) bodies_eq

set_option maxHeartbeats 2000000 in
theorem main_eq : Cert.Side.main (F := Bits) = Cert.SideIdeal.main (F := Bits) := by
  funext c
  unfold Cert.Side.main Cert.SideIdeal.main
  rfl

variable (m : (ℓ : Loc nD τ sig) → Buf (Elt Bits) ℓ) (ρ : Dev nD → PrngReg)

theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  have h := Cert.SideIdeal.Hand.frame (F := Bits) m ρ
  rw [defs_eq, main_eq]
  exact h

end Cert.SideBits

end
-- ==== Proof.SideClaim.lean ====
/- The side projection: the kernel's three results, tile by tile, and the reference's one product give the same arrays. -/
module

public import proofs.«01_k».proof.Defs
public import proofs.«01_k».proof.Proof.SideRun
public import proofs.«01_k».proof.Proof.Gen.SideRefIdeal.Run
public import proofs.«01_k».proof.Proof.Gen.SideRefIdeal.Read
public import Idealize.ShloMosaic.Lib.Pointwise
public import Idealize.ShloMosaic.Lib.Pipeline.ValueKit.Tiles
public import Idealize.ShloMosaic.Lib.Pipeline.Kit

@[expose] public section

set_option maxRecDepth 16384

noncomputable section

namespace Cert.SideClaim

open Cert.SideIdeal Cert.SideIdeal.Gen Cert.SideIdeal.Hand Idealize.ShloMosaic Idealize.ShloMosaic.TcCoe Idealize.SL.Sem
open Idealize.ShloMosaic.Pipeline (Dat RDat)

/-- The product of the two arrays, at a place. -/
def G (a0 : FVec Ideal S8192x1024 .bf16) (a1 : FVec Ideal S1024x1024 .bf16) (R : Fin 8192) (d : Fin 1024) : EReal :=
  ∑ k : Fin 1024, a0 (ix2 R k) * a1 (ix2 k d)

/-- A context row: position `q` of sequence `b`. -/
def crow (b : Fin 16) (q : Fin 256) : Fin 8192 := ⟨256 * b.val + q.val, by omega⟩
/-- A column of keys or of values: lane `e` of head `h`. -/
def kcol (h : Fin 2) (e : Fin 128) : Fin 1024 := ⟨128 * h.val + e.val, by omega⟩
def vcol (h : Fin 2) (e : Fin 128) : Fin 1024 := ⟨256 + (128 * h.val + e.val), by omega⟩

/-! ## The payloads at a place -/

theorem pay1_at (x0 x1 : Vec Ideal S1024x1024 .bf16) (r d : Fin 1024) : k0_pay1 x0 x1 (ix2 r d) = ∑ k : Fin 1024, x0 (ix2 r k) * x1 (ix2 k d) := by
  pointwise [k0_pay1]

theorem pay2_at (x0 x1 : Vec Ideal S1024x1024 .bf16) (p : Fin 4) (q : Fin 256) (h : Fin 2) (e : Fin 128) :
    k0_pay2 x0 x1 (ix4 p q h e) = k0_pay1 x0 x1 (ix2 (⟨256 * p.val + q.val, by omega⟩ : Fin 1024) (kcol h e)) := by
  unfold k0_pay2
  generalize k0_pay1 x0 x1 = z
  refine (shapeCast_apply _ shapeCasts_S1024x256_S4x256x2x128 _ (ix2 (⟨256 * p.val + q.val, by omega⟩ : Fin 1024) (⟨128 * h.val + e.val, by omega⟩ : Fin 256)) ?_).trans ?_
  · rw [Shape.rowMajor_val_two, Shape.rowMajor_val_four]
    show (256 * p.val + q.val) * 256 + (128 * h.val + e.val) = ((p.val * 256 + q.val) * 2 + h.val) * 128 + e.val
    omega
  · exact extractStridedSlice_apply _ z slices_S1024x1024_o0_0_S1024x256 _ _ fun a => match a with
      | ⟨0, _⟩ => (Nat.zero_add _).symm
      | ⟨1, _⟩ => (Nat.zero_add _).symm

theorem pay3_at (x0 x1 : Vec Ideal S1024x1024 .bf16) (p : Fin 4) (q : Fin 256) (h : Fin 2) (e : Fin 128) :
    k0_pay3 x0 x1 (ix4 p q h e) = k0_pay1 x0 x1 (ix2 (⟨256 * p.val + q.val, by omega⟩ : Fin 1024) (vcol h e)) := by
  unfold k0_pay3
  generalize k0_pay1 x0 x1 = z
  refine (shapeCast_apply _ shapeCasts_S1024x256_S4x256x2x128 _ (ix2 (⟨256 * p.val + q.val, by omega⟩ : Fin 1024) (⟨128 * h.val + e.val, by omega⟩ : Fin 256)) ?_).trans ?_
  · rw [Shape.rowMajor_val_two, Shape.rowMajor_val_four]
    show (256 * p.val + q.val) * 256 + (128 * h.val + e.val) = ((p.val * 256 + q.val) * 2 + h.val) * 128 + e.val
    omega
  · exact extractStridedSlice_apply _ z slices_S1024x1024_o0_256_S1024x256 _ _ fun a => match a with
      | ⟨0, _⟩ => (Nat.zero_add _).symm
      | ⟨1, _⟩ => rfl

/-! ## The blocks a point works on -/

/-- Each window's block index at a grid point. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 4) = min t.val 3 ∧ win0_3.index t (1 : Fin 4) = 0 ∧ win0_3.index t (2 : Fin 4) = 0 ∧ win0_3.index t (3 : Fin 4) = 0)
    ∧ (win0_4.index t (0 : Fin 4) = min t.val 3 ∧ win0_4.index t (1 : Fin 4) = 0 ∧ win0_4.index t (2 : Fin 4) = 0 ∧ win0_4.index t (3 : Fin 4) = 0) :=
  (by decide +kernel : ∀ t : Fin grid0.N, _)

variable (m : (ℓ : Loc nD τ sig) → Buf (Elt Ideal) ℓ) (c : Dev nD)

theorem blk0 (t : Fin cfg0.N) (r j : Fin 1024) (R : Fin 8192) (hR : R.val = 1024 * t.val + r.val) : iblk m c 0 t (ix2 r j) = V m c main_arg0 (ix2 R j) := by
  obtain ⟨e0, e1⟩ := (idx t).1
  refine congrArg (V m c main_arg0) (funext fun a => Fin.ext ?_)
  match a with
  | ⟨0, _⟩ => show win0_0.index t (0 : Fin 2) * 1024 + 1 * r.val = R.val; omega
  | ⟨1, _⟩ => show win0_0.index t (1 : Fin 2) * 1024 + 1 * j.val = j.val; omega

theorem blk1 (t : Fin cfg0.N) (j k : Fin 1024) : iblk m c 1 t (ix2 j k) = V m c main_arg1 (ix2 j k) := by
  obtain ⟨e0, e1⟩ := (idx t).2.1
  refine congrArg (V m c main_arg1) (funext fun a => Fin.ext ?_)
  match a with
  | ⟨0, _⟩ => show win0_1.index t (0 : Fin 2) * 1024 + 1 * j.val = j.val; omega
  | ⟨1, _⟩ => show win0_1.index t (1 : Fin 2) * 1024 + 1 * k.val = k.val; omega

/-- A point's product at a place of its block, from the argument arrays. -/
theorem point_at (t : Fin cfg0.N) (r d : Fin 1024) (R : Fin 8192) (hR : R.val = 1024 * t.val + r.val) :
    k0_pay1 (iblk m c 0 t) (iblk m c 1 t) (ix2 r d) = G (V m c main_arg0) (V m c main_arg1) R d :=
  (pay1_at _ _ r d).trans (Finset.sum_congr rfl fun k _ => congr (congrArg HMul.hMul (blk0 m c t r k R hR)) (blk1 m c t k d))

/-! ## The result arrays after the run -/

theorem apart2 : ∀ t t' : Fin cfg0.N, (cfg0.win 2).flush t = true → (cfg0.win 2).flush t' = true → t ≠ t' →
    Disjoint ((cfg0.win 2).blk t).view.set ((cfg0.win 2).blk t').view.set :=
  Pipeline.Window.hdisj_of_index_inj _ fun t t' _ _ e => by
    have e0 : win0_2.index t (0 : Fin 2) = win0_2.index t' (0 : Fin 2) := congrFun e (0 : Fin 2)
    rw [(idx t).2.2.1.1, (idx t').2.2.1.1] at e0
    exact Fin.ext e0

theorem apart3 : ∀ t t' : Fin cfg0.N, (cfg0.win 3).flush t = true → (cfg0.win 3).flush t' = true → t ≠ t' →
    Disjoint ((cfg0.win 3).blk t).view.set ((cfg0.win 3).blk t').view.set :=
  Pipeline.Window.hdisj_of_index_inj _ fun t t' h h' e => by
    have e0 : win0_3.index t (0 : Fin 4) = win0_3.index t' (0 : Fin 4) := congrFun e (0 : Fin 4)
    rw [(idx t).2.2.2.1.1, (idx t').2.2.2.1.1] at e0
    rw [flush0_3] at h h'
    exact Fin.ext (by omega)

theorem apart4 : ∀ t t' : Fin cfg0.N, (cfg0.win 4).flush t = true → (cfg0.win 4).flush t' = true → t ≠ t' →
    Disjoint ((cfg0.win 4).blk t).view.set ((cfg0.win 4).blk t').view.set :=
  Pipeline.Window.hdisj_of_index_inj _ fun t t' h h' e => by
    have e0 : win0_4.index t (0 : Fin 4) = win0_4.index t' (0 : Fin 4) := congrFun e (0 : Fin 4)
    rw [(idx t).2.2.2.2.1, (idx t').2.2.2.2.1] at e0
    rw [flush0_4] at h h'
    exact Fin.ext (by omega)

theorem emb2 (t : Fin cfg0.N) (r d : Fin 1024) (R : Fin 8192) (hR : R.val = 1024 * t.val + r.val) : ((cfg0.win 2).blk t).view.emb (ix2 r d) = ix2 R d := by
  obtain ⟨e0, e1⟩ := (idx t).2.2.1
  funext a
  apply Fin.ext
  match a with
  | ⟨0, _⟩ => show win0_2.index t (0 : Fin 2) * 1024 + 1 * r.val = R.val; omega
  | ⟨1, _⟩ => show win0_2.index t (1 : Fin 2) * 1024 + 1 * d.val = d.val; omega

theorem emb3 (t : Fin cfg0.N) (p : Fin 4) (q : Fin 256) (h : Fin 2) (e : Fin 128) (b : Fin 16) (hb : b.val = 4 * (cap t).val + p.val) :
    ((cfg0.win 3).blk t).view.emb (ix4 p q h e) = ix4 b q h e := by
  obtain ⟨e0, e1, e2, e3⟩ := (idx t).2.2.2.1
  have hb : b.val = 4 * min t.val 3 + p.val := hb
  funext a
  apply Fin.ext
  match a with
  | ⟨0, _⟩ => show win0_3.index t (0 : Fin 4) * 4 + 1 * p.val = b.val; omega
  | ⟨1, _⟩ => show win0_3.index t (1 : Fin 4) * 256 + 1 * q.val = q.val; omega
  | ⟨2, _⟩ => show win0_3.index t (2 : Fin 4) * 2 + 1 * h.val = h.val; omega
  | ⟨3, _⟩ => show win0_3.index t (3 : Fin 4) * 128 + 1 * e.val = e.val; omega

theorem emb4 (t : Fin cfg0.N) (p : Fin 4) (q : Fin 256) (h : Fin 2) (e : Fin 128) (b : Fin 16) (hb : b.val = 4 * (cap t).val + p.val) :
    ((cfg0.win 4).blk t).view.emb (ix4 p q h e) = ix4 b q h e := by
  obtain ⟨e0, e1, e2, e3⟩ := (idx t).2.2.2.2
  have hb : b.val = 4 * min t.val 3 + p.val := hb
  funext a
  apply Fin.ext
  match a with
  | ⟨0, _⟩ => show win0_4.index t (0 : Fin 4) * 4 + 1 * p.val = b.val; omega
  | ⟨1, _⟩ => show win0_4.index t (1 : Fin 4) * 256 + 1 * q.val = q.val; omega
  | ⟨2, _⟩ => show win0_4.index t (2 : Fin 4) * 2 + 1 * h.val = h.val; omega
  | ⟨3, _⟩ => show win0_4.index t (3 : Fin 4) * 128 + 1 * e.val = e.val; omega

/-- The point that writes back a sequence's keys and values: its tile's, and for the last tile the grid's last. -/
theorem writer (b : Fin 16) : ∃ (t : Fin cfg0.N) (p : Fin 4), (t.val < 3 ∨ t.val = 7) ∧ b.val = 4 * (cap t).val + p.val := by
  by_cases h : b.val < 12
  · refine ⟨⟨b.val / 4, by show b.val / 4 < 8; omega⟩, ⟨b.val % 4, by omega⟩, .inl (by show b.val / 4 < 3; omega), ?_⟩
    show b.val = 4 * min (b.val / 4) 3 + b.val % 4
    omega
  · refine ⟨⟨7, by decide⟩, ⟨b.val % 4, by omega⟩, .inr rfl, ?_⟩
    show b.val = 4 * min 7 3 + b.val % 4
    omega

variable (s : PUnit × MemSt nD τ sig (Elt Ideal)) (hs : RDat.FramePost cfg0 (rdat m) (V m) s)

include hs in
theorem r_at (R : Fin 8192) (d : Fin 1024) : s.2.mem ((c.tc : Thread nD τ).loc main_v0_0) (ix2 R d) = G (V m c main_arg0) (V m c main_arg1) R d := by
  obtain ⟨after, hL, hA⟩ := hs.exists_exact c
  obtain ⟨t, r, hR⟩ : ∃ (t : Fin cfg0.N) (r : Fin 1024), R.val = 1024 * t.val + r.val :=
    ⟨⟨R.val / 1024, by show R.val / 1024 < 8; omega⟩, ⟨R.val % 1024, by omega⟩, by show R.val = 1024 * (R.val / 1024) + R.val % 1024; omega⟩
  have hX : LeftR m c t (after 2 t) := (dat m c).toRRel_leaves (fgt := marked) (Rl := rel m c) rfl (hL 2 _ (flush0_2 t))
  refine (congrFun (hA 2) (ix2 R d)).trans ?_
  rw [← emb2 t r d R hR]
  refine (Dat.arrAt_emb_eq_flushed _ 2 apart2 _ (flush0_2 t) (ix2 r d)).trans ?_
  exact (congrFun hX (ix2 r d)).trans (point_at m c t r d R hR)

include hs in
theorem k_at (b : Fin 16) (q : Fin 256) (h : Fin 2) (e : Fin 128) :
    s.2.mem ((c.tc : Thread nD τ).loc main_v0_1) (ix4 b q h e) = G (V m c main_arg0) (V m c main_arg1) (crow b q) (kcol h e) := by
  obtain ⟨after, hL, hA⟩ := hs.exists_exact c
  obtain ⟨t, p, ht, hb⟩ := writer b
  have hf : (cfg0.win 3).flush t = true := (flush0_3 t).2 ht
  have hX : LeftK m c t (after 3 t) := (dat m c).toRRel_leaves (fgt := marked) (Rl := rel m c) rfl (hL 3 _ hf)
  refine (congrFun (hA 3) (ix4 b q h e)).trans ?_
  rw [← emb3 t p q h e b hb]
  refine (Dat.arrAt_emb_eq_flushed _ 3 apart3 _ hf (ix4 p q h e)).trans ?_
  refine (congrFun hX (ix4 p q h e)).trans ((pay2_at _ _ p q h e).trans (point_at m c (cap t) _ _ (crow b q) ?_))
  show 256 * b.val + q.val = 1024 * (cap t).val + (256 * p.val + q.val)
  omega

include hs in
theorem v_at (b : Fin 16) (q : Fin 256) (h : Fin 2) (e : Fin 128) :
    s.2.mem ((c.tc : Thread nD τ).loc main_v0_2) (ix4 b q h e) = G (V m c main_arg0) (V m c main_arg1) (crow b q) (vcol h e) := by
  obtain ⟨after, hL, hA⟩ := hs.exists_exact c
  obtain ⟨t, p, ht, hb⟩ := writer b
  have hf : (cfg0.win 4).flush t = true := (flush0_4 t).2 ht
  have hX : LeftV m c t (after 4 t) := (dat m c).toRRel_leaves (fgt := marked) (Rl := rel m c) rfl (hL 4 _ hf)
  refine (congrFun (hA 4) (ix4 b q h e)).trans ?_
  rw [← emb4 t p q h e b hb]
  refine (Dat.arrAt_emb_eq_flushed _ 4 apart4 _ hf (ix4 p q h e)).trans ?_
  refine (congrFun hX (ix4 p q h e)).trans ((pay3_at _ _ p q h e).trans (point_at m c (cap t) _ _ (crow b q) ?_))
  show 256 * b.val + q.val = 1024 * (cap t).val + (256 * p.val + q.val)
  omega

/-! ## The reference's results -/

section
open Cert.SideRefIdeal.Read

theorem ref_r (a0 : FVec Ideal S8192x1024 .bf16) (a1 : FVec Ideal S1024x1024 .bf16) (R : Fin 8192) (d : Fin 1024) (i : S8192x1024.Idx) (h0 : (i 0).val = R.val) (h1 : (i 1).val = d.val) :
    val_main_v2 (F := Ideal) a0 a1 i = G a0 a1 R d := by
  refine (val_main_v2_apply a0 a1 i).trans (Finset.sum_congr rfl fun k _ => congr (congrArg HMul.hMul (congrArg a0 ?_)) (congrArg a1 ?_))
  · exact funext fun a => Fin.ext (match a with | ⟨0, _⟩ => h0 | ⟨1, _⟩ => rfl)
  · exact funext fun a => Fin.ext (match a with | ⟨0, _⟩ => rfl | ⟨1, _⟩ => h1)

theorem ref_k (a0 : FVec Ideal S8192x1024 .bf16) (a1 : FVec Ideal S1024x1024 .bf16) (b : Fin 16) (q : Fin 256) (h : Fin 2) (e : Fin 128) :
    val_main_v4 (F := Ideal) a0 a1 (ix4 b q h e) = G a0 a1 (crow b q) (kcol h e) := by
  rw [val_main_v4_apply, val_main_v3_apply]
  refine ref_r a0 a1 _ _ _ ?_ ?_
  · show (((b.val * 256 + q.val) * 2 + h.val) * 128 + e.val) / 256 = 256 * b.val + q.val; omega
  · show (((b.val * 256 + q.val) * 2 + h.val) * 128 + e.val) % 256 = 128 * h.val + e.val; omega

theorem ref_v (a0 : FVec Ideal S8192x1024 .bf16) (a1 : FVec Ideal S1024x1024 .bf16) (b : Fin 16) (q : Fin 256) (h : Fin 2) (e : Fin 128) :
    val_main_v6 (F := Ideal) a0 a1 (ix4 b q h e) = G a0 a1 (crow b q) (vcol h e) := by
  rw [val_main_v6_apply, val_main_v5_apply]
  refine ref_r a0 a1 _ _ _ ?_ ?_
  · show (((b.val * 256 + q.val) * 2 + h.val) * 128 + e.val) / 256 = 256 * b.val + q.val; omega
  · show 256 + (((b.val * 256 + q.val) * 2 + h.val) * 128 + e.val) % 256 = 256 + (128 * h.val + e.val); omega

end

/-! ## The claim -/

theorem algebraic [hk : Cert.SideIdeal.Facts] [hr : Cert.SideRefIdeal.Facts] : Cert.algebraic_SideIdeal_SideRefIdeal := by
  intro m g m' g' hpre hargs
  refine ⟨fun c => Cert.SideRefIdeal.Read.val_main_v2 (F := Ideal) (V m c main_arg0) (V m c main_arg1),
    fun c => Cert.SideRefIdeal.Read.val_main_v4 (F := Ideal) (V m c main_arg0) (V m c main_arg1),
    fun c => Cert.SideRefIdeal.Read.val_main_v6 (F := Ideal) (V m c main_arg0) (V m c main_arg1), ?_, ?_⟩
  · refine (θ_run _ _ _).mono (fun s hs c => ⟨funext fun y => ?_, funext fun y => ?_, funext fun y => ?_,
      (RDat.FramePost.arr_in hs.1 c 0 rfl).trans (A_eq m c 0),
      (RDat.FramePost.arr_in hs.1 c 1 rfl).trans (A_eq m c 1)⟩) (run_main m g)
    · obtain ⟨R, d, rfl⟩ : ∃ (R : Fin 8192) (d : Fin 1024), y = ix2 R d := ⟨y 0, y 1, (ix2_eta y).symm⟩
      exact (r_at m c s hs.1 R d).trans (ref_r _ _ R d _ rfl rfl).symm
    · obtain ⟨b, q, h, e, rfl⟩ : ∃ (b : Fin 16) (q : Fin 256) (h : Fin 2) (e : Fin 128), y = ix4 b q h e := ⟨y 0, y 1, y 2, y 3, eq_ix4 y⟩
      exact (k_at m c s hs.1 b q h e).trans (ref_k _ _ b q h e).symm
    · obtain ⟨b, q, h, e, rfl⟩ : ∃ (b : Fin 16) (q : Fin 256) (h : Fin 2) (e : Fin 128), y = ix4 b q h e := ⟨y 0, y 1, y 2, y 3, eq_ix4 y⟩
      exact (v_at m c s hs.1 b q h e).trans (ref_v _ _ b q h e).symm
  · refine (θ_run _ _ _).mono (fun s hs c => ⟨(hs c).1.trans ?_, (hs c).2.1.trans ?_, (hs c).2.2.1.trans ?_, (hs c).2.2.2⟩) (Cert.SideRefIdeal.Value.run m' g')
    all_goals obtain ⟨e0, e1⟩ := hargs c
    · rw [Cert.SideRefIdeal.Read.val_main_v2_eq, e0, e1]
    · rw [Cert.SideRefIdeal.Read.val_main_v4_eq, e0, e1]
    · rw [Cert.SideRefIdeal.Read.val_main_v6_eq, e0, e1]

end Cert.SideClaim

end
-- ==== Proof.lean ====
/- The claims about the input projection, the context attention, the grouped experts, the dense feed-forward, the mixing with and without the router and the side projection, put together. -/
module

public import proofs.«01_k».proof.Defs
public import proofs.«01_k».proof.Proof.Gen.Ctx
public import proofs.«01_k».proof.Proof.Gen.Ctx.Frame
public import proofs.«01_k».proof.Proof.Gen.CtxIdeal
public import proofs.«01_k».proof.Proof.Gen.CtxIdeal.Frame
public import proofs.«01_k».proof.Proof.Gen.CtxIdeal.Value
public import proofs.«01_k».proof.Proof.Gen.CtxRefIdeal
public import proofs.«01_k».proof.Proof.Gen.CtxRefIdeal.Run
public import proofs.«01_k».proof.Proof.Gen.CtxRefIdeal.Read
public import proofs.«01_k».proof.Proof.CtxClaim
public import proofs.«01_k».proof.Proof.InProj
public import proofs.«01_k».proof.Proof.MoeBits
public import proofs.«01_k».proof.Proof.MoeClaim
public import proofs.«01_k».proof.Proof.FfnBits
public import proofs.«01_k».proof.Proof.FfnClaim
public import proofs.«01_k».proof.Proof.Gen.InProj
public import proofs.«01_k».proof.Proof.Gen.InProj.Frame
public import proofs.«01_k».proof.Proof.Gen.InProjIdeal
public import proofs.«01_k».proof.Proof.Gen.InProjIdeal.Value
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Moe
public import proofs.«01_k».proof.Proof.Gen.MoeIdeal
public import proofs.«01_k».proof.Proof.Gen.Moe.Launch
public import proofs.«01_k».proof.Proof.Gen.Moe.Skeleton
public import proofs.«01_k».proof.Proof.Gen.MoeIdeal.Launch
public import proofs.«01_k».proof.Proof.Gen.MoeIdeal.Skeleton
public import proofs.«01_k».proof.Proof.Gen.MoeRefIdeal
public import proofs.«01_k».proof.Proof.Gen.MoeRefIdeal.Run
public import proofs.«01_k».proof.Proof.Gen.MoeRefIdeal.Read
public import proofs.«01_k».proof.Proof.Gen.Ffn
public import proofs.«01_k».proof.Proof.Gen.FfnIdeal
public import proofs.«01_k».proof.Proof.Gen.Ffn.Launch
public import proofs.«01_k».proof.Proof.Gen.Ffn.Skeleton
public import proofs.«01_k».proof.Proof.Gen.Ffn.Points
public import proofs.«01_k».proof.Proof.Gen.FfnIdeal.Launch
public import proofs.«01_k».proof.Proof.Gen.FfnIdeal.Skeleton
public import proofs.«01_k».proof.Proof.Gen.FfnIdeal.Points
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Mix
public import proofs.«01_k».proof.Proof.Gen.Mix.Launch
public import proofs.«01_k».proof.Proof.Gen.Mix.Skeleton
public import proofs.«01_k».proof.Proof.Gen.Mix.Points
public import proofs.«01_k».proof.Proof.Gen.Mix.Value
public import proofs.«01_k».proof.Proof.Gen.Mix.Frame
public import proofs.«01_k».proof.Proof.Gen.MixIdeal
public import proofs.«01_k».proof.Proof.Gen.MixIdeal.Launch
public import proofs.«01_k».proof.Proof.Gen.MixIdeal.Skeleton
public import proofs.«01_k».proof.Proof.Gen.MixIdeal.Points
public import proofs.«01_k».proof.Proof.Gen.MixIdeal.Value
public import proofs.«01_k».proof.Proof.Gen.MixIdeal.Frame
public import proofs.«01_k».proof.Proof.Gen.MixRefIdeal
public import proofs.«01_k».proof.Proof.Gen.MixRefIdeal.Run
public import proofs.«01_k».proof.Proof.Gen.MixRefIdeal.Read
public import proofs.«01_k».proof.Proof.MixClaim
public import proofs.«01_k».proof.Proof.RouteClaim
public import proofs.«01_k».proof.Proof.SideBits
public import proofs.«01_k».proof.Proof.SideClaim
public import proofs.«01_k».proof.Proof.Gen.Side
public import proofs.«01_k».proof.Proof.Gen.Side.Launch
public import proofs.«01_k».proof.Proof.Gen.Side.Skeleton
public import proofs.«01_k».proof.Proof.Gen.Side.Points
public import proofs.«01_k».proof.Proof.Gen.SideIdeal
public import proofs.«01_k».proof.Proof.Gen.SideIdeal.Launch
public import proofs.«01_k».proof.Proof.Gen.SideIdeal.Skeleton
public import proofs.«01_k».proof.Proof.Gen.SideIdeal.Points
public import proofs.«01_k».proof.Proof.Gen.SideRefIdeal
public import proofs.«01_k».proof.Proof.Gen.SideRefIdeal.Run
public import proofs.«01_k».proof.Proof.Gen.SideRefIdeal.Read
public import proofs.«01_k».proof.Proof.Gen.MixRoute
public import proofs.«01_k».proof.Proof.Gen.MixRoute.Launch
public import proofs.«01_k».proof.Proof.Gen.MixRoute.Skeleton
public import proofs.«01_k».proof.Proof.Gen.MixRoute.Points
public import proofs.«01_k».proof.Proof.Gen.MixRoute.Value
public import proofs.«01_k».proof.Proof.Gen.MixRoute.Frame
public import proofs.«01_k».proof.Proof.Gen.MixRouteIdeal
public import proofs.«01_k».proof.Proof.Gen.MixRouteIdeal.Launch
public import proofs.«01_k».proof.Proof.Gen.MixRouteIdeal.Skeleton
public import proofs.«01_k».proof.Proof.Gen.MixRouteIdeal.Points
public import proofs.«01_k».proof.Proof.Gen.MixRouteIdeal.Value
public import proofs.«01_k».proof.Proof.Gen.MixRouteIdeal.Frame
public import proofs.«01_k».proof.Proof.Gen.MixRouteRefIdeal
public import proofs.«01_k».proof.Proof.Gen.MixRouteRefIdeal.Run
public import proofs.«01_k».proof.Proof.Gen.MixRouteRefIdeal.Read
public import Idealize.ShloMosaic.Adequacy
public import Idealize.ShloMosaic.Init

@[expose] public section

noncomputable section

namespace Cert.Proof

open Idealize.ShloMosaic Idealize.SL.Sem

/-- The context attention's reference keeps its arguments; it declares no semaphore. -/
theorem frame_ctxRef : Cert.quiescent_CtxRefIdeal := fun m ρ _ =>
  (θ_run Cert.CtxRefIdeal.defs _ _).mono (fun r h => ⟨fun c => (h c).2, sem_eq_zero_of_no_sems (by decide) r.2⟩)
    (Cert.CtxRefIdeal.Value.run (F := Ideal) m ρ)

/-- The input projection's reference likewise. -/
theorem frame_inProjRef : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

theorem frame_moeRef : Cert.quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

theorem frame_ffnRef : Cert.quiescent_FfnRefIdeal := fun m ρ _ =>
  (θ_run Cert.FfnRefIdeal.defs _ _).mono (fun r h => ⟨fun c => (h c).2.2, sem_eq_zero_of_no_sems (by decide) r.2⟩)
    (Cert.FfnRefIdeal.Value.run (F := Ideal) m ρ)

theorem frame_mixRef : Cert.quiescent_MixRefIdeal := fun m ρ _ =>
  (θ_run Cert.MixRefIdeal.defs _ _).mono (fun r h => ⟨fun c => (h c).2.2, sem_eq_zero_of_no_sems (by decide) r.2⟩)
    (Cert.MixRefIdeal.Value.run (F := Ideal) m ρ)

theorem frame_sideRef : Cert.quiescent_SideRefIdeal := fun m ρ _ =>
  (θ_run Cert.SideRefIdeal.defs _ _).mono (fun r h => ⟨fun c => (h c).2.2.2, sem_eq_zero_of_no_sems (by decide) r.2⟩)
    (Cert.SideRefIdeal.Value.run (F := Ideal) m ρ)

theorem frame_mixRouteRef : Cert.quiescent_MixRouteRefIdeal := fun m ρ _ =>
  (θ_run Cert.MixRouteRefIdeal.defs _ _).mono (fun r h => ⟨fun c => (h c).2.2, sem_eq_zero_of_no_sems (by decide) r.2⟩)
    (Cert.MixRouteRefIdeal.Value.run (F := Ideal) m ρ)

theorem claim : Cert.Claim :=
  ⟨Cert.Ctx.Gen.facts, Cert.CtxIdeal.Gen.facts, Cert.CtxRefIdeal.Gen.facts, Cert.InProj.Gen.facts, Cert.InProjIdeal.Gen.facts,
    Cert.InProjRefIdeal.Gen.facts, Cert.Moe.Gen.facts, Cert.MoeIdeal.Gen.facts, Cert.MoeRefIdeal.Gen.facts,
    Cert.Ffn.Gen.facts, Cert.FfnIdeal.Gen.facts, Cert.FfnRefIdeal.Gen.facts,
    Cert.Mix.Gen.facts, Cert.MixIdeal.Gen.facts, Cert.MixRefIdeal.Gen.facts,
    Cert.Side.Gen.facts, Cert.SideIdeal.Gen.facts, Cert.SideRefIdeal.Gen.facts,
    Cert.MixRoute.Gen.facts, Cert.MixRouteIdeal.Gen.facts, Cert.MixRouteRefIdeal.Gen.facts,
    Cert.CtxPre.facts, Cert.MoePre.pre_facts, Cert.MoePre.on_facts,
    fun m ρ _ => Cert.Ctx.Gen.frame m ρ, fun m ρ _ => Cert.CtxIdeal.Gen.frame m ρ,
    fun m ρ _ => Cert.CtxIdeal.Gen.frame m ρ, frame_ctxRef, fun m ρ _ => frame_ctxRef m ρ trivial,
    fun m ρ _ => Cert.InProj.Gen.frame m ρ, fun m ρ _ => Cert.InProjIdeal.Gen.frame m ρ, frame_inProjRef,
    fun m ρ h => Cert.MoeBits.frame m ρ h,
    fun m ρ h => Cert.MoeIdeal.Hand.frame m ρ (Cert.MoePre.ok _ (Cert.MoePre.inRange _ _ _ _ _ _ _ (h 0))),
    frame_moeRef, fun m ρ _ => frame_moeRef m ρ trivial,
    fun m ρ _ => Cert.FfnBits.frame m ρ, fun m ρ _ => Cert.FfnIdeal.Hand.frame m ρ, frame_ffnRef,
    fun m ρ _ => Cert.Mix.Gen.frame m ρ, fun m ρ _ => Cert.MixIdeal.Gen.frame m ρ, frame_mixRef,
    fun m ρ _ => Cert.SideBits.frame m ρ, fun m ρ _ => Cert.SideIdeal.Hand.frame m ρ, frame_sideRef,
    fun m ρ _ => Cert.MixRoute.Gen.frame m ρ, fun m ρ _ => Cert.MixRouteIdeal.Gen.frame m ρ, frame_mixRouteRef,
    trivial, Cert.CtxClaim.algebraic, trivial, Cert.InProjClaim.algebraic, trivial, Cert.MoeClaim.algebraic, trivial, Cert.FfnClaim.algebraic,
    trivial, Cert.MixClaim.algebraic,
    trivial, Cert.SideClaim.algebraic,
    trivial, Cert.RouteClaim.algebraic⟩

end Cert.Proof

end
